-- ==== Defs.lean ====
def Pre_Kernel [hPre_balanced_Kernel : Cert.Pre_balanced_Kernel.Facts] (m : (ℓ : Loc Cert.Kernel.nD Cert.Kernel.τ Cert.Kernel.sig) → Buf (Elt Bits) ℓ) : Prop :=
  ∀ c : Dev Cert.Kernel.nD,
    (Cert.Pre_balanced_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_balanced_Kernel : Cert.Pre_balanced_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_balanced_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_balanced_ReferenceIdeal [hPre_balanced_ReferenceIdeal : Cert.Pre_balanced_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_balanced_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_balanced_Kernel : Cert.Pre_balanced_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_balanced_Kernel : Cert.Pre_balanced_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_balanced_ReferenceIdeal [hReferenceIdeal : Cert.ReferenceIdeal.Facts] [hPre_balanced_ReferenceIdeal : Cert.Pre_balanced_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_balanced_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_balanced_Kernel : Cert.Pre_balanced_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![8192, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨1, ![2048]⟩ ⟨1, ![8192]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93) = Layout.block ⟨2, ![2048, 1024]⟩ ⟨2, ![8192, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_balanced_Kernel : Cert.Pre_balanced_Kernel.Facts) (hPre_balanced_ReferenceIdeal : Cert.Pre_balanced_ReferenceIdeal.Facts),
    quiescent_Kernel (hKernel := hKernel) (hPre_balanced_Kernel := hPre_balanced_Kernel)
    ∧ quiescent_KernelIdeal (hKernelIdeal := hKernelIdeal) (hPre_balanced_Kernel := hPre_balanced_Kernel)
    ∧ quiescent_ReferenceIdeal (hReferenceIdeal := hReferenceIdeal)
    ∧ quiescent_ReferenceIdeal_pre_balanced_ReferenceIdeal (hReferenceIdeal := hReferenceIdeal) (hPre_balanced_ReferenceIdeal := hPre_balanced_ReferenceIdeal)
    ∧ preserves_Kernel_KernelIdeal
    ∧ algebraic_KernelIdeal_ReferenceIdeal (hKernelIdeal := hKernelIdeal) (hReferenceIdeal := hReferenceIdeal) (hPre_balanced_Kernel := hPre_balanced_Kernel)
-- ==== Pre_balanced_Kernel.lean ====
abbrev S2048x1024 : Shape := ⟨2, ![2048, 1024]⟩
abbrev S2048 : Shape := ⟨1, ![2048]⟩
abbrev S2048x1 : Shape := ⟨2, ![2048, 1]⟩
abbrev S4 : Shape := ⟨1, ![4]⟩
abbrev S1x4 : Shape := ⟨2, ![1, 4]⟩
abbrev S2048x4 : Shape := ⟨2, ![2048, 4]⟩
abbrev S_ : Shape := ⟨0, ![]⟩

class Facts : Prop where
  bcast_S2048_S2048x1_0 : S2048.BroadcastsInDim S2048x1 (![0] : Fin 1 → Fin S2048x1.rank)
  bcast_S4_S1x4_1 : S4.BroadcastsInDim S1x4 (![1] : Fin 1 → Fin S1x4.rank)
  bcast_S2048x1_S2048x4_0_1 : S2048x1.BroadcastsInDim S2048x4 (![0, 1] : Fin 2 → Fin S2048x4.rank)
  bcast_S1x4_S2048x4_0_1 : S1x4.BroadcastsInDim S2048x4 (![0, 1] : Fin 2 → Fin S2048x4.rank)
  natLt_1_32 : 1 < 32
  reducesTo_S2048x4_S4_d0 : S2048x4.ReducesTo [0] S4
  h_S_ : 0 < S_.numel
  bcast_S_S4 : S_.BroadcastsInDim S4 (![] : Fin 0 → Fin S4.rank)
  reducesTo_S4_S_d0 : S4.ReducesTo [0] S_

variable [Facts]

def fn {F : FTy → Type} [FloatOps F] (main_arg0 : FVec F S2048x1024 .bf16) (main_arg1 : IVec S2048 32) : IVec S_ 1 :=
  let main_v0 : IVec S2048x1 32 := broadcastInDim S2048x1 ![0] bcast_S2048_S2048x1_0 main_arg1
  let main_v1 : IVec S4 32 := iotaInDim S4 32 0
  let main_v2 : IVec S1x4 32 := broadcastInDim S1x4 ![1] bcast_S4_S1x4_1 main_v1
  let main_v3 : IVec S2048x4 32 := broadcastInDim S2048x4 ![0, 1] bcast_S2048x1_S2048x4_0_1 main_v0
  let main_v4 : IVec S2048x4 32 := broadcastInDim S2048x4 ![0, 1] bcast_S1x4_S2048x4_0_1 main_v2
  let main_v5 : IVec S2048x4 1 := cmpi .eq main_v3 main_v4
  let main_v6 : IVec S2048x4 32 := (extui 32 · natLt_1_32) main_v5
  let main_c : IVec S_ 32 := constantI S_ 32 0#32
  let main_v7 : IVec S4 32 := (fun x v => Host.reduce IntOp.addi x v reducesTo_S2048x4_S4_d0 h_S_) main_v6 main_c
  let main_c_0 : IVec S_ 32 := constantI S_ 32 512#32
  let main_v8 : IVec S4 32 := broadcastInDim S4 ![] bcast_S_S4 main_c_0
  let main_v9 : IVec S4 1 := cmpi .eq main_v7 main_v8
  let main_c_1 : IVec S_ 1 := constantI S_ 1 1#1
  let main_v10 : IVec S_ 1 := (fun x v => Host.reduce IntOp.andi x v reducesTo_S4_S_d0 h_S_) main_v9 main_c_1
  main_v10
-- ==== Pre_balanced_ReferenceIdeal.lean ====
abbrev S8192x1024 : Shape := ⟨2, ![8192, 1024]⟩
abbrev S8192 : Shape := ⟨1, ![8192]⟩
abbrev S8192x1 : Shape := ⟨2, ![8192, 1]⟩
abbrev S4 : Shape := ⟨1, ![4]⟩
abbrev S1x4 : Shape := ⟨2, ![1, 4]⟩
abbrev S8192x4 : Shape := ⟨2, ![8192, 4]⟩
abbrev S_ : Shape := ⟨0, ![]⟩

class Facts : Prop where
  bcast_S8192_S8192x1_0 : S8192.BroadcastsInDim S8192x1 (![0] : Fin 1 → Fin S8192x1.rank)
  bcast_S4_S1x4_1 : S4.BroadcastsInDim S1x4 (![1] : Fin 1 → Fin S1x4.rank)
  bcast_S8192x1_S8192x4_0_1 : S8192x1.BroadcastsInDim S8192x4 (![0, 1] : Fin 2 → Fin S8192x4.rank)
  bcast_S1x4_S8192x4_0_1 : S1x4.BroadcastsInDim S8192x4 (![0, 1] : Fin 2 → Fin S8192x4.rank)
  natLt_1_32 : 1 < 32
  reducesTo_S8192x4_S4_d0 : S8192x4.ReducesTo [0] S4
  h_S_ : 0 < S_.numel
  bcast_S_S4 : S_.BroadcastsInDim S4 (![] : Fin 0 → Fin S4.rank)
  reducesTo_S4_S_d0 : S4.ReducesTo [0] S_

variable [Facts]

def fn {F : FTy → Type} [FloatOps F] (main_arg0 : FVec F S8192x1024 .bf16) (main_arg1 : IVec S8192 32) : IVec S_ 1 :=
  let main_v0 : IVec S8192x1 32 := broadcastInDim S8192x1 ![0] bcast_S8192_S8192x1_0 main_arg1
  let main_v1 : IVec S4 32 := iotaInDim S4 32 0
  let main_v2 : IVec S1x4 32 := broadcastInDim S1x4 ![1] bcast_S4_S1x4_1 main_v1
  let main_v3 : IVec S8192x4 32 := broadcastInDim S8192x4 ![0, 1] bcast_S8192x1_S8192x4_0_1 main_v0
  let main_v4 : IVec S8192x4 32 := broadcastInDim S8192x4 ![0, 1] bcast_S1x4_S8192x4_0_1 main_v2
  let main_v5 : IVec S8192x4 1 := cmpi .eq main_v3 main_v4
  let main_v6 : IVec S8192x4 32 := (extui 32 · natLt_1_32) main_v5
  let main_c : IVec S_ 32 := constantI S_ 32 0#32
  let main_v7 : IVec S4 32 := (fun x v => Host.reduce IntOp.addi x v reducesTo_S8192x4_S4_d0 h_S_) main_v6 main_c
  let main_c_0 : IVec S_ 32 := constantI S_ 32 512#32
  let main_v8 : IVec S4 32 := broadcastInDim S4 ![] bcast_S_S4 main_c_0
  let main_v9 : IVec S4 1 := cmpi .eq main_v7 main_v8
  let main_c_1 : IVec S_ 1 := constantI S_ 1 1#1
  let main_v10 : IVec S_ 1 := (fun x v => Host.reduce IntOp.andi x v reducesTo_S4_S_d0 h_S_) main_v9 main_c_1
  main_v10
-- ==== Kernel.lean ====
abbrev S2048x1024 : Shape := ⟨2, ![2048, 1024]⟩
abbrev S2048 : Shape := ⟨1, ![2048]⟩
abbrev S2048x1 : Shape := ⟨2, ![2048, 1]⟩
abbrev S4 : Shape := ⟨1, ![4]⟩
abbrev S1x4 : Shape := ⟨2, ![1, 4]⟩
abbrev S2048x4 : Shape := ⟨2, ![2048, 4]⟩
abbrev S_ : Shape := ⟨0, ![]⟩
abbrev S2560 : Shape := ⟨1, ![2560]⟩
abbrev S2560x1 : Shape := ⟨2, ![2560, 1]⟩
abbrev S1 : Shape := ⟨1, ![1]⟩
abbrev S1x1 : Shape := ⟨2, ![1, 1]⟩
abbrev S2560x1024 : Shape := ⟨2, ![2560, 1024]⟩
abbrev S40x64x1024 : Shape := ⟨3, ![40, 64, 1024]⟩
abbrev S8x128 : Shape := ⟨2, ![8, 128]⟩
abbrev S2 : Shape := ⟨1, ![2]⟩
abbrev S4x8x128 : Shape := ⟨3, ![4, 8, 128]⟩
abbrev S1x8x128 : Shape := ⟨3, ![1, 8, 128]⟩
abbrev S4x1x4 : Shape := ⟨3, ![4, 1, 4]⟩
abbrev S4x4 : Shape := ⟨2, ![4, 4]⟩
abbrev S4x1 : Shape := ⟨2, ![4, 1]⟩
abbrev S5 : Shape := ⟨1, ![5]⟩
abbrev S1x64x1024 : Shape := ⟨3, ![1, 64, 1024]⟩
abbrev S64x1024 : Shape := ⟨2, ![64, 1024]⟩

abbrev nBuf : Space → Nat
  | .hbm => 339
  | .vmem => 4
  | .smem => 1
  | _ => 0

abbrev hbmTy0_0 (i : Nat) : BufTy := match i % 128 with
  | 0 => ⟨S2048x1024, .bf16⟩
  | 1 => ⟨S2048, .i32⟩
  | 2 => ⟨S2048, .i32⟩
  | 3 => ⟨S2048, .i32⟩
  | 4 => ⟨S2048, .i32⟩
  | 5 => ⟨S2048x1, .i32⟩
  | 6 => ⟨S4, .i32⟩
  | 7 => ⟨S1x4, .i32⟩
  | 8 => ⟨S2048x4, .i32⟩
  | 9 => ⟨S2048x4, .i32⟩
  | 10 => ⟨S2048x4, .i1⟩
  | 11 => ⟨S2048x4, .i32⟩
  | 12 => ⟨S_, .i32⟩
  | 13 => ⟨S4, .i32⟩
  | 14 => ⟨S_, .i32⟩
  | 15 => ⟨S_, .i32⟩
  | 16 => ⟨S4, .i32⟩
  | 17 => ⟨S4, .i32⟩
  | 18 => ⟨S2560, .i32⟩
  | 19 => ⟨S_, .i32⟩
  | 20 => ⟨S_, .i32⟩
  | 21 => ⟨S2560, .i32⟩
  | 22 => ⟨S2560, .i32⟩
  | 23 => ⟨S2560, .i32⟩
  | 24 => ⟨S_, .i32⟩
  | 25 => ⟨S2560, .i32⟩
  | 26 => ⟨S2560, .i1⟩
  | 27 => ⟨S2560, .i32⟩
  | 28 => ⟨S2560, .i32⟩
  | 29 => ⟨S_, .i32⟩
  | 30 => ⟨S2560, .i32⟩
  | 31 => ⟨S2560, .i1⟩
  | 32 => ⟨S2560, .i1⟩
  | 33 => ⟨S_, .i32⟩
  | 34 => ⟨S2560, .i32⟩
  | 35 => ⟨S2560, .i32⟩
  | 36 => ⟨S2560, .i32⟩
  | 37 => ⟨S_, .i32⟩
  | 38 => ⟨S_, .i32⟩
  | 39 => ⟨S_, .i32⟩
  | 40 => ⟨S_, .i1⟩
  | 41 => ⟨S_, .i32⟩
  | 42 => ⟨S_, .i32⟩
  | 43 => ⟨S2560, .i32⟩
  | 44 => ⟨S2560, .i32⟩
  | 45 => ⟨S_, .i32⟩
  | 46 => ⟨S2560, .i32⟩
  | 47 => ⟨S2560, .i1⟩
  | 48 => ⟨S_, .i32⟩
  | 49 => ⟨S2560, .i32⟩
  | 50 => ⟨S2560, .i1⟩
  | 51 => ⟨S_, .i32⟩
  | 52 => ⟨S_, .i1⟩
  | 53 => ⟨S2560, .i1⟩
  | 54 => ⟨S2560, .i1⟩
  | 55 => ⟨S2560, .i1⟩
  | 56 => ⟨S2560, .i32⟩
  | 57 => ⟨S2560, .i32⟩
  | 58 => ⟨S2560, .i32⟩
  | 59 => ⟨S_, .i32⟩
  | 60 => ⟨S2560, .i32⟩
  | 61 => ⟨S2560, .i1⟩
  | 62 => ⟨S_, .i32⟩
  | 63 => ⟨S2560, .i32⟩
  | 64 => ⟨S2560, .i32⟩
  | 65 => ⟨S2560, .i32⟩
  | 66 => ⟨S2560x1, .i32⟩
  | 67 => ⟨S2560, .i32⟩
  | 68 => ⟨S2560, .i32⟩
  | 69 => ⟨S_, .i32⟩
  | 70 => ⟨S_, .i32⟩
  | 71 => ⟨S_, .i32⟩
  | 72 => ⟨S2560, .i32⟩
  | 73 => ⟨S2560, .i32⟩
  | 74 => ⟨S_, .i32⟩
  | 75 => ⟨S2560, .i32⟩
  | 76 => ⟨S2560, .i32⟩
  | 77 => ⟨S_, .i32⟩
  | 78 => ⟨S2560, .i32⟩
  | 79 => ⟨S2560, .i1⟩
  | 80 => ⟨S_, .i32⟩
  | 81 => ⟨S2560, .i32⟩
  | 82 => ⟨S2560, .i32⟩
  | 83 => ⟨S2560, .i32⟩
  | 84 => ⟨S2560x1, .i32⟩
  | 85 => ⟨S2560, .i32⟩
  | 86 => ⟨S_, .i32⟩
  | 87 => ⟨S2560, .i32⟩
  | 88 => ⟨S2560, .i1⟩
  | 89 => ⟨S_, .i32⟩
  | 90 => ⟨S2560, .i32⟩
  | 91 => ⟨S2560, .i32⟩
  | 92 => ⟨S2560, .i32⟩
  | 93 => ⟨S2560x1, .i32⟩
  | 94 => ⟨S1, .i32⟩
  | 95 => ⟨S_, .i32⟩
  | 96 => ⟨S2560x1, .i32⟩
  | 97 => ⟨S2560x1, .i1⟩
  | 98 => ⟨S1x1, .i32⟩
  | 99 => ⟨S2560x1, .i32⟩
  | 100 => ⟨S2560x1, .i1⟩
  | 101 => ⟨S2560x1, .i1⟩
  | 102 => ⟨S_, .i1⟩
  | 103 => ⟨S2560, .i1⟩
  | 104 => ⟨S2560x1024, .bf16⟩
  | 105 => ⟨S2560x1024, .i1⟩
  | 106 => ⟨S_, .bf16⟩
  | 107 => ⟨S2560x1024, .bf16⟩
  | 108 => ⟨S2560x1024, .bf16⟩
  | 109 => ⟨S40x64x1024, .bf16⟩
  | 110 => ⟨S_, .i32⟩
  | 111 => ⟨S8x128, .i32⟩
  | 112 => ⟨S_, .i32⟩
  | 113 => ⟨S1, .i32⟩
  | 114 => ⟨S_, .i32⟩
  | 115 => ⟨S1, .i32⟩
  | 116 => ⟨S2, .i32⟩
  | 117 => ⟨S8x128, .i32⟩
  | 118 => ⟨S4x8x128, .i32⟩
  | 119 => ⟨S_, .i32⟩
  | 120 => ⟨S_, .i32⟩
  | 121 => ⟨S_, .i32⟩
  | 122 => ⟨S_, .i32⟩
  | 123 => ⟨S_, .i32⟩
  | 124 => ⟨S_, .i32⟩
  | 125 => ⟨S4x1x4, .i32⟩
  | 126 => ⟨S4x4, .i32⟩
  | 127 => ⟨S4, .i32⟩
  | _ => ⟨S2048x1024, .bf16⟩

abbrev hbmTy0_1 (i : Nat) : BufTy := match i % 128 with
  | 0 => ⟨S4, .i32⟩
  | 1 => ⟨S4, .i32⟩
  | 2 => ⟨S_, .i32⟩
  | 3 => ⟨S_, .i32⟩
  | 4 => ⟨S_, .i32⟩
  | 5 => ⟨S_, .i1⟩
  | 6 => ⟨S_, .i32⟩
  | 7 => ⟨S_, .i32⟩
  | 8 => ⟨S4, .i32⟩
  | 9 => ⟨S4, .i32⟩
  | 10 => ⟨S_, .i32⟩
  | 11 => ⟨S4, .i32⟩
  | 12 => ⟨S4, .i1⟩
  | 13 => ⟨S_, .i32⟩
  | 14 => ⟨S4, .i32⟩
  | 15 => ⟨S4, .i1⟩
  | 16 => ⟨S_, .i32⟩
  | 17 => ⟨S_, .i1⟩
  | 18 => ⟨S4, .i1⟩
  | 19 => ⟨S4, .i1⟩
  | 20 => ⟨S4, .i1⟩
  | 21 => ⟨S4, .i32⟩
  | 22 => ⟨S4, .i32⟩
  | 23 => ⟨S4, .i32⟩
  | 24 => ⟨S_, .i32⟩
  | 25 => ⟨S4, .i32⟩
  | 26 => ⟨S4, .i1⟩
  | 27 => ⟨S_, .i32⟩
  | 28 => ⟨S4, .i32⟩
  | 29 => ⟨S4, .i32⟩
  | 30 => ⟨S4, .i32⟩
  | 31 => ⟨S4x1, .i32⟩
  | 32 => ⟨S1, .i32⟩
  | 33 => ⟨S_, .i32⟩
  | 34 => ⟨S4x1, .i32⟩
  | 35 => ⟨S4x1, .i1⟩
  | 36 => ⟨S1x1, .i32⟩
  | 37 => ⟨S4x1, .i32⟩
  | 38 => ⟨S4x1, .i1⟩
  | 39 => ⟨S4x1, .i1⟩
  | 40 => ⟨S_, .i1⟩
  | 41 => ⟨S4, .i1⟩
  | 42 => ⟨S4x4, .i32⟩
  | 43 => ⟨S4x4, .i1⟩
  | 44 => ⟨S_, .i32⟩
  | 45 => ⟨S4x4, .i32⟩
  | 46 => ⟨S4x4, .i32⟩
  | 47 => ⟨S_, .i32⟩
  | 48 => ⟨S4, .i32⟩
  | 49 => ⟨S4, .i32⟩
  | 50 => ⟨S_, .i32⟩
  | 51 => ⟨S4, .i32⟩
  | 52 => ⟨S4, .i32⟩
  | 53 => ⟨S_, .i32⟩
  | 54 => ⟨S_, .i32⟩
  | 55 => ⟨S4, .i32⟩
  | 56 => ⟨S4, .i32⟩
  | 57 => ⟨S4, .i32⟩
  | 58 => ⟨S_, .i32⟩
  | 59 => ⟨S4, .i32⟩
  | 60 => ⟨S4, .i1⟩
  | 61 => ⟨S4, .i32⟩
  | 62 => ⟨S4, .i32⟩
  | 63 => ⟨S_, .i32⟩
  | 64 => ⟨S4, .i32⟩
  | 65 => ⟨S4, .i1⟩
  | 66 => ⟨S4, .i1⟩
  | 67 => ⟨S_, .i32⟩
  | 68 => ⟨S4, .i32⟩
  | 69 => ⟨S4, .i32⟩
  | 70 => ⟨S4, .i32⟩
  | 71 => ⟨S_, .i32⟩
  | 72 => ⟨S_, .i1⟩
  | 73 => ⟨S_, .i32⟩
  | 74 => ⟨S_, .i32⟩
  | 75 => ⟨S_, .i32⟩
  | 76 => ⟨S1, .i32⟩
  | 77 => ⟨S1, .i32⟩
  | 78 => ⟨S_, .i32⟩
  | 79 => ⟨S1, .i32⟩
  | 80 => ⟨S1, .i1⟩
  | 81 => ⟨S1, .i1⟩
  | 82 => ⟨S1, .i1⟩
  | 83 => ⟨S_, .i1⟩
  | 84 => ⟨S_, .i1⟩
  | 85 => ⟨S4, .i32⟩
  | 86 => ⟨S4, .i1⟩
  | 87 => ⟨S_, .i32⟩
  | 88 => ⟨S4, .i32⟩
  | 89 => ⟨S4, .i32⟩
  | 90 => ⟨S_, .i32⟩
  | 91 => ⟨S4, .i32⟩
  | 92 => ⟨S4, .i32⟩
  | 93 => ⟨S_, .i32⟩
  | 94 => ⟨S4, .i32⟩
  | 95 => ⟨S4, .i32⟩
  | 96 => ⟨S_, .i32⟩
  | 97 => ⟨S_, .i32⟩
  | 98 => ⟨S4, .i32⟩
  | 99 => ⟨S4, .i32⟩
  | 100 => ⟨S4, .i32⟩
  | 101 => ⟨S_, .i32⟩
  | 102 => ⟨S4, .i32⟩
  | 103 => ⟨S4, .i1⟩
  | 104 => ⟨S4, .i32⟩
  | 105 => ⟨S4, .i32⟩
  | 106 => ⟨S_, .i32⟩
  | 107 => ⟨S4, .i32⟩
  | 108 => ⟨S4, .i1⟩
  | 109 => ⟨S4, .i1⟩
  | 110 => ⟨S_, .i32⟩
  | 111 => ⟨S4, .i32⟩
  | 112 => ⟨S4, .i32⟩
  | 113 => ⟨S4, .i32⟩
  | 114 => ⟨S_, .i32⟩
  | 115 => ⟨S_, .i32⟩
  | 116 => ⟨S_, .i32⟩
  | 117 => ⟨S_, .i1⟩
  | 118 => ⟨S_, .i32⟩
  | 119 => ⟨S_, .i32⟩
  | 120 => ⟨S_, .i32⟩
  | 121 => ⟨S1, .i32⟩
  | 122 => ⟨S1, .i32⟩
  | 123 => ⟨S_, .i32⟩
  | 124 => ⟨S1, .i32⟩
  | 125 => ⟨S1, .i1⟩
  | 126 => ⟨S1, .i1⟩
  | 127 => ⟨S1, .i1⟩
  | _ => ⟨S2048x1024, .bf16⟩

abbrev hbmTy0_2 (i : Nat) : BufTy := match i % 128 with
  | 0 => ⟨S_, .i1⟩
  | 1 => ⟨S_, .i1⟩
  | 2 => ⟨S_, .i32⟩
  | 3 => ⟨S_, .i32⟩
  | 4 => ⟨S_, .i32⟩
  | 5 => ⟨S_, .i32⟩
  | 6 => ⟨S1, .i32⟩
  | 7 => ⟨S5, .i32⟩
  | 8 => ⟨S40x64x1024, .bf16⟩
  | 9 => ⟨S_, .i32⟩
  | 10 => ⟨S_, .i1⟩
  | 11 => ⟨S_, .i32⟩
  | 12 => ⟨S_, .i32⟩
  | 13 => ⟨S_, .i32⟩
  | 14 => ⟨S1, .i32⟩
  | 15 => ⟨S1, .i32⟩
  | 16 => ⟨S_, .i32⟩
  | 17 => ⟨S1, .i32⟩
  | 18 => ⟨S1, .i1⟩
  | 19 => ⟨S1, .i1⟩
  | 20 => ⟨S1, .i1⟩
  | 21 => ⟨S_, .i1⟩
  | 22 => ⟨S_, .i1⟩
  | 23 => ⟨S4, .i32⟩
  | 24 => ⟨S4, .i1⟩
  | 25 => ⟨S_, .i32⟩
  | 26 => ⟨S4, .i32⟩
  | 27 => ⟨S4, .i32⟩
  | 28 => ⟨S_, .i32⟩
  | 29 => ⟨S_, .i32⟩
  | 30 => ⟨S4, .i32⟩
  | 31 => ⟨S4, .i32⟩
  | 32 => ⟨S2048, .i32⟩
  | 33 => ⟨S1x4, .i32⟩
  | 34 => ⟨S2048x1, .i32⟩
  | 35 => ⟨S2048x4, .i32⟩
  | 36 => ⟨S2048x4, .i32⟩
  | 37 => ⟨S2048x4, .i1⟩
  | 38 => ⟨S2048x4, .i32⟩
  | 39 => ⟨S_, .i32⟩
  | 40 => ⟨S2048, .i32⟩
  | 41 => ⟨S_, .i32⟩
  | 42 => ⟨S2048, .i32⟩
  | 43 => ⟨S2048, .i32⟩
  | 44 => ⟨S_, .i32⟩
  | 45 => ⟨S2048, .i32⟩
  | 46 => ⟨S2048, .i1⟩
  | 47 => ⟨S_, .i32⟩
  | 48 => ⟨S2048, .i32⟩
  | 49 => ⟨S2048, .i32⟩
  | 50 => ⟨S2048, .i32⟩
  | 51 => ⟨S2048x1, .i32⟩
  | 52 => ⟨S2048, .i32⟩
  | 53 => ⟨S2048, .i32⟩
  | 54 => ⟨S2560x1024, .bf16⟩
  | 55 => ⟨S_, .i32⟩
  | 56 => ⟨S2048, .i32⟩
  | 57 => ⟨S2048, .i32⟩
  | 58 => ⟨S2048, .i32⟩
  | 59 => ⟨S_, .i32⟩
  | 60 => ⟨S2048, .i32⟩
  | 61 => ⟨S2048, .i1⟩
  | 62 => ⟨S_, .i32⟩
  | 63 => ⟨S2048, .i32⟩
  | 64 => ⟨S2048, .i32⟩
  | 65 => ⟨S2048, .i32⟩
  | 66 => ⟨S2048x1, .i32⟩
  | 67 => ⟨S1, .i32⟩
  | 68 => ⟨S_, .i32⟩
  | 69 => ⟨S2048x1, .i32⟩
  | 70 => ⟨S2048x1, .i1⟩
  | 71 => ⟨S1x1, .i32⟩
  | 72 => ⟨S2048x1, .i32⟩
  | 73 => ⟨S2048x1, .i1⟩
  | 74 => ⟨S2048x1, .i1⟩
  | 75 => ⟨S_, .i1⟩
  | 76 => ⟨S2048, .i1⟩
  | 77 => ⟨S2048x1024, .bf16⟩
  | 78 => ⟨S2048x1024, .i1⟩
  | 79 => ⟨S_, .bf16⟩
  | 80 => ⟨S2048x1024, .bf16⟩
  | 81 => ⟨S2048x1024, .bf16⟩
  | 82 => ⟨S2048x1024, .f32⟩
  | _ => ⟨S2048x1024, .bf16⟩

abbrev hbmTy (i : Nat) : BufTy := match i / 128 with
  | 0 => hbmTy0_0 i
  | 1 => hbmTy0_1 i
  | 2 => hbmTy0_2 i
  | _ => ⟨S2048x1024, .bf16⟩

abbrev bufTy : (tb : Table) → Fin (tcTables nBuf tb) → BufTy
  | .hbm, ⟨i, _⟩ => hbmTy i
  | .local _ .vmem, ⟨0, _⟩ => ⟨S8x128, .i32⟩
  | .local _ .vmem, ⟨1, _⟩ => ⟨S4x8x128, .i32⟩
  | .local _ .vmem, ⟨2, _⟩ => ⟨S40x64x1024, .bf16⟩
  | .local _ .vmem, ⟨3, _⟩ => ⟨S40x64x1024, .bf16⟩
  | .local _ .smem, ⟨0, _⟩ => ⟨S5, .i32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 2 → Bool
  | ⟨0, _⟩ => false
  | ⟨1, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 2 10 bufScoped semScoped dmaSemScoped tileCredit tileCredit_eq_zero tileCredit_pos).withBarriers [(0, 0), (1, 1)]

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_v9 : Ref sig .tc := ⟨.hbm, 13, rfl⟩
abbrev main_call1_call0_c : Ref sig .tc := ⟨.hbm, 14, rfl⟩
abbrev main_call1_call0_v0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_0 : Ref sig .tc := ⟨.hbm, 19, rfl⟩
abbrev main_call2_v0 : Ref sig .tc := ⟨.hbm, 20, rfl⟩
abbrev main_call2_v1 : Ref sig .tc := ⟨.hbm, 21, rfl⟩
abbrev main_call2_v2 : Ref sig .tc := ⟨.hbm, 22, rfl⟩
abbrev main_call2_v3 : Ref sig .tc := ⟨.hbm, 23, rfl⟩
abbrev main_call2_v4 : Ref sig .tc := ⟨.hbm, 24, rfl⟩
abbrev main_call2_v5 : Ref sig .tc := ⟨.hbm, 25, rfl⟩
abbrev main_call2_v6 : Ref sig .tc := ⟨.hbm, 26, rfl⟩
abbrev main_call2_v7 : Ref sig .tc := ⟨.hbm, 27, rfl⟩
abbrev main_call2_v8 : Ref sig .tc := ⟨.hbm, 28, rfl⟩
abbrev main_call2_c : Ref sig .tc := ⟨.hbm, 29, rfl⟩
abbrev main_call2_v9 : Ref sig .tc := ⟨.hbm, 30, rfl⟩
abbrev main_call2_v10 : Ref sig .tc := ⟨.hbm, 31, rfl⟩
abbrev main_call2_v11 : Ref sig .tc := ⟨.hbm, 32, rfl⟩
abbrev main_call2_c_0 : Ref sig .tc := ⟨.hbm, 33, rfl⟩
abbrev main_call2_v12 : Ref sig .tc := ⟨.hbm, 34, rfl⟩
abbrev main_call2_v13 : Ref sig .tc := ⟨.hbm, 35, rfl⟩
abbrev main_v13 : Ref sig .tc := ⟨.hbm, 36, rfl⟩
abbrev main_c_1 : Ref sig .tc := ⟨.hbm, 37, rfl⟩
abbrev main_call3_v0 : Ref sig .tc := ⟨.hbm, 38, rfl⟩
abbrev main_call3_c : Ref sig .tc := ⟨.hbm, 39, rfl⟩
abbrev main_call3_v1 : Ref sig .tc := ⟨.hbm, 40, rfl⟩
abbrev main_call3_c_0 : Ref sig .tc := ⟨.hbm, 41, rfl⟩
abbrev main_call3_v2 : Ref sig .tc := ⟨.hbm, 42, rfl⟩
abbrev main_call3_v3 : Ref sig .tc := ⟨.hbm, 43, rfl⟩
abbrev main_call3_v4 : Ref sig .tc := ⟨.hbm, 44, rfl⟩
abbrev main_call3_c_1 : Ref sig .tc := ⟨.hbm, 45, rfl⟩
abbrev main_call3_v5 : Ref sig .tc := ⟨.hbm, 46, rfl⟩
abbrev main_call3_v6 : Ref sig .tc := ⟨.hbm, 47, rfl⟩
abbrev main_call3_c_2 : Ref sig .tc := ⟨.hbm, 48, rfl⟩
abbrev main_call3_v7 : Ref sig .tc := ⟨.hbm, 49, rfl⟩
abbrev main_call3_v8 : Ref sig .tc := ⟨.hbm, 50, rfl⟩
abbrev main_call3_c_3 : Ref sig .tc := ⟨.hbm, 51, rfl⟩
abbrev main_call3_v9 : Ref sig .tc := ⟨.hbm, 52, rfl⟩
abbrev main_call3_v10 : Ref sig .tc := ⟨.hbm, 53, rfl⟩
abbrev main_call3_v11 : Ref sig .tc := ⟨.hbm, 54, rfl⟩
abbrev main_call3_v12 : Ref sig .tc := ⟨.hbm, 55, rfl⟩
abbrev main_call3_v13 : Ref sig .tc := ⟨.hbm, 56, rfl⟩
abbrev main_call3_v14 : Ref sig .tc := ⟨.hbm, 57, rfl⟩
abbrev main_v14 : Ref sig .tc := ⟨.hbm, 58, rfl⟩
abbrev main_c_2 : Ref sig .tc := ⟨.hbm, 59, rfl⟩
abbrev main_v15 : Ref sig .tc := ⟨.hbm, 60, rfl⟩
abbrev main_v16 : Ref sig .tc := ⟨.hbm, 61, rfl⟩
abbrev main_c_3 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_c_4 : Ref sig .tc := ⟨.hbm, 69, rfl⟩
abbrev main_c_5 : Ref sig .tc := ⟨.hbm, 70, rfl⟩
abbrev main_call4_v0 : Ref sig .tc := ⟨.hbm, 71, rfl⟩
abbrev main_call4_v1 : Ref sig .tc := ⟨.hbm, 72, rfl⟩
abbrev main_call4_v2 : Ref sig .tc := ⟨.hbm, 73, rfl⟩
abbrev main_call4_v3 : Ref sig .tc := ⟨.hbm, 74, rfl⟩
abbrev main_call4_v4 : Ref sig .tc := ⟨.hbm, 75, rfl⟩
abbrev main_v23 : Ref sig .tc := ⟨.hbm, 76, rfl⟩
abbrev main_c_6 : Ref sig .tc := ⟨.hbm, 77, rfl⟩
abbrev main_v24 : Ref sig .tc := ⟨.hbm, 78, rfl⟩
abbrev main_v25 : Ref sig .tc := ⟨.hbm, 79, rfl⟩
abbrev main_c_7 : Ref sig .tc := ⟨.hbm, 80, rfl⟩
abbrev main_v26 : Ref sig .tc := ⟨.hbm, 81, rfl⟩
abbrev main_v27 : Ref sig .tc := ⟨.hbm, 82, rfl⟩
abbrev main_v28 : Ref sig .tc := ⟨.hbm, 83, rfl⟩
abbrev main_v29 : Ref sig .tc := ⟨.hbm, 84, rfl⟩
abbrev main_v30 : Ref sig .tc := ⟨.hbm, 85, rfl⟩
abbrev main_call5_c : Ref sig .tc := ⟨.hbm, 86, rfl⟩
abbrev main_call5_v0 : Ref sig .tc := ⟨.hbm, 87, rfl⟩
abbrev main_call5_v1 : Ref sig .tc := ⟨.hbm, 88, rfl⟩
abbrev main_call5_c_0 : Ref sig .tc := ⟨.hbm, 89, rfl⟩
abbrev main_call5_v2 : Ref sig .tc := ⟨.hbm, 90, rfl⟩
abbrev main_call5_v3 : Ref sig .tc := ⟨.hbm, 91, rfl⟩
abbrev main_call5_v4 : Ref sig .tc := ⟨.hbm, 92, rfl⟩
abbrev main_call5_v5 : Ref sig .tc := ⟨.hbm, 93, rfl⟩
abbrev main_call5_c_1 : Ref sig .tc := ⟨.hbm, 94, rfl⟩
abbrev main_call5_c_2 : Ref sig .tc := ⟨.hbm, 95, rfl⟩
abbrev main_call5_v6 : Ref sig .tc := ⟨.hbm, 96, rfl⟩
abbrev main_call5_v7 : Ref sig .tc := ⟨.hbm, 97, rfl⟩
abbrev main_call5_v8 : Ref sig .tc := ⟨.hbm, 98, rfl⟩
abbrev main_call5_v9 : Ref sig .tc := ⟨.hbm, 99, rfl⟩
abbrev main_call5_v10 : Ref sig .tc := ⟨.hbm, 100, rfl⟩
abbrev main_call5_v11 : Ref sig .tc := ⟨.hbm, 101, rfl⟩
abbrev main_call5_c_3 : Ref sig .tc := ⟨.hbm, 102, rfl⟩
abbrev main_call5_v12 : Ref sig .tc := ⟨.hbm, 103, rfl⟩
abbrev main_call5_v13 : Ref sig .tc := ⟨.hbm, 104, rfl⟩
abbrev main_call5_v14 : Ref sig .tc := ⟨.hbm, 105, rfl⟩
abbrev main_call5_cst : Ref sig .tc := ⟨.hbm, 106, rfl⟩
abbrev main_call5_v15 : Ref sig .tc := ⟨.hbm, 107, rfl⟩
abbrev main_v31 : Ref sig .tc := ⟨.hbm, 108, rfl⟩
abbrev main_v32 : Ref sig .tc := ⟨.hbm, 109, rfl⟩
abbrev main_c_8 : Ref sig .tc := ⟨.hbm, 110, rfl⟩
abbrev main_v33 : Ref sig .tc := ⟨.hbm, 111, rfl⟩
abbrev main_c_9 : Ref sig .tc := ⟨.hbm, 112, rfl⟩
abbrev main_v34 : Ref sig .tc := ⟨.hbm, 113, rfl⟩
abbrev main_c_10 : Ref sig .tc := ⟨.hbm, 114, rfl⟩
abbrev main_v35 : Ref sig .tc := ⟨.hbm, 115, rfl⟩
abbrev main_v36 : Ref sig .tc := ⟨.hbm, 116, rfl⟩
abbrev main_v37 : Ref sig .tc := ⟨.hbm, 117, rfl⟩
abbrev main_v38 : Ref sig .tc := ⟨.hbm, 118, rfl⟩
abbrev main_c_11 : Ref sig .tc := ⟨.hbm, 119, rfl⟩
abbrev main_c_12 : Ref sig .tc := ⟨.hbm, 120, rfl⟩
abbrev main_v39 : Ref sig .tc := ⟨.hbm, 121, rfl⟩
abbrev main_v40 : Ref sig .tc := ⟨.hbm, 122, rfl⟩
abbrev main_v41 : Ref sig .tc := ⟨.hbm, 123, rfl⟩
abbrev main_v42 : Ref sig .tc := ⟨.hbm, 124, rfl⟩
abbrev main_v43 : Ref sig .tc := ⟨.hbm, 125, rfl⟩
abbrev main_v44 : Ref sig .tc := ⟨.hbm, 126, rfl⟩
abbrev main_v45 : Ref sig .tc := ⟨.hbm, 127, rfl⟩
abbrev main_v46 : Ref sig .tc := ⟨.hbm, 128, rfl⟩
abbrev main_v47 : Ref sig .tc := ⟨.hbm, 129, rfl⟩
abbrev main_c_13 : Ref sig .tc := ⟨.hbm, 130, rfl⟩
abbrev main_call6_v0 : Ref sig .tc := ⟨.hbm, 131, rfl⟩
abbrev main_call6_c : Ref sig .tc := ⟨.hbm, 132, rfl⟩
abbrev main_call6_v1 : Ref sig .tc := ⟨.hbm, 133, rfl⟩
abbrev main_call6_c_0 : Ref sig .tc := ⟨.hbm, 134, rfl⟩
abbrev main_call6_v2 : Ref sig .tc := ⟨.hbm, 135, rfl⟩
abbrev main_call6_v3 : Ref sig .tc := ⟨.hbm, 136, rfl⟩
abbrev main_call6_v4 : Ref sig .tc := ⟨.hbm, 137, rfl⟩
abbrev main_call6_c_1 : Ref sig .tc := ⟨.hbm, 138, rfl⟩
abbrev main_call6_v5 : Ref sig .tc := ⟨.hbm, 139, rfl⟩
abbrev main_call6_v6 : Ref sig .tc := ⟨.hbm, 140, rfl⟩
abbrev main_call6_c_2 : Ref sig .tc := ⟨.hbm, 141, rfl⟩
abbrev main_call6_v7 : Ref sig .tc := ⟨.hbm, 142, rfl⟩
abbrev main_call6_v8 : Ref sig .tc := ⟨.hbm, 143, rfl⟩
abbrev main_call6_c_3 : Ref sig .tc := ⟨.hbm, 144, rfl⟩
abbrev main_call6_v9 : Ref sig .tc := ⟨.hbm, 145, rfl⟩
abbrev main_call6_v10 : Ref sig .tc := ⟨.hbm, 146, rfl⟩
abbrev main_call6_v11 : Ref sig .tc := ⟨.hbm, 147, rfl⟩
abbrev main_call6_v12 : Ref sig .tc := ⟨.hbm, 148, rfl⟩
abbrev main_call6_v13 : Ref sig .tc := ⟨.hbm, 149, rfl⟩
abbrev main_call6_v14 : Ref sig .tc := ⟨.hbm, 150, rfl⟩
abbrev main_v48 : Ref sig .tc := ⟨.hbm, 151, rfl⟩
abbrev main_call7_c : Ref sig .tc := ⟨.hbm, 152, rfl⟩
abbrev main_call7_v0 : Ref sig .tc := ⟨.hbm, 153, rfl⟩
abbrev main_call7_v1 : Ref sig .tc := ⟨.hbm, 154, rfl⟩
abbrev main_call7_c_0 : Ref sig .tc := ⟨.hbm, 155, rfl⟩
abbrev main_call7_v2 : Ref sig .tc := ⟨.hbm, 156, rfl⟩
abbrev main_call7_v3 : Ref sig .tc := ⟨.hbm, 157, rfl⟩
abbrev main_call7_v4 : Ref sig .tc := ⟨.hbm, 158, rfl⟩
abbrev main_call7_v5 : Ref sig .tc := ⟨.hbm, 159, rfl⟩
abbrev main_call7_c_1 : Ref sig .tc := ⟨.hbm, 160, rfl⟩
abbrev main_call7_c_2 : Ref sig .tc := ⟨.hbm, 161, rfl⟩
abbrev main_call7_v6 : Ref sig .tc := ⟨.hbm, 162, rfl⟩
abbrev main_call7_v7 : Ref sig .tc := ⟨.hbm, 163, rfl⟩
abbrev main_call7_v8 : Ref sig .tc := ⟨.hbm, 164, rfl⟩
abbrev main_call7_v9 : Ref sig .tc := ⟨.hbm, 165, rfl⟩
abbrev main_call7_v10 : Ref sig .tc := ⟨.hbm, 166, rfl⟩
abbrev main_call7_v11 : Ref sig .tc := ⟨.hbm, 167, rfl⟩
abbrev main_call7_c_3 : Ref sig .tc := ⟨.hbm, 168, rfl⟩
abbrev main_call7_v12 : Ref sig .tc := ⟨.hbm, 169, rfl⟩
abbrev main_call7_v13 : Ref sig .tc := ⟨.hbm, 170, rfl⟩
abbrev main_call7_v14 : Ref sig .tc := ⟨.hbm, 171, rfl⟩
abbrev main_call7_c_4 : Ref sig .tc := ⟨.hbm, 172, rfl⟩
abbrev main_call7_v15 : Ref sig .tc := ⟨.hbm, 173, rfl⟩
abbrev main_v49 : Ref sig .tc := ⟨.hbm, 174, rfl⟩
abbrev main_c_14 : Ref sig .tc := ⟨.hbm, 175, rfl⟩
abbrev main_v50 : Ref sig .tc := ⟨.hbm, 176, rfl⟩
abbrev main_v51 : Ref sig .tc := ⟨.hbm, 177, rfl⟩
abbrev main_c_15 : Ref sig .tc := ⟨.hbm, 178, rfl⟩
abbrev main_v52 : Ref sig .tc := ⟨.hbm, 179, rfl⟩
abbrev main_v53 : Ref sig .tc := ⟨.hbm, 180, rfl⟩
abbrev main_c_16 : Ref sig .tc := ⟨.hbm, 181, rfl⟩
abbrev main_call8_v0 : Ref sig .tc := ⟨.hbm, 182, rfl⟩
abbrev main_call8_v1 : Ref sig .tc := ⟨.hbm, 183, rfl⟩
abbrev main_call8_v2 : Ref sig .tc := ⟨.hbm, 184, rfl⟩
abbrev main_call8_v3 : Ref sig .tc := ⟨.hbm, 185, rfl⟩
abbrev main_call8_v4 : Ref sig .tc := ⟨.hbm, 186, rfl⟩
abbrev main_call8_v5 : Ref sig .tc := ⟨.hbm, 187, rfl⟩
abbrev main_call8_v6 : Ref sig .tc := ⟨.hbm, 188, rfl⟩
abbrev main_call8_v7 : Ref sig .tc := ⟨.hbm, 189, rfl⟩
abbrev main_call8_v8 : Ref sig .tc := ⟨.hbm, 190, rfl⟩
abbrev main_call8_c : Ref sig .tc := ⟨.hbm, 191, rfl⟩
abbrev main_call8_v9 : Ref sig .tc := ⟨.hbm, 192, rfl⟩
abbrev main_call8_v10 : Ref sig .tc := ⟨.hbm, 193, rfl⟩
abbrev main_call8_v11 : Ref sig .tc := ⟨.hbm, 194, rfl⟩
abbrev main_call8_c_0 : Ref sig .tc := ⟨.hbm, 195, rfl⟩
abbrev main_call8_v12 : Ref sig .tc := ⟨.hbm, 196, rfl⟩
abbrev main_call8_v13 : Ref sig .tc := ⟨.hbm, 197, rfl⟩
abbrev main_v54 : Ref sig .tc := ⟨.hbm, 198, rfl⟩
abbrev main_call9_c : Ref sig .tc := ⟨.hbm, 199, rfl⟩
abbrev main_call9_v0 : Ref sig .tc := ⟨.hbm, 200, rfl⟩
abbrev main_call9_c_0 : Ref sig .tc := ⟨.hbm, 201, rfl⟩
abbrev main_call9_v1 : Ref sig .tc := ⟨.hbm, 202, rfl⟩
abbrev main_call9_v2 : Ref sig .tc := ⟨.hbm, 203, rfl⟩
abbrev main_call9_v3 : Ref sig .tc := ⟨.hbm, 204, rfl⟩
abbrev main_call9_c_1 : Ref sig .tc := ⟨.hbm, 205, rfl⟩
abbrev main_call9_c_2 : Ref sig .tc := ⟨.hbm, 206, rfl⟩
abbrev main_call9_v4 : Ref sig .tc := ⟨.hbm, 207, rfl⟩
abbrev main_call9_v5 : Ref sig .tc := ⟨.hbm, 208, rfl⟩
abbrev main_call9_v6 : Ref sig .tc := ⟨.hbm, 209, rfl⟩
abbrev main_call9_v7 : Ref sig .tc := ⟨.hbm, 210, rfl⟩
abbrev main_call9_c_3 : Ref sig .tc := ⟨.hbm, 211, rfl⟩
abbrev main_call9_v8 : Ref sig .tc := ⟨.hbm, 212, rfl⟩
abbrev main_call9_v9 : Ref sig .tc := ⟨.hbm, 213, rfl⟩
abbrev main_call9_v10 : Ref sig .tc := ⟨.hbm, 214, rfl⟩
abbrev main_call9_c_4 : Ref sig .tc := ⟨.hbm, 215, rfl⟩
abbrev main_call9_v11 : Ref sig .tc := ⟨.hbm, 216, rfl⟩
abbrev main_v55 : Ref sig .tc := ⟨.hbm, 217, rfl⟩
abbrev main_c_17 : Ref sig .tc := ⟨.hbm, 218, rfl⟩
abbrev main_v56 : Ref sig .tc := ⟨.hbm, 219, rfl⟩
abbrev main_v57 : Ref sig .tc := ⟨.hbm, 220, rfl⟩
abbrev main_c_18 : Ref sig .tc := ⟨.hbm, 221, rfl⟩
abbrev main_v58 : Ref sig .tc := ⟨.hbm, 222, rfl⟩
abbrev main_v59 : Ref sig .tc := ⟨.hbm, 223, rfl⟩
abbrev main_c_19 : Ref sig .tc := ⟨.hbm, 224, rfl⟩
abbrev main_call10_v0 : Ref sig .tc := ⟨.hbm, 225, rfl⟩
abbrev main_call10_v1 : Ref sig .tc := ⟨.hbm, 226, rfl⟩
abbrev main_call10_v2 : Ref sig .tc := ⟨.hbm, 227, rfl⟩
abbrev main_call10_v3 : Ref sig .tc := ⟨.hbm, 228, rfl⟩
abbrev main_call10_v4 : Ref sig .tc := ⟨.hbm, 229, rfl⟩
abbrev main_call10_v5 : Ref sig .tc := ⟨.hbm, 230, rfl⟩
abbrev main_call10_v6 : Ref sig .tc := ⟨.hbm, 231, rfl⟩
abbrev main_call10_v7 : Ref sig .tc := ⟨.hbm, 232, rfl⟩
abbrev main_call10_v8 : Ref sig .tc := ⟨.hbm, 233, rfl⟩
abbrev main_call10_c : Ref sig .tc := ⟨.hbm, 234, rfl⟩
abbrev main_call10_v9 : Ref sig .tc := ⟨.hbm, 235, rfl⟩
abbrev main_call10_v10 : Ref sig .tc := ⟨.hbm, 236, rfl⟩
abbrev main_call10_v11 : Ref sig .tc := ⟨.hbm, 237, rfl⟩
abbrev main_call10_c_0 : Ref sig .tc := ⟨.hbm, 238, rfl⟩
abbrev main_call10_v12 : Ref sig .tc := ⟨.hbm, 239, rfl⟩
abbrev main_call10_v13 : Ref sig .tc := ⟨.hbm, 240, rfl⟩
abbrev main_v60 : Ref sig .tc := ⟨.hbm, 241, rfl⟩
abbrev main_c_20 : Ref sig .tc := ⟨.hbm, 242, rfl⟩
abbrev main_v61 : Ref sig .tc := ⟨.hbm, 243, rfl⟩
abbrev main_call11_c : Ref sig .tc := ⟨.hbm, 244, rfl⟩
abbrev main_call11_v0 : Ref sig .tc := ⟨.hbm, 245, rfl⟩
abbrev main_call11_c_0 : Ref sig .tc := ⟨.hbm, 246, rfl⟩
abbrev main_call11_v1 : Ref sig .tc := ⟨.hbm, 247, rfl⟩
abbrev main_call11_v2 : Ref sig .tc := ⟨.hbm, 248, rfl⟩
abbrev main_call11_v3 : Ref sig .tc := ⟨.hbm, 249, rfl⟩
abbrev main_call11_c_1 : Ref sig .tc := ⟨.hbm, 250, rfl⟩
abbrev main_call11_c_2 : Ref sig .tc := ⟨.hbm, 251, rfl⟩
abbrev main_call11_v4 : Ref sig .tc := ⟨.hbm, 252, rfl⟩
abbrev main_call11_v5 : Ref sig .tc := ⟨.hbm, 253, rfl⟩
abbrev main_call11_v6 : Ref sig .tc := ⟨.hbm, 254, rfl⟩
abbrev main_call11_v7 : Ref sig .tc := ⟨.hbm, 255, rfl⟩
abbrev main_call11_c_3 : Ref sig .tc := ⟨.hbm, 256, rfl⟩
abbrev main_call11_v8 : Ref sig .tc := ⟨.hbm, 257, rfl⟩
abbrev main_call11_v9 : Ref sig .tc := ⟨.hbm, 258, rfl⟩
abbrev main_call11_c_4 : Ref sig .tc := ⟨.hbm, 259, rfl⟩
abbrev main_v62 : Ref sig .tc := ⟨.hbm, 260, rfl⟩
abbrev main_v63 : Ref sig .tc := ⟨.hbm, 261, rfl⟩
abbrev main_v64 : Ref sig .tc := ⟨.hbm, 262, rfl⟩
abbrev main_v65 : Ref sig .tc := ⟨.hbm, 263, rfl⟩
abbrev main_v66 : Ref sig .tc := ⟨.hbm, 264, rfl⟩
abbrev main_call12_c : Ref sig .tc := ⟨.hbm, 265, rfl⟩
abbrev main_call12_v0 : Ref sig .tc := ⟨.hbm, 266, rfl⟩
abbrev main_call12_c_0 : Ref sig .tc := ⟨.hbm, 267, rfl⟩
abbrev main_call12_v1 : Ref sig .tc := ⟨.hbm, 268, rfl⟩
abbrev main_call12_v2 : Ref sig .tc := ⟨.hbm, 269, rfl⟩
abbrev main_call12_v3 : Ref sig .tc := ⟨.hbm, 270, rfl⟩
abbrev main_call12_c_1 : Ref sig .tc := ⟨.hbm, 271, rfl⟩
abbrev main_call12_c_2 : Ref sig .tc := ⟨.hbm, 272, rfl⟩
abbrev main_call12_v4 : Ref sig .tc := ⟨.hbm, 273, rfl⟩
abbrev main_call12_v5 : Ref sig .tc := ⟨.hbm, 274, rfl⟩
abbrev main_call12_v6 : Ref sig .tc := ⟨.hbm, 275, rfl⟩
abbrev main_call12_v7 : Ref sig .tc := ⟨.hbm, 276, rfl⟩
abbrev main_call12_c_3 : Ref sig .tc := ⟨.hbm, 277, rfl⟩
abbrev main_call12_v8 : Ref sig .tc := ⟨.hbm, 278, rfl⟩
abbrev main_call12_v9 : Ref sig .tc := ⟨.hbm, 279, rfl⟩
abbrev main_call12_v10 : Ref sig .tc := ⟨.hbm, 280, rfl⟩
abbrev main_call12_c_4 : Ref sig .tc := ⟨.hbm, 281, rfl⟩
abbrev main_call12_v11 : Ref sig .tc := ⟨.hbm, 282, rfl⟩
abbrev main_v67 : Ref sig .tc := ⟨.hbm, 283, rfl⟩
abbrev main_call13_call0_c : Ref sig .tc := ⟨.hbm, 284, rfl⟩
abbrev main_call13_call0_v0 : Ref sig .tc := ⟨.hbm, 285, rfl⟩
abbrev main_v68 : Ref sig .tc := ⟨.hbm, 286, rfl⟩
abbrev main_v69 : Ref sig .tc := ⟨.hbm, 287, rfl⟩
abbrev main_v70 : Ref sig .tc := ⟨.hbm, 288, rfl⟩
abbrev main_v71 : Ref sig .tc := ⟨.hbm, 289, rfl⟩
abbrev main_v72 : Ref sig .tc := ⟨.hbm, 290, rfl⟩
abbrev main_v73 : Ref sig .tc := ⟨.hbm, 291, rfl⟩
abbrev main_v74 : Ref sig .tc := ⟨.hbm, 292, rfl⟩
abbrev main_v75 : Ref sig .tc := ⟨.hbm, 293, rfl⟩
abbrev main_v76 : Ref sig .tc := ⟨.hbm, 294, rfl⟩
abbrev main_c_21 : Ref sig .tc := ⟨.hbm, 295, rfl⟩
abbrev main_v77 : Ref sig .tc := ⟨.hbm, 296, rfl⟩
abbrev main_c_22 : Ref sig .tc := ⟨.hbm, 297, rfl⟩
abbrev main_v78 : Ref sig .tc := ⟨.hbm, 298, rfl⟩
abbrev main_v79 : Ref sig .tc := ⟨.hbm, 299, rfl⟩
abbrev main_c_23 : Ref sig .tc := ⟨.hbm, 300, rfl⟩
abbrev main_v80 : Ref sig .tc := ⟨.hbm, 301, rfl⟩
abbrev main_v81 : Ref sig .tc := ⟨.hbm, 302, rfl⟩
abbrev main_c_24 : Ref sig .tc := ⟨.hbm, 303, rfl⟩
abbrev main_v82 : Ref sig .tc := ⟨.hbm, 304, rfl⟩
abbrev main_v83 : Ref sig .tc := ⟨.hbm, 305, rfl⟩
abbrev main_v84 : Ref sig .tc := ⟨.hbm, 306, rfl⟩
abbrev main_v85 : Ref sig .tc := ⟨.hbm, 307, rfl⟩
abbrev main_v86 : Ref sig .tc := ⟨.hbm, 308, rfl⟩
abbrev main_v87 : Ref sig .tc := ⟨.hbm, 309, rfl⟩
abbrev main_v88 : Ref sig .tc := ⟨.hbm, 310, rfl⟩
abbrev main_c_25 : Ref sig .tc := ⟨.hbm, 311, rfl⟩
abbrev main_v89 : Ref sig .tc := ⟨.hbm, 312, rfl⟩
abbrev main_v90 : Ref sig .tc := ⟨.hbm, 313, rfl⟩
abbrev main_v91 : Ref sig .tc := ⟨.hbm, 314, rfl⟩
abbrev main_call14_c : Ref sig .tc := ⟨.hbm, 315, rfl⟩
abbrev main_call14_v0 : Ref sig .tc := ⟨.hbm, 316, rfl⟩
abbrev main_call14_v1 : Ref sig .tc := ⟨.hbm, 317, rfl⟩
abbrev main_call14_c_0 : Ref sig .tc := ⟨.hbm, 318, rfl⟩
abbrev main_call14_v2 : Ref sig .tc := ⟨.hbm, 319, rfl⟩
abbrev main_call14_v3 : Ref sig .tc := ⟨.hbm, 320, rfl⟩
abbrev main_call14_v4 : Ref sig .tc := ⟨.hbm, 321, rfl⟩
abbrev main_call14_v5 : Ref sig .tc := ⟨.hbm, 322, rfl⟩
abbrev main_call14_c_1 : Ref sig .tc := ⟨.hbm, 323, rfl⟩
abbrev main_call14_c_2 : Ref sig .tc := ⟨.hbm, 324, rfl⟩
abbrev main_call14_v6 : Ref sig .tc := ⟨.hbm, 325, rfl⟩
abbrev main_call14_v7 : Ref sig .tc := ⟨.hbm, 326, rfl⟩
abbrev main_call14_v8 : Ref sig .tc := ⟨.hbm, 327, rfl⟩
abbrev main_call14_v9 : Ref sig .tc := ⟨.hbm, 328, rfl⟩
abbrev main_call14_v10 : Ref sig .tc := ⟨.hbm, 329, rfl⟩
abbrev main_call14_v11 : Ref sig .tc := ⟨.hbm, 330, rfl⟩
abbrev main_call14_c_3 : Ref sig .tc := ⟨.hbm, 331, rfl⟩
abbrev main_call14_v12 : Ref sig .tc := ⟨.hbm, 332, rfl⟩
abbrev main_call14_v13 : Ref sig .tc := ⟨.hbm, 333, rfl⟩
abbrev main_call14_v14 : Ref sig .tc := ⟨.hbm, 334, rfl⟩
abbrev main_call14_cst : Ref sig .tc := ⟨.hbm, 335, rfl⟩
abbrev main_call14_v15 : Ref sig .tc := ⟨.hbm, 336, rfl⟩
abbrev main_v92 : Ref sig .tc := ⟨.hbm, 337, rfl⟩
abbrev main_v93 : Ref sig .tc := ⟨.hbm, 338, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg2_0 : Ref sig .tc := ⟨.vmem, 3, rfl⟩
abbrev cc1_stg1_0 : Ref sig .tc := ⟨.smem, 0, rfl⟩
abbrev cc0_sem0_0 : DmaSem sig := 0
abbrev cc0_sem1_0 : DmaSem sig := 1
abbrev cc1_sem0_0 : DmaSem sig := 4
abbrev cc1_sem1_0 : DmaSem sig := 5
abbrev cc1_sem2_0 : DmaSem sig := 6
abbrev barrier0 : Sem sig := 0
abbrev barrier1 : Sem sig := 1

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v3 : BitVec 32 := Dev.word d0
  let c1_i32_1 : BitVec 32 := 1#32
  let v4 : BitVec 32 := Scalar.divsi v3 c1_i32_1
  let c4_i32_0 : BitVec 32 := 4#32
  let v5 : BitVec 32 := Scalar.remsi v4 c4_i32_0
  let c1_i32_2 : BitVec 32 := 1#32
  let v7 : BitVec 32 := Scalar.addi v5 c1_i32_2
  let c4_i32_3 : BitVec 32 := 4#32
  let v8 : BitVec 32 := Scalar.remsi v7 c4_i32_3
  let c1_i32_5 : BitVec 32 := 1#32
  let v9 : BitVec 32 := Scalar.muli v8 c1_i32_5
  let v10 : BitVec 32 := Scalar.addi c0_i32 v9
  v10.toNat
def k0_dev2 (d0 : Dev nD) : Nat :=
  let c0_i32_9 : BitVec 32 := 0#32
  let v3 : BitVec 32 := Dev.word d0
  let c1_i32_1 : BitVec 32 := 1#32
  let v4 : BitVec 32 := Scalar.divsi v3 c1_i32_1
  let c4_i32_0 : BitVec 32 := 4#32
  let v5 : BitVec 32 := Scalar.remsi v4 c4_i32_0
  let c2_i32 : BitVec 32 := 2#32
  let v11 : BitVec 32 := Scalar.addi v5 c2_i32
  let c4_i32_6 : BitVec 32 := 4#32
  let v12 : BitVec 32 := Scalar.remsi v11 c4_i32_6
  let c1_i32_8 : BitVec 32 := 1#32
  let v13 : BitVec 32 := Scalar.muli v12 c1_i32_8
  let v14 : BitVec 32 := Scalar.addi c0_i32_9 v13
  v14.toNat
def k0_dev3 (d0 : Dev nD) : Nat :=
  let c0_i32_13 : BitVec 32 := 0#32
  let v3 : BitVec 32 := Dev.word d0
  let c1_i32_1 : BitVec 32 := 1#32
  let v4 : BitVec 32 := Scalar.divsi v3 c1_i32_1
  let c4_i32_0 : BitVec 32 := 4#32
  let v5 : BitVec 32 := Scalar.remsi v4 c4_i32_0
  let c3_i32 : BitVec 32 := 3#32
  let v15 : BitVec 32 := Scalar.addi v5 c3_i32
  let c4_i32_10 : BitVec 32 := 4#32
  let v16 : BitVec 32 := Scalar.remsi v15 c4_i32_10
  let c1_i32_12 : BitVec 32 := 1#32
  let v17 : BitVec 32 := Scalar.muli v16 c1_i32_12
  let v18 : BitVec 32 := Scalar.addi c0_i32_13 v17
  v18.toNat
def k0_dev4 (d0 : Dev nD) : Nat :=
  let c0_i32_23 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_19 : BitVec 32 := 1#32
  let v24 : BitVec 32 := Scalar.addi v2 c1_i32_19
  let c4_i32_20 : BitVec 32 := 4#32
  let v25 : BitVec 32 := Scalar.remsi v24 c4_i32_20
  let c1_i32_22 : BitVec 32 := 1#32
  let v26 : BitVec 32 := Scalar.muli v25 c1_i32_22
  let v27 : BitVec 32 := Scalar.addi c0_i32_23 v26
  v27.toNat
def k0_dev5 (d0 : Dev nD) : Nat :=
  let c0_i32_30 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_26 : BitVec 32 := 2#32
  let v30 : BitVec 32 := Scalar.addi v2 c2_i32_26
  let c4_i32_27 : BitVec 32 := 4#32
  let v31 : BitVec 32 := Scalar.remsi v30 c4_i32_27
  let c1_i32_29 : BitVec 32 := 1#32
  let v32 : BitVec 32 := Scalar.muli v31 c1_i32_29
  let v33 : BitVec 32 := Scalar.addi c0_i32_30 v32
  v33.toNat
def k0_dev6 (d0 : Dev nD) : Nat :=
  let c0_i32_37 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_33 : BitVec 32 := 3#32
  let v36 : BitVec 32 := Scalar.addi v2 c3_i32_33
  let c4_i32_34 : BitVec 32 := 4#32
  let v37 : BitVec 32 := Scalar.remsi v36 c4_i32_34
  let c1_i32_36 : BitVec 32 := 1#32
  let v38 : BitVec 32 := Scalar.muli v37 c1_i32_36
  let v39 : BitVec 32 := Scalar.addi c0_i32_37 v38
  v39.toNat
abbrev stage0_0 : Fin 1 → Memref sig .tc .vmem S8x128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x8x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := .none

def k1_dev1 (d0 : Dev nD) : Nat :=
  let c0_i32 : BitVec 32 := 0#32
  let v3 : BitVec 32 := Dev.word d0
  let c1_i32_1 : BitVec 32 := 1#32
  let v4 : BitVec 32 := Scalar.divsi v3 c1_i32_1
  let c4_i32_0 : BitVec 32 := 4#32
  let v5 : BitVec 32 := Scalar.remsi v4 c4_i32_0
  let c1_i32_2 : BitVec 32 := 1#32
  let v7 : BitVec 32 := Scalar.addi v5 c1_i32_2
  let c4_i32_3 : BitVec 32 := 4#32
  let v8 : BitVec 32 := Scalar.remsi v7 c4_i32_3
  let c1_i32_5 : BitVec 32 := 1#32
  let v9 : BitVec 32 := Scalar.muli v8 c1_i32_5
  let v10 : BitVec 32 := Scalar.addi c0_i32 v9
  v10.toNat
def k1_dev2 (d0 : Dev nD) : Nat :=
  let c0_i32_9 : BitVec 32 := 0#32
  let v3 : BitVec 32 := Dev.word d0
  let c1_i32_1 : BitVec 32 := 1#32
  let v4 : BitVec 32 := Scalar.divsi v3 c1_i32_1
  let c4_i32_0 : BitVec 32 := 4#32
  let v5 : BitVec 32 := Scalar.remsi v4 c4_i32_0
  let c2_i32 : BitVec 32 := 2#32
  let v11 : BitVec 32 := Scalar.addi v5 c2_i32
  let c4_i32_6 : BitVec 32 := 4#32
  let v12 : BitVec 32 := Scalar.remsi v11 c4_i32_6
  let c1_i32_8 : BitVec 32 := 1#32
  let v13 : BitVec 32 := Scalar.muli v12 c1_i32_8
  let v14 : BitVec 32 := Scalar.addi c0_i32_9 v13
  v14.toNat
def k1_dev3 (d0 : Dev nD) : Nat :=
  let c0_i32_13 : BitVec 32 := 0#32
  let v3 : BitVec 32 := Dev.word d0
  let c1_i32_1 : BitVec 32 := 1#32
  let v4 : BitVec 32 := Scalar.divsi v3 c1_i32_1
  let c4_i32_0 : BitVec 32 := 4#32
  let v5 : BitVec 32 := Scalar.remsi v4 c4_i32_0
  let c3_i32 : BitVec 32 := 3#32
  let v15 : BitVec 32 := Scalar.addi v5 c3_i32
  let c4_i32_10 : BitVec 32 := 4#32
  let v16 : BitVec 32 := Scalar.remsi v15 c4_i32_10
  let c1_i32_12 : BitVec 32 := 1#32
  let v17 : BitVec 32 := Scalar.muli v16 c1_i32_12
  let v18 : BitVec 32 := Scalar.addi c0_i32_13 v17
  v18.toNat
def k1_off1 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_15 : BitVec 32 := 1#32
  let v19 : BitVec 32 := Scalar.addi v2 c1_i32_15
  let c4_i32_16 : BitVec 32 := 4#32
  let v20 : BitVec 32 := Scalar.remsi v19 c4_i32_16
  let v21 : Index := Scalar.indexCast v20
  ![v21.toNat]
def k1_off2 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c10_i32_388 : BitVec 32 := 10#32
  let v394 : BitVec 32 := Scalar.muli v2 c10_i32_388
  let c0_i32_389 : BitVec 32 := 0#32
  let v395 : BitVec 32 := Scalar.addi v394 c0_i32_389
  let c0_i32_392 : BitVec 32 := 0#32
  let c0_i32_393 : BitVec 32 := 0#32
  ![v395.toNat, 0, 0]
def k1_off3 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_15 : BitVec 32 := 1#32
  let v19 : BitVec 32 := Scalar.addi v2 c1_i32_15
  let c4_i32_16 : BitVec 32 := 4#32
  let v20 : BitVec 32 := Scalar.remsi v19 c4_i32_16
  let c10_i32_386 : BitVec 32 := 10#32
  let v392 : BitVec 32 := Scalar.muli v20 c10_i32_386
  let c0_i32_387 : BitVec 32 := 0#32
  let v393 : BitVec 32 := Scalar.addi v392 c0_i32_387
  let c0_i32_394 : BitVec 32 := 0#32
  let c0_i32_395 : BitVec 32 := 0#32
  ![v393.toNat, 0, 0]
def k1_dev4 (d0 : Dev nD) : Nat :=
  let c0_i32_391 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_15 : BitVec 32 := 1#32
  let v19 : BitVec 32 := Scalar.addi v2 c1_i32_15
  let c4_i32_16 : BitVec 32 := 4#32
  let v20 : BitVec 32 := Scalar.remsi v19 c4_i32_16
  let c1_i32_390 : BitVec 32 := 1#32
  let v396 : BitVec 32 := Scalar.muli v20 c1_i32_390
  let v397 : BitVec 32 := Scalar.addi c0_i32_391 v396
  v397.toNat
def k1_off4 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c10_i32_388 : BitVec 32 := 10#32
  let v394 : BitVec 32 := Scalar.muli v2 c10_i32_388
  let c1_i32_389 : BitVec 32 := 1#32
  let v395 : BitVec 32 := Scalar.addi v394 c1_i32_389
  let c0_i32_392 : BitVec 32 := 0#32
  let c0_i32_393 : BitVec 32 := 0#32
  ![v395.toNat, 0, 0]
def k1_off5 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_15 : BitVec 32 := 1#32
  let v19 : BitVec 32 := Scalar.addi v2 c1_i32_15
  let c4_i32_16 : BitVec 32 := 4#32
  let v20 : BitVec 32 := Scalar.remsi v19 c4_i32_16
  let c10_i32_386 : BitVec 32 := 10#32
  let v392 : BitVec 32 := Scalar.muli v20 c10_i32_386
  let c1_i32_387 : BitVec 32 := 1#32
  let v393 : BitVec 32 := Scalar.addi v392 c1_i32_387
  let c0_i32_394 : BitVec 32 := 0#32
  let c0_i32_395 : BitVec 32 := 0#32
  ![v393.toNat, 0, 0]
def k1_dev5 (d0 : Dev nD) : Nat :=
  let c0_i32_391 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_15 : BitVec 32 := 1#32
  let v19 : BitVec 32 := Scalar.addi v2 c1_i32_15
  let c4_i32_16 : BitVec 32 := 4#32
  let v20 : BitVec 32 := Scalar.remsi v19 c4_i32_16
  let c1_i32_390 : BitVec 32 := 1#32
  let v396 : BitVec 32 := Scalar.muli v20 c1_i32_390
  let v397 : BitVec 32 := Scalar.addi c0_i32_391 v396
  v397.toNat
def k1_off6 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c10_i32_388 : BitVec 32 := 10#32
  let v394 : BitVec 32 := Scalar.muli v2 c10_i32_388
  let c2_i32_389 : BitVec 32 := 2#32
  let v395 : BitVec 32 := Scalar.addi v394 c2_i32_389
  let c0_i32_392 : BitVec 32 := 0#32
  let c0_i32_393 : BitVec 32 := 0#32
  ![v395.toNat, 0, 0]
def k1_off7 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_15 : BitVec 32 := 1#32
  let v19 : BitVec 32 := Scalar.addi v2 c1_i32_15
  let c4_i32_16 : BitVec 32 := 4#32
  let v20 : BitVec 32 := Scalar.remsi v19 c4_i32_16
  let c10_i32_386 : BitVec 32 := 10#32
  let v392 : BitVec 32 := Scalar.muli v20 c10_i32_386
  let c2_i32_387 : BitVec 32 := 2#32
  let v393 : BitVec 32 := Scalar.addi v392 c2_i32_387
  let c0_i32_394 : BitVec 32 := 0#32
  let c0_i32_395 : BitVec 32 := 0#32
  ![v393.toNat, 0, 0]
def k1_dev6 (d0 : Dev nD) : Nat :=
  let c0_i32_391 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_15 : BitVec 32 := 1#32
  let v19 : BitVec 32 := Scalar.addi v2 c1_i32_15
  let c4_i32_16 : BitVec 32 := 4#32
  let v20 : BitVec 32 := Scalar.remsi v19 c4_i32_16
  let c1_i32_390 : BitVec 32 := 1#32
  let v396 : BitVec 32 := Scalar.muli v20 c1_i32_390
  let v397 : BitVec 32 := Scalar.addi c0_i32_391 v396
  v397.toNat
def k1_off8 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c10_i32_388 : BitVec 32 := 10#32
  let v394 : BitVec 32 := Scalar.muli v2 c10_i32_388
  let c3_i32_389 : BitVec 32 := 3#32
  let v395 : BitVec 32 := Scalar.addi v394 c3_i32_389
  let c0_i32_392 : BitVec 32 := 0#32
  let c0_i32_393 : BitVec 32 := 0#32
  ![v395.toNat, 0, 0]
def k1_off9 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_15 : BitVec 32 := 1#32
  let v19 : BitVec 32 := Scalar.addi v2 c1_i32_15
  let c4_i32_16 : BitVec 32 := 4#32
  let v20 : BitVec 32 := Scalar.remsi v19 c4_i32_16
  let c10_i32_386 : BitVec 32 := 10#32
  let v392 : BitVec 32 := Scalar.muli v20 c10_i32_386
  let c3_i32_387 : BitVec 32 := 3#32
  let v393 : BitVec 32 := Scalar.addi v392 c3_i32_387
  let c0_i32_394 : BitVec 32 := 0#32
  let c0_i32_395 : BitVec 32 := 0#32
  ![v393.toNat, 0, 0]
def k1_dev7 (d0 : Dev nD) : Nat :=
  let c0_i32_391 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_15 : BitVec 32 := 1#32
  let v19 : BitVec 32 := Scalar.addi v2 c1_i32_15
  let c4_i32_16 : BitVec 32 := 4#32
  let v20 : BitVec 32 := Scalar.remsi v19 c4_i32_16
  let c1_i32_390 : BitVec 32 := 1#32
  let v396 : BitVec 32 := Scalar.muli v20 c1_i32_390
  let v397 : BitVec 32 := Scalar.addi c0_i32_391 v396
  v397.toNat
def k1_off10 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c10_i32_388 : BitVec 32 := 10#32
  let v394 : BitVec 32 := Scalar.muli v2 c10_i32_388
  let c4_i32_389 : BitVec 32 := 4#32
  let v395 : BitVec 32 := Scalar.addi v394 c4_i32_389
  let c0_i32_392 : BitVec 32 := 0#32
  let c0_i32_393 : BitVec 32 := 0#32
  ![v395.toNat, 0, 0]
def k1_off11 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_15 : BitVec 32 := 1#32
  let v19 : BitVec 32 := Scalar.addi v2 c1_i32_15
  let c4_i32_16 : BitVec 32 := 4#32
  let v20 : BitVec 32 := Scalar.remsi v19 c4_i32_16
  let c10_i32_386 : BitVec 32 := 10#32
  let v392 : BitVec 32 := Scalar.muli v20 c10_i32_386
  let c4_i32_387 : BitVec 32 := 4#32
  let v393 : BitVec 32 := Scalar.addi v392 c4_i32_387
  let c0_i32_394 : BitVec 32 := 0#32
  let c0_i32_395 : BitVec 32 := 0#32
  ![v393.toNat, 0, 0]
def k1_dev8 (d0 : Dev nD) : Nat :=
  let c0_i32_391 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_15 : BitVec 32 := 1#32
  let v19 : BitVec 32 := Scalar.addi v2 c1_i32_15
  let c4_i32_16 : BitVec 32 := 4#32
  let v20 : BitVec 32 := Scalar.remsi v19 c4_i32_16
  let c1_i32_390 : BitVec 32 := 1#32
  let v396 : BitVec 32 := Scalar.muli v20 c1_i32_390
  let v397 : BitVec 32 := Scalar.addi c0_i32_391 v396
  v397.toNat
def k1_off12 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c10_i32_388 : BitVec 32 := 10#32
  let v394 : BitVec 32 := Scalar.muli v2 c10_i32_388
  let c5_i32_389 : BitVec 32 := 5#32
  let v395 : BitVec 32 := Scalar.addi v394 c5_i32_389
  let c0_i32_392 : BitVec 32 := 0#32
  let c0_i32_393 : BitVec 32 := 0#32
  ![v395.toNat, 0, 0]
def k1_off13 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_15 : BitVec 32 := 1#32
  let v19 : BitVec 32 := Scalar.addi v2 c1_i32_15
  let c4_i32_16 : BitVec 32 := 4#32
  let v20 : BitVec 32 := Scalar.remsi v19 c4_i32_16
  let c10_i32_386 : BitVec 32 := 10#32
  let v392 : BitVec 32 := Scalar.muli v20 c10_i32_386
  let c5_i32_387 : BitVec 32 := 5#32
  let v393 : BitVec 32 := Scalar.addi v392 c5_i32_387
  let c0_i32_394 : BitVec 32 := 0#32
  let c0_i32_395 : BitVec 32 := 0#32
  ![v393.toNat, 0, 0]
def k1_dev9 (d0 : Dev nD) : Nat :=
  let c0_i32_391 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_15 : BitVec 32 := 1#32
  let v19 : BitVec 32 := Scalar.addi v2 c1_i32_15
  let c4_i32_16 : BitVec 32 := 4#32
  let v20 : BitVec 32 := Scalar.remsi v19 c4_i32_16
  let c1_i32_390 : BitVec 32 := 1#32
  let v396 : BitVec 32 := Scalar.muli v20 c1_i32_390
  let v397 : BitVec 32 := Scalar.addi c0_i32_391 v396
  v397.toNat
def k1_off14 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c10_i32_388 : BitVec 32 := 10#32
  let v394 : BitVec 32 := Scalar.muli v2 c10_i32_388
  let c6_i32_389 : BitVec 32 := 6#32
  let v395 : BitVec 32 := Scalar.addi v394 c6_i32_389
  let c0_i32_392 : BitVec 32 := 0#32
  let c0_i32_393 : BitVec 32 := 0#32
  ![v395.toNat, 0, 0]
def k1_off15 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_15 : BitVec 32 := 1#32
  let v19 : BitVec 32 := Scalar.addi v2 c1_i32_15
  let c4_i32_16 : BitVec 32 := 4#32
  let v20 : BitVec 32 := Scalar.remsi v19 c4_i32_16
  let c10_i32_386 : BitVec 32 := 10#32
  let v392 : BitVec 32 := Scalar.muli v20 c10_i32_386
  let c6_i32_387 : BitVec 32 := 6#32
  let v393 : BitVec 32 := Scalar.addi v392 c6_i32_387
  let c0_i32_394 : BitVec 32 := 0#32
  let c0_i32_395 : BitVec 32 := 0#32
  ![v393.toNat, 0, 0]
def k1_dev10 (d0 : Dev nD) : Nat :=
  let c0_i32_391 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_15 : BitVec 32 := 1#32
  let v19 : BitVec 32 := Scalar.addi v2 c1_i32_15
  let c4_i32_16 : BitVec 32 := 4#32
  let v20 : BitVec 32 := Scalar.remsi v19 c4_i32_16
  let c1_i32_390 : BitVec 32 := 1#32
  let v396 : BitVec 32 := Scalar.muli v20 c1_i32_390
  let v397 : BitVec 32 := Scalar.addi c0_i32_391 v396
  v397.toNat
def k1_off16 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c10_i32_388 : BitVec 32 := 10#32
  let v394 : BitVec 32 := Scalar.muli v2 c10_i32_388
  let c7_i32_389 : BitVec 32 := 7#32
  let v395 : BitVec 32 := Scalar.addi v394 c7_i32_389
  let c0_i32_392 : BitVec 32 := 0#32
  let c0_i32_393 : BitVec 32 := 0#32
  ![v395.toNat, 0, 0]
def k1_off17 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_15 : BitVec 32 := 1#32
  let v19 : BitVec 32 := Scalar.addi v2 c1_i32_15
  let c4_i32_16 : BitVec 32 := 4#32
  let v20 : BitVec 32 := Scalar.remsi v19 c4_i32_16
  let c10_i32_386 : BitVec 32 := 10#32
  let v392 : BitVec 32 := Scalar.muli v20 c10_i32_386
  let c7_i32_387 : BitVec 32 := 7#32
  let v393 : BitVec 32 := Scalar.addi v392 c7_i32_387
  let c0_i32_394 : BitVec 32 := 0#32
  let c0_i32_395 : BitVec 32 := 0#32
  ![v393.toNat, 0, 0]
def k1_dev11 (d0 : Dev nD) : Nat :=
  let c0_i32_391 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_15 : BitVec 32 := 1#32
  let v19 : BitVec 32 := Scalar.addi v2 c1_i32_15
  let c4_i32_16 : BitVec 32 := 4#32
  let v20 : BitVec 32 := Scalar.remsi v19 c4_i32_16
  let c1_i32_390 : BitVec 32 := 1#32
  let v396 : BitVec 32 := Scalar.muli v20 c1_i32_390
  let v397 : BitVec 32 := Scalar.addi c0_i32_391 v396
  v397.toNat
def k1_off18 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c10_i32_388 : BitVec 32 := 10#32
  let v394 : BitVec 32 := Scalar.muli v2 c10_i32_388
  let c8_i32_389 : BitVec 32 := 8#32
  let v395 : BitVec 32 := Scalar.addi v394 c8_i32_389
  let c0_i32_392 : BitVec 32 := 0#32
  let c0_i32_393 : BitVec 32 := 0#32
  ![v395.toNat, 0, 0]
def k1_off19 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_15 : BitVec 32 := 1#32
  let v19 : BitVec 32 := Scalar.addi v2 c1_i32_15
  let c4_i32_16 : BitVec 32 := 4#32
  let v20 : BitVec 32 := Scalar.remsi v19 c4_i32_16
  let c10_i32_386 : BitVec 32 := 10#32
  let v392 : BitVec 32 := Scalar.muli v20 c10_i32_386
  let c8_i32_387 : BitVec 32 := 8#32
  let v393 : BitVec 32 := Scalar.addi v392 c8_i32_387
  let c0_i32_394 : BitVec 32 := 0#32
  let c0_i32_395 : BitVec 32 := 0#32
  ![v393.toNat, 0, 0]
def k1_dev12 (d0 : Dev nD) : Nat :=
  let c0_i32_391 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_15 : BitVec 32 := 1#32
  let v19 : BitVec 32 := Scalar.addi v2 c1_i32_15
  let c4_i32_16 : BitVec 32 := 4#32
  let v20 : BitVec 32 := Scalar.remsi v19 c4_i32_16
  let c1_i32_390 : BitVec 32 := 1#32
  let v396 : BitVec 32 := Scalar.muli v20 c1_i32_390
  let v397 : BitVec 32 := Scalar.addi c0_i32_391 v396
  v397.toNat
def k1_off20 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c10_i32_388 : BitVec 32 := 10#32
  let v394 : BitVec 32 := Scalar.muli v2 c10_i32_388
  let c9_i32_389 : BitVec 32 := 9#32
  let v395 : BitVec 32 := Scalar.addi v394 c9_i32_389
  let c0_i32_392 : BitVec 32 := 0#32
  let c0_i32_393 : BitVec 32 := 0#32
  ![v395.toNat, 0, 0]
def k1_off21 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_15 : BitVec 32 := 1#32
  let v19 : BitVec 32 := Scalar.addi v2 c1_i32_15
  let c4_i32_16 : BitVec 32 := 4#32
  let v20 : BitVec 32 := Scalar.remsi v19 c4_i32_16
  let c10_i32_386 : BitVec 32 := 10#32
  let v392 : BitVec 32 := Scalar.muli v20 c10_i32_386
  let c9_i32_387 : BitVec 32 := 9#32
  let v393 : BitVec 32 := Scalar.addi v392 c9_i32_387
  let c0_i32_394 : BitVec 32 := 0#32
  let c0_i32_395 : BitVec 32 := 0#32
  ![v393.toNat, 0, 0]
def k1_dev13 (d0 : Dev nD) : Nat :=
  let c0_i32_391 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_15 : BitVec 32 := 1#32
  let v19 : BitVec 32 := Scalar.addi v2 c1_i32_15
  let c4_i32_16 : BitVec 32 := 4#32
  let v20 : BitVec 32 := Scalar.remsi v19 c4_i32_16
  let c1_i32_390 : BitVec 32 := 1#32
  let v396 : BitVec 32 := Scalar.muli v20 c1_i32_390
  let v397 : BitVec 32 := Scalar.addi c0_i32_391 v396
  v397.toNat
def k1_off22 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_32 : BitVec 32 := 2#32
  let v53 : BitVec 32 := Scalar.addi v2 c2_i32_32
  let c4_i32_33 : BitVec 32 := 4#32
  let v54 : BitVec 32 := Scalar.remsi v53 c4_i32_33
  let v55 : Index := Scalar.indexCast v54
  ![v55.toNat]
def k1_off23 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c10_i32_388 : BitVec 32 := 10#32
  let v394 : BitVec 32 := Scalar.muli v2 c10_i32_388
  let c0_i32_389 : BitVec 32 := 0#32
  let v395 : BitVec 32 := Scalar.addi v394 c0_i32_389
  let c0_i32_392 : BitVec 32 := 0#32
  let c0_i32_393 : BitVec 32 := 0#32
  ![v395.toNat, 0, 0]
def k1_off24 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_32 : BitVec 32 := 2#32
  let v53 : BitVec 32 := Scalar.addi v2 c2_i32_32
  let c4_i32_33 : BitVec 32 := 4#32
  let v54 : BitVec 32 := Scalar.remsi v53 c4_i32_33
  let c10_i32_386 : BitVec 32 := 10#32
  let v392 : BitVec 32 := Scalar.muli v54 c10_i32_386
  let c0_i32_387 : BitVec 32 := 0#32
  let v393 : BitVec 32 := Scalar.addi v392 c0_i32_387
  let c0_i32_394 : BitVec 32 := 0#32
  let c0_i32_395 : BitVec 32 := 0#32
  ![v393.toNat, 0, 0]
def k1_dev14 (d0 : Dev nD) : Nat :=
  let c0_i32_391 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_32 : BitVec 32 := 2#32
  let v53 : BitVec 32 := Scalar.addi v2 c2_i32_32
  let c4_i32_33 : BitVec 32 := 4#32
  let v54 : BitVec 32 := Scalar.remsi v53 c4_i32_33
  let c1_i32_390 : BitVec 32 := 1#32
  let v396 : BitVec 32 := Scalar.muli v54 c1_i32_390
  let v397 : BitVec 32 := Scalar.addi c0_i32_391 v396
  v397.toNat
def k1_off25 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c10_i32_388 : BitVec 32 := 10#32
  let v394 : BitVec 32 := Scalar.muli v2 c10_i32_388
  let c1_i32_389 : BitVec 32 := 1#32
  let v395 : BitVec 32 := Scalar.addi v394 c1_i32_389
  let c0_i32_392 : BitVec 32 := 0#32
  let c0_i32_393 : BitVec 32 := 0#32
  ![v395.toNat, 0, 0]
def k1_off26 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_32 : BitVec 32 := 2#32
  let v53 : BitVec 32 := Scalar.addi v2 c2_i32_32
  let c4_i32_33 : BitVec 32 := 4#32
  let v54 : BitVec 32 := Scalar.remsi v53 c4_i32_33
  let c10_i32_386 : BitVec 32 := 10#32
  let v392 : BitVec 32 := Scalar.muli v54 c10_i32_386
  let c1_i32_387 : BitVec 32 := 1#32
  let v393 : BitVec 32 := Scalar.addi v392 c1_i32_387
  let c0_i32_394 : BitVec 32 := 0#32
  let c0_i32_395 : BitVec 32 := 0#32
  ![v393.toNat, 0, 0]
def k1_dev15 (d0 : Dev nD) : Nat :=
  let c0_i32_391 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_32 : BitVec 32 := 2#32
  let v53 : BitVec 32 := Scalar.addi v2 c2_i32_32
  let c4_i32_33 : BitVec 32 := 4#32
  let v54 : BitVec 32 := Scalar.remsi v53 c4_i32_33
  let c1_i32_390 : BitVec 32 := 1#32
  let v396 : BitVec 32 := Scalar.muli v54 c1_i32_390
  let v397 : BitVec 32 := Scalar.addi c0_i32_391 v396
  v397.toNat
def k1_off27 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c10_i32_388 : BitVec 32 := 10#32
  let v394 : BitVec 32 := Scalar.muli v2 c10_i32_388
  let c2_i32_389 : BitVec 32 := 2#32
  let v395 : BitVec 32 := Scalar.addi v394 c2_i32_389
  let c0_i32_392 : BitVec 32 := 0#32
  let c0_i32_393 : BitVec 32 := 0#32
  ![v395.toNat, 0, 0]
def k1_off28 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_32 : BitVec 32 := 2#32
  let v53 : BitVec 32 := Scalar.addi v2 c2_i32_32
  let c4_i32_33 : BitVec 32 := 4#32
  let v54 : BitVec 32 := Scalar.remsi v53 c4_i32_33
  let c10_i32_386 : BitVec 32 := 10#32
  let v392 : BitVec 32 := Scalar.muli v54 c10_i32_386
  let c2_i32_387 : BitVec 32 := 2#32
  let v393 : BitVec 32 := Scalar.addi v392 c2_i32_387
  let c0_i32_394 : BitVec 32 := 0#32
  let c0_i32_395 : BitVec 32 := 0#32
  ![v393.toNat, 0, 0]
def k1_dev16 (d0 : Dev nD) : Nat :=
  let c0_i32_391 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_32 : BitVec 32 := 2#32
  let v53 : BitVec 32 := Scalar.addi v2 c2_i32_32
  let c4_i32_33 : BitVec 32 := 4#32
  let v54 : BitVec 32 := Scalar.remsi v53 c4_i32_33
  let c1_i32_390 : BitVec 32 := 1#32
  let v396 : BitVec 32 := Scalar.muli v54 c1_i32_390
  let v397 : BitVec 32 := Scalar.addi c0_i32_391 v396
  v397.toNat
def k1_off29 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c10_i32_388 : BitVec 32 := 10#32
  let v394 : BitVec 32 := Scalar.muli v2 c10_i32_388
  let c3_i32_389 : BitVec 32 := 3#32
  let v395 : BitVec 32 := Scalar.addi v394 c3_i32_389
  let c0_i32_392 : BitVec 32 := 0#32
  let c0_i32_393 : BitVec 32 := 0#32
  ![v395.toNat, 0, 0]
def k1_off30 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_32 : BitVec 32 := 2#32
  let v53 : BitVec 32 := Scalar.addi v2 c2_i32_32
  let c4_i32_33 : BitVec 32 := 4#32
  let v54 : BitVec 32 := Scalar.remsi v53 c4_i32_33
  let c10_i32_386 : BitVec 32 := 10#32
  let v392 : BitVec 32 := Scalar.muli v54 c10_i32_386
  let c3_i32_387 : BitVec 32 := 3#32
  let v393 : BitVec 32 := Scalar.addi v392 c3_i32_387
  let c0_i32_394 : BitVec 32 := 0#32
  let c0_i32_395 : BitVec 32 := 0#32
  ![v393.toNat, 0, 0]
def k1_dev17 (d0 : Dev nD) : Nat :=
  let c0_i32_391 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_32 : BitVec 32 := 2#32
  let v53 : BitVec 32 := Scalar.addi v2 c2_i32_32
  let c4_i32_33 : BitVec 32 := 4#32
  let v54 : BitVec 32 := Scalar.remsi v53 c4_i32_33
  let c1_i32_390 : BitVec 32 := 1#32
  let v396 : BitVec 32 := Scalar.muli v54 c1_i32_390
  let v397 : BitVec 32 := Scalar.addi c0_i32_391 v396
  v397.toNat
def k1_off31 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c10_i32_388 : BitVec 32 := 10#32
  let v394 : BitVec 32 := Scalar.muli v2 c10_i32_388
  let c4_i32_389 : BitVec 32 := 4#32
  let v395 : BitVec 32 := Scalar.addi v394 c4_i32_389
  let c0_i32_392 : BitVec 32 := 0#32
  let c0_i32_393 : BitVec 32 := 0#32
  ![v395.toNat, 0, 0]
def k1_off32 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_32 : BitVec 32 := 2#32
  let v53 : BitVec 32 := Scalar.addi v2 c2_i32_32
  let c4_i32_33 : BitVec 32 := 4#32
  let v54 : BitVec 32 := Scalar.remsi v53 c4_i32_33
  let c10_i32_386 : BitVec 32 := 10#32
  let v392 : BitVec 32 := Scalar.muli v54 c10_i32_386
  let c4_i32_387 : BitVec 32 := 4#32
  let v393 : BitVec 32 := Scalar.addi v392 c4_i32_387
  let c0_i32_394 : BitVec 32 := 0#32
  let c0_i32_395 : BitVec 32 := 0#32
  ![v393.toNat, 0, 0]
def k1_dev18 (d0 : Dev nD) : Nat :=
  let c0_i32_391 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_32 : BitVec 32 := 2#32
  let v53 : BitVec 32 := Scalar.addi v2 c2_i32_32
  let c4_i32_33 : BitVec 32 := 4#32
  let v54 : BitVec 32 := Scalar.remsi v53 c4_i32_33
  let c1_i32_390 : BitVec 32 := 1#32
  let v396 : BitVec 32 := Scalar.muli v54 c1_i32_390
  let v397 : BitVec 32 := Scalar.addi c0_i32_391 v396
  v397.toNat
def k1_off33 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c10_i32_388 : BitVec 32 := 10#32
  let v394 : BitVec 32 := Scalar.muli v2 c10_i32_388
  let c5_i32_389 : BitVec 32 := 5#32
  let v395 : BitVec 32 := Scalar.addi v394 c5_i32_389
  let c0_i32_392 : BitVec 32 := 0#32
  let c0_i32_393 : BitVec 32 := 0#32
  ![v395.toNat, 0, 0]
def k1_off34 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_32 : BitVec 32 := 2#32
  let v53 : BitVec 32 := Scalar.addi v2 c2_i32_32
  let c4_i32_33 : BitVec 32 := 4#32
  let v54 : BitVec 32 := Scalar.remsi v53 c4_i32_33
  let c10_i32_386 : BitVec 32 := 10#32
  let v392 : BitVec 32 := Scalar.muli v54 c10_i32_386
  let c5_i32_387 : BitVec 32 := 5#32
  let v393 : BitVec 32 := Scalar.addi v392 c5_i32_387
  let c0_i32_394 : BitVec 32 := 0#32
  let c0_i32_395 : BitVec 32 := 0#32
  ![v393.toNat, 0, 0]
def k1_dev19 (d0 : Dev nD) : Nat :=
  let c0_i32_391 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_32 : BitVec 32 := 2#32
  let v53 : BitVec 32 := Scalar.addi v2 c2_i32_32
  let c4_i32_33 : BitVec 32 := 4#32
  let v54 : BitVec 32 := Scalar.remsi v53 c4_i32_33
  let c1_i32_390 : BitVec 32 := 1#32
  let v396 : BitVec 32 := Scalar.muli v54 c1_i32_390
  let v397 : BitVec 32 := Scalar.addi c0_i32_391 v396
  v397.toNat
def k1_off35 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c10_i32_388 : BitVec 32 := 10#32
  let v394 : BitVec 32 := Scalar.muli v2 c10_i32_388
  let c6_i32_389 : BitVec 32 := 6#32
  let v395 : BitVec 32 := Scalar.addi v394 c6_i32_389
  let c0_i32_392 : BitVec 32 := 0#32
  let c0_i32_393 : BitVec 32 := 0#32
  ![v395.toNat, 0, 0]
def k1_off36 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_32 : BitVec 32 := 2#32
  let v53 : BitVec 32 := Scalar.addi v2 c2_i32_32
  let c4_i32_33 : BitVec 32 := 4#32
  let v54 : BitVec 32 := Scalar.remsi v53 c4_i32_33
  let c10_i32_386 : BitVec 32 := 10#32
  let v392 : BitVec 32 := Scalar.muli v54 c10_i32_386
  let c6_i32_387 : BitVec 32 := 6#32
  let v393 : BitVec 32 := Scalar.addi v392 c6_i32_387
  let c0_i32_394 : BitVec 32 := 0#32
  let c0_i32_395 : BitVec 32 := 0#32
  ![v393.toNat, 0, 0]
def k1_dev20 (d0 : Dev nD) : Nat :=
  let c0_i32_391 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_32 : BitVec 32 := 2#32
  let v53 : BitVec 32 := Scalar.addi v2 c2_i32_32
  let c4_i32_33 : BitVec 32 := 4#32
  let v54 : BitVec 32 := Scalar.remsi v53 c4_i32_33
  let c1_i32_390 : BitVec 32 := 1#32
  let v396 : BitVec 32 := Scalar.muli v54 c1_i32_390
  let v397 : BitVec 32 := Scalar.addi c0_i32_391 v396
  v397.toNat
def k1_off37 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c10_i32_388 : BitVec 32 := 10#32
  let v394 : BitVec 32 := Scalar.muli v2 c10_i32_388
  let c7_i32_389 : BitVec 32 := 7#32
  let v395 : BitVec 32 := Scalar.addi v394 c7_i32_389
  let c0_i32_392 : BitVec 32 := 0#32
  let c0_i32_393 : BitVec 32 := 0#32
  ![v395.toNat, 0, 0]
def k1_off38 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_32 : BitVec 32 := 2#32
  let v53 : BitVec 32 := Scalar.addi v2 c2_i32_32
  let c4_i32_33 : BitVec 32 := 4#32
  let v54 : BitVec 32 := Scalar.remsi v53 c4_i32_33
  let c10_i32_386 : BitVec 32 := 10#32
  let v392 : BitVec 32 := Scalar.muli v54 c10_i32_386
  let c7_i32_387 : BitVec 32 := 7#32
  let v393 : BitVec 32 := Scalar.addi v392 c7_i32_387
  let c0_i32_394 : BitVec 32 := 0#32
  let c0_i32_395 : BitVec 32 := 0#32
  ![v393.toNat, 0, 0]
def k1_dev21 (d0 : Dev nD) : Nat :=
  let c0_i32_391 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_32 : BitVec 32 := 2#32
  let v53 : BitVec 32 := Scalar.addi v2 c2_i32_32
  let c4_i32_33 : BitVec 32 := 4#32
  let v54 : BitVec 32 := Scalar.remsi v53 c4_i32_33
  let c1_i32_390 : BitVec 32 := 1#32
  let v396 : BitVec 32 := Scalar.muli v54 c1_i32_390
  let v397 : BitVec 32 := Scalar.addi c0_i32_391 v396
  v397.toNat
def k1_off39 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c10_i32_388 : BitVec 32 := 10#32
  let v394 : BitVec 32 := Scalar.muli v2 c10_i32_388
  let c8_i32_389 : BitVec 32 := 8#32
  let v395 : BitVec 32 := Scalar.addi v394 c8_i32_389
  let c0_i32_392 : BitVec 32 := 0#32
  let c0_i32_393 : BitVec 32 := 0#32
  ![v395.toNat, 0, 0]
def k1_off40 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_32 : BitVec 32 := 2#32
  let v53 : BitVec 32 := Scalar.addi v2 c2_i32_32
  let c4_i32_33 : BitVec 32 := 4#32
  let v54 : BitVec 32 := Scalar.remsi v53 c4_i32_33
  let c10_i32_386 : BitVec 32 := 10#32
  let v392 : BitVec 32 := Scalar.muli v54 c10_i32_386
  let c8_i32_387 : BitVec 32 := 8#32
  let v393 : BitVec 32 := Scalar.addi v392 c8_i32_387
  let c0_i32_394 : BitVec 32 := 0#32
  let c0_i32_395 : BitVec 32 := 0#32
  ![v393.toNat, 0, 0]
def k1_dev22 (d0 : Dev nD) : Nat :=
  let c0_i32_391 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_32 : BitVec 32 := 2#32
  let v53 : BitVec 32 := Scalar.addi v2 c2_i32_32
  let c4_i32_33 : BitVec 32 := 4#32
  let v54 : BitVec 32 := Scalar.remsi v53 c4_i32_33
  let c1_i32_390 : BitVec 32 := 1#32
  let v396 : BitVec 32 := Scalar.muli v54 c1_i32_390
  let v397 : BitVec 32 := Scalar.addi c0_i32_391 v396
  v397.toNat
def k1_off41 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c10_i32_388 : BitVec 32 := 10#32
  let v394 : BitVec 32 := Scalar.muli v2 c10_i32_388
  let c9_i32_389 : BitVec 32 := 9#32
  let v395 : BitVec 32 := Scalar.addi v394 c9_i32_389
  let c0_i32_392 : BitVec 32 := 0#32
  let c0_i32_393 : BitVec 32 := 0#32
  ![v395.toNat, 0, 0]
def k1_off42 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_32 : BitVec 32 := 2#32
  let v53 : BitVec 32 := Scalar.addi v2 c2_i32_32
  let c4_i32_33 : BitVec 32 := 4#32
  let v54 : BitVec 32 := Scalar.remsi v53 c4_i32_33
  let c10_i32_386 : BitVec 32 := 10#32
  let v392 : BitVec 32 := Scalar.muli v54 c10_i32_386
  let c9_i32_387 : BitVec 32 := 9#32
  let v393 : BitVec 32 := Scalar.addi v392 c9_i32_387
  let c0_i32_394 : BitVec 32 := 0#32
  let c0_i32_395 : BitVec 32 := 0#32
  ![v393.toNat, 0, 0]
def k1_dev23 (d0 : Dev nD) : Nat :=
  let c0_i32_391 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_32 : BitVec 32 := 2#32
  let v53 : BitVec 32 := Scalar.addi v2 c2_i32_32
  let c4_i32_33 : BitVec 32 := 4#32
  let v54 : BitVec 32 := Scalar.remsi v53 c4_i32_33
  let c1_i32_390 : BitVec 32 := 1#32
  let v396 : BitVec 32 := Scalar.muli v54 c1_i32_390
  let v397 : BitVec 32 := Scalar.addi c0_i32_391 v396
  v397.toNat
def k1_off43 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_54 : BitVec 32 := 3#32
  let v87 : BitVec 32 := Scalar.addi v2 c3_i32_54
  let c4_i32_55 : BitVec 32 := 4#32
  let v88 : BitVec 32 := Scalar.remsi v87 c4_i32_55
  let v89 : Index := Scalar.indexCast v88
  ![v89.toNat]
def k1_off44 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c10_i32_388 : BitVec 32 := 10#32
  let v394 : BitVec 32 := Scalar.muli v2 c10_i32_388
  let c0_i32_389 : BitVec 32 := 0#32
  let v395 : BitVec 32 := Scalar.addi v394 c0_i32_389
  let c0_i32_392 : BitVec 32 := 0#32
  let c0_i32_393 : BitVec 32 := 0#32
  ![v395.toNat, 0, 0]
def k1_off45 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_54 : BitVec 32 := 3#32
  let v87 : BitVec 32 := Scalar.addi v2 c3_i32_54
  let c4_i32_55 : BitVec 32 := 4#32
  let v88 : BitVec 32 := Scalar.remsi v87 c4_i32_55
  let c10_i32_386 : BitVec 32 := 10#32
  let v392 : BitVec 32 := Scalar.muli v88 c10_i32_386
  let c0_i32_387 : BitVec 32 := 0#32
  let v393 : BitVec 32 := Scalar.addi v392 c0_i32_387
  let c0_i32_394 : BitVec 32 := 0#32
  let c0_i32_395 : BitVec 32 := 0#32
  ![v393.toNat, 0, 0]
def k1_dev24 (d0 : Dev nD) : Nat :=
  let c0_i32_391 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_54 : BitVec 32 := 3#32
  let v87 : BitVec 32 := Scalar.addi v2 c3_i32_54
  let c4_i32_55 : BitVec 32 := 4#32
  let v88 : BitVec 32 := Scalar.remsi v87 c4_i32_55
  let c1_i32_390 : BitVec 32 := 1#32
  let v396 : BitVec 32 := Scalar.muli v88 c1_i32_390
  let v397 : BitVec 32 := Scalar.addi c0_i32_391 v396
  v397.toNat
def k1_off46 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c10_i32_388 : BitVec 32 := 10#32
  let v394 : BitVec 32 := Scalar.muli v2 c10_i32_388
  let c1_i32_389 : BitVec 32 := 1#32
  let v395 : BitVec 32 := Scalar.addi v394 c1_i32_389
  let c0_i32_392 : BitVec 32 := 0#32
  let c0_i32_393 : BitVec 32 := 0#32
  ![v395.toNat, 0, 0]
def k1_off47 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_54 : BitVec 32 := 3#32
  let v87 : BitVec 32 := Scalar.addi v2 c3_i32_54
  let c4_i32_55 : BitVec 32 := 4#32
  let v88 : BitVec 32 := Scalar.remsi v87 c4_i32_55
  let c10_i32_386 : BitVec 32 := 10#32
  let v392 : BitVec 32 := Scalar.muli v88 c10_i32_386
  let c1_i32_387 : BitVec 32 := 1#32
  let v393 : BitVec 32 := Scalar.addi v392 c1_i32_387
  let c0_i32_394 : BitVec 32 := 0#32
  let c0_i32_395 : BitVec 32 := 0#32
  ![v393.toNat, 0, 0]
def k1_dev25 (d0 : Dev nD) : Nat :=
  let c0_i32_391 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_54 : BitVec 32 := 3#32
  let v87 : BitVec 32 := Scalar.addi v2 c3_i32_54
  let c4_i32_55 : BitVec 32 := 4#32
  let v88 : BitVec 32 := Scalar.remsi v87 c4_i32_55
  let c1_i32_390 : BitVec 32 := 1#32
  let v396 : BitVec 32 := Scalar.muli v88 c1_i32_390
  let v397 : BitVec 32 := Scalar.addi c0_i32_391 v396
  v397.toNat
def k1_off48 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c10_i32_388 : BitVec 32 := 10#32
  let v394 : BitVec 32 := Scalar.muli v2 c10_i32_388
  let c2_i32_389 : BitVec 32 := 2#32
  let v395 : BitVec 32 := Scalar.addi v394 c2_i32_389
  let c0_i32_392 : BitVec 32 := 0#32
  let c0_i32_393 : BitVec 32 := 0#32
  ![v395.toNat, 0, 0]
def k1_off49 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_54 : BitVec 32 := 3#32
  let v87 : BitVec 32 := Scalar.addi v2 c3_i32_54
  let c4_i32_55 : BitVec 32 := 4#32
  let v88 : BitVec 32 := Scalar.remsi v87 c4_i32_55
  let c10_i32_386 : BitVec 32 := 10#32
  let v392 : BitVec 32 := Scalar.muli v88 c10_i32_386
  let c2_i32_387 : BitVec 32 := 2#32
  let v393 : BitVec 32 := Scalar.addi v392 c2_i32_387
  let c0_i32_394 : BitVec 32 := 0#32
  let c0_i32_395 : BitVec 32 := 0#32
  ![v393.toNat, 0, 0]
def k1_dev26 (d0 : Dev nD) : Nat :=
  let c0_i32_391 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_54 : BitVec 32 := 3#32
  let v87 : BitVec 32 := Scalar.addi v2 c3_i32_54
  let c4_i32_55 : BitVec 32 := 4#32
  let v88 : BitVec 32 := Scalar.remsi v87 c4_i32_55
  let c1_i32_390 : BitVec 32 := 1#32
  let v396 : BitVec 32 := Scalar.muli v88 c1_i32_390
  let v397 : BitVec 32 := Scalar.addi c0_i32_391 v396
  v397.toNat
def k1_off50 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c10_i32_388 : BitVec 32 := 10#32
  let v394 : BitVec 32 := Scalar.muli v2 c10_i32_388
  let c3_i32_389 : BitVec 32 := 3#32
  let v395 : BitVec 32 := Scalar.addi v394 c3_i32_389
  let c0_i32_392 : BitVec 32 := 0#32
  let c0_i32_393 : BitVec 32 := 0#32
  ![v395.toNat, 0, 0]
def k1_off51 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_54 : BitVec 32 := 3#32
  let v87 : BitVec 32 := Scalar.addi v2 c3_i32_54
  let c4_i32_55 : BitVec 32 := 4#32
  let v88 : BitVec 32 := Scalar.remsi v87 c4_i32_55
  let c10_i32_386 : BitVec 32 := 10#32
  let v392 : BitVec 32 := Scalar.muli v88 c10_i32_386
  let c3_i32_387 : BitVec 32 := 3#32
  let v393 : BitVec 32 := Scalar.addi v392 c3_i32_387
  let c0_i32_394 : BitVec 32 := 0#32
  let c0_i32_395 : BitVec 32 := 0#32
  ![v393.toNat, 0, 0]
def k1_dev27 (d0 : Dev nD) : Nat :=
  let c0_i32_391 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_54 : BitVec 32 := 3#32
  let v87 : BitVec 32 := Scalar.addi v2 c3_i32_54
  let c4_i32_55 : BitVec 32 := 4#32
  let v88 : BitVec 32 := Scalar.remsi v87 c4_i32_55
  let c1_i32_390 : BitVec 32 := 1#32
  let v396 : BitVec 32 := Scalar.muli v88 c1_i32_390
  let v397 : BitVec 32 := Scalar.addi c0_i32_391 v396
  v397.toNat
def k1_off52 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c10_i32_388 : BitVec 32 := 10#32
  let v394 : BitVec 32 := Scalar.muli v2 c10_i32_388
  let c4_i32_389 : BitVec 32 := 4#32
  let v395 : BitVec 32 := Scalar.addi v394 c4_i32_389
  let c0_i32_392 : BitVec 32 := 0#32
  let c0_i32_393 : BitVec 32 := 0#32
  ![v395.toNat, 0, 0]
def k1_off53 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_54 : BitVec 32 := 3#32
  let v87 : BitVec 32 := Scalar.addi v2 c3_i32_54
  let c4_i32_55 : BitVec 32 := 4#32
  let v88 : BitVec 32 := Scalar.remsi v87 c4_i32_55
  let c10_i32_386 : BitVec 32 := 10#32
  let v392 : BitVec 32 := Scalar.muli v88 c10_i32_386
  let c4_i32_387 : BitVec 32 := 4#32
  let v393 : BitVec 32 := Scalar.addi v392 c4_i32_387
  let c0_i32_394 : BitVec 32 := 0#32
  let c0_i32_395 : BitVec 32 := 0#32
  ![v393.toNat, 0, 0]
def k1_dev28 (d0 : Dev nD) : Nat :=
  let c0_i32_391 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_54 : BitVec 32 := 3#32
  let v87 : BitVec 32 := Scalar.addi v2 c3_i32_54
  let c4_i32_55 : BitVec 32 := 4#32
  let v88 : BitVec 32 := Scalar.remsi v87 c4_i32_55
  let c1_i32_390 : BitVec 32 := 1#32
  let v396 : BitVec 32 := Scalar.muli v88 c1_i32_390
  let v397 : BitVec 32 := Scalar.addi c0_i32_391 v396
  v397.toNat
def k1_off54 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c10_i32_388 : BitVec 32 := 10#32
  let v394 : BitVec 32 := Scalar.muli v2 c10_i32_388
  let c5_i32_389 : BitVec 32 := 5#32
  let v395 : BitVec 32 := Scalar.addi v394 c5_i32_389
  let c0_i32_392 : BitVec 32 := 0#32
  let c0_i32_393 : BitVec 32 := 0#32
  ![v395.toNat, 0, 0]
def k1_off55 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_54 : BitVec 32 := 3#32
  let v87 : BitVec 32 := Scalar.addi v2 c3_i32_54
  let c4_i32_55 : BitVec 32 := 4#32
  let v88 : BitVec 32 := Scalar.remsi v87 c4_i32_55
  let c10_i32_386 : BitVec 32 := 10#32
  let v392 : BitVec 32 := Scalar.muli v88 c10_i32_386
  let c5_i32_387 : BitVec 32 := 5#32
  let v393 : BitVec 32 := Scalar.addi v392 c5_i32_387
  let c0_i32_394 : BitVec 32 := 0#32
  let c0_i32_395 : BitVec 32 := 0#32
  ![v393.toNat, 0, 0]
def k1_dev29 (d0 : Dev nD) : Nat :=
  let c0_i32_391 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_54 : BitVec 32 := 3#32
  let v87 : BitVec 32 := Scalar.addi v2 c3_i32_54
  let c4_i32_55 : BitVec 32 := 4#32
  let v88 : BitVec 32 := Scalar.remsi v87 c4_i32_55
  let c1_i32_390 : BitVec 32 := 1#32
  let v396 : BitVec 32 := Scalar.muli v88 c1_i32_390
  let v397 : BitVec 32 := Scalar.addi c0_i32_391 v396
  v397.toNat
def k1_off56 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c10_i32_388 : BitVec 32 := 10#32
  let v394 : BitVec 32 := Scalar.muli v2 c10_i32_388
  let c6_i32_389 : BitVec 32 := 6#32
  let v395 : BitVec 32 := Scalar.addi v394 c6_i32_389
  let c0_i32_392 : BitVec 32 := 0#32
  let c0_i32_393 : BitVec 32 := 0#32
  ![v395.toNat, 0, 0]
def k1_off57 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_54 : BitVec 32 := 3#32
  let v87 : BitVec 32 := Scalar.addi v2 c3_i32_54
  let c4_i32_55 : BitVec 32 := 4#32
  let v88 : BitVec 32 := Scalar.remsi v87 c4_i32_55
  let c10_i32_386 : BitVec 32 := 10#32
  let v392 : BitVec 32 := Scalar.muli v88 c10_i32_386
  let c6_i32_387 : BitVec 32 := 6#32
  let v393 : BitVec 32 := Scalar.addi v392 c6_i32_387
  let c0_i32_394 : BitVec 32 := 0#32
  let c0_i32_395 : BitVec 32 := 0#32
  ![v393.toNat, 0, 0]
def k1_dev30 (d0 : Dev nD) : Nat :=
  let c0_i32_391 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_54 : BitVec 32 := 3#32
  let v87 : BitVec 32 := Scalar.addi v2 c3_i32_54
  let c4_i32_55 : BitVec 32 := 4#32
  let v88 : BitVec 32 := Scalar.remsi v87 c4_i32_55
  let c1_i32_390 : BitVec 32 := 1#32
  let v396 : BitVec 32 := Scalar.muli v88 c1_i32_390
  let v397 : BitVec 32 := Scalar.addi c0_i32_391 v396
  v397.toNat
def k1_off58 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c10_i32_388 : BitVec 32 := 10#32
  let v394 : BitVec 32 := Scalar.muli v2 c10_i32_388
  let c7_i32_389 : BitVec 32 := 7#32
  let v395 : BitVec 32 := Scalar.addi v394 c7_i32_389
  let c0_i32_392 : BitVec 32 := 0#32
  let c0_i32_393 : BitVec 32 := 0#32
  ![v395.toNat, 0, 0]
def k1_off59 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_54 : BitVec 32 := 3#32
  let v87 : BitVec 32 := Scalar.addi v2 c3_i32_54
  let c4_i32_55 : BitVec 32 := 4#32
  let v88 : BitVec 32 := Scalar.remsi v87 c4_i32_55
  let c10_i32_386 : BitVec 32 := 10#32
  let v392 : BitVec 32 := Scalar.muli v88 c10_i32_386
  let c7_i32_387 : BitVec 32 := 7#32
  let v393 : BitVec 32 := Scalar.addi v392 c7_i32_387
  let c0_i32_394 : BitVec 32 := 0#32
  let c0_i32_395 : BitVec 32 := 0#32
  ![v393.toNat, 0, 0]
def k1_dev31 (d0 : Dev nD) : Nat :=
  let c0_i32_391 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_54 : BitVec 32 := 3#32
  let v87 : BitVec 32 := Scalar.addi v2 c3_i32_54
  let c4_i32_55 : BitVec 32 := 4#32
  let v88 : BitVec 32 := Scalar.remsi v87 c4_i32_55
  let c1_i32_390 : BitVec 32 := 1#32
  let v396 : BitVec 32 := Scalar.muli v88 c1_i32_390
  let v397 : BitVec 32 := Scalar.addi c0_i32_391 v396
  v397.toNat
def k1_off60 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c10_i32_388 : BitVec 32 := 10#32
  let v394 : BitVec 32 := Scalar.muli v2 c10_i32_388
  let c8_i32_389 : BitVec 32 := 8#32
  let v395 : BitVec 32 := Scalar.addi v394 c8_i32_389
  let c0_i32_392 : BitVec 32 := 0#32
  let c0_i32_393 : BitVec 32 := 0#32
  ![v395.toNat, 0, 0]
def k1_off61 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_54 : BitVec 32 := 3#32
  let v87 : BitVec 32 := Scalar.addi v2 c3_i32_54
  let c4_i32_55 : BitVec 32 := 4#32
  let v88 : BitVec 32 := Scalar.remsi v87 c4_i32_55
  let c10_i32_386 : BitVec 32 := 10#32
  let v392 : BitVec 32 := Scalar.muli v88 c10_i32_386
  let c8_i32_387 : BitVec 32 := 8#32
  let v393 : BitVec 32 := Scalar.addi v392 c8_i32_387
  let c0_i32_394 : BitVec 32 := 0#32
  let c0_i32_395 : BitVec 32 := 0#32
  ![v393.toNat, 0, 0]
def k1_dev32 (d0 : Dev nD) : Nat :=
  let c0_i32_391 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_54 : BitVec 32 := 3#32
  let v87 : BitVec 32 := Scalar.addi v2 c3_i32_54
  let c4_i32_55 : BitVec 32 := 4#32
  let v88 : BitVec 32 := Scalar.remsi v87 c4_i32_55
  let c1_i32_390 : BitVec 32 := 1#32
  let v396 : BitVec 32 := Scalar.muli v88 c1_i32_390
  let v397 : BitVec 32 := Scalar.addi c0_i32_391 v396
  v397.toNat
def k1_off62 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c10_i32_388 : BitVec 32 := 10#32
  let v394 : BitVec 32 := Scalar.muli v2 c10_i32_388
  let c9_i32_389 : BitVec 32 := 9#32
  let v395 : BitVec 32 := Scalar.addi v394 c9_i32_389
  let c0_i32_392 : BitVec 32 := 0#32
  let c0_i32_393 : BitVec 32 := 0#32
  ![v395.toNat, 0, 0]
def k1_off63 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_54 : BitVec 32 := 3#32
  let v87 : BitVec 32 := Scalar.addi v2 c3_i32_54
  let c4_i32_55 : BitVec 32 := 4#32
  let v88 : BitVec 32 := Scalar.remsi v87 c4_i32_55
  let c10_i32_386 : BitVec 32 := 10#32
  let v392 : BitVec 32 := Scalar.muli v88 c10_i32_386
  let c9_i32_387 : BitVec 32 := 9#32
  let v393 : BitVec 32 := Scalar.addi v392 c9_i32_387
  let c0_i32_394 : BitVec 32 := 0#32
  let c0_i32_395 : BitVec 32 := 0#32
  ![v393.toNat, 0, 0]
def k1_dev33 (d0 : Dev nD) : Nat :=
  let c0_i32_391 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_54 : BitVec 32 := 3#32
  let v87 : BitVec 32 := Scalar.addi v2 c3_i32_54
  let c4_i32_55 : BitVec 32 := 4#32
  let v88 : BitVec 32 := Scalar.remsi v87 c4_i32_55
  let c1_i32_390 : BitVec 32 := 1#32
  let v396 : BitVec 32 := Scalar.muli v88 c1_i32_390
  let v397 : BitVec 32 := Scalar.addi c0_i32_391 v396
  v397.toNat
def k1_off64 (d0 : Dev nD) (c0_i32_78 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c10_i32_77 : BitVec 32 := 10#32
  let v123 : BitVec 32 := Scalar.muli v2 c10_i32_77
  let v124 : BitVec 32 := Scalar.addi v123 c0_i32_78
  let c0_i32_79 : BitVec 32 := 0#32
  let c0_i32_80 : BitVec 32 := 0#32
  ![v124.toNat, 0, 0]
abbrev stage1_0 : Fin 1 → Memref sig .tc .vmem S40x64x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .smem S5 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S40x64x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
-- ==== ReferenceIdeal.lean ====
abbrev S8192x1024 : Shape := ⟨2, ![8192, 1024]⟩
abbrev S8192 : Shape := ⟨1, ![8192]⟩
abbrev S_ : Shape := ⟨0, ![]⟩
abbrev S8192x1 : Shape := ⟨2, ![8192, 1]⟩

abbrev nBuf : Space → Nat
  | .hbm => 15
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192, .i32⟩
  | .hbm, ⟨2, _⟩ => ⟨S8192, .i32⟩
  | .hbm, ⟨3, _⟩ => ⟨S8192, .i32⟩
  | .hbm, ⟨4, _⟩ => ⟨S8192, .i32⟩
  | .hbm, ⟨5, _⟩ => ⟨S_, .i32⟩
  | .hbm, ⟨6, _⟩ => ⟨S8192, .i32⟩
  | .hbm, ⟨7, _⟩ => ⟨S8192, .i1⟩
  | .hbm, ⟨8, _⟩ => ⟨S_, .i32⟩
  | .hbm, ⟨9, _⟩ => ⟨S8192, .i32⟩
  | .hbm, ⟨10, _⟩ => ⟨S8192, .i32⟩
  | .hbm, ⟨11, _⟩ => ⟨S8192, .i32⟩
  | .hbm, ⟨12, _⟩ => ⟨S8192x1, .i32⟩
  | .hbm, ⟨13, _⟩ => ⟨S8192x1024, .bf16⟩
  | .hbm, ⟨14, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== Proof.KernelIdeal.Proto.lean ====
/-
The protocol of the two kernels: the blocks of the exchanged arrays, the schedule of the semaphore cells, and what each device owes.

Duties are pairs (device, number). Every cell has its duties in round 0:
- a barrier cell has one duty per other device, named (that device, 0), of one unit; it hands over the part of that device's result that this
  device writes, and that the device's receive cell is open;
- a send cell has one duty per copy, named (target, number), handing back what the copy reads;
- a receive cell has one duty per copy, named (source, number), handing over what the copy wrote;
- the local cell has one duty per local copy, handing over both ends.
-/
module

public import proofs.«01_k».proof.Proof.Gen.KernelIdeal
public import proofs.«01_k».proof.Proof.Gen.KernelIdeal.Launch
public import Idealize.ShloMosaic.Lib.Pipeline.Launch
public import Idealize.ShloMosaic.Lib.Pipeline.Kit
public import Idealize.ShloMosaic.Lib.Pipeline.TalkSites
public import Idealize.ShloMosaic.Lib.Pipeline.ValueKit
public import Idealize.ShloMosaic.Lib.Tactic

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.TalkSites (Pay tallyL)

variable {F : FTy → Type} [FloatOps F]

abbrev UB : Type := URounds (GSem nD τ sig) (Dev nD × ℕ)
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

/-! ## The cells -/

abbrev bar0 : Sem sig := (SemArray.scalar (sig.barrier 0 rfl) : Sems sig S_).sem
abbrev bar1 : Sem sig := (SemArray.scalar (sig.barrier 1 rfl) : Sems sig S_).sem
abbrev mB0 : SemLoc sig := .reg bar0
abbrev mB1 : SemLoc sig := .reg bar1
abbrev mS0 : SemLoc sig := .dma cc0_scratch0.sem
abbrev mR0 : SemLoc sig := .dma cc0_scratch1.sem
abbrev mS1 : SemLoc sig := .dma cc1_scratch0.sem
abbrev mR1 : SemLoc sig := .dma cc1_scratch1.sem
abbrev mL1 : SemLoc sig := .dma cc1_scratch2.sem

/-- The seven cells of a device. -/
abbrev csem : Fin 7 → SemLoc sig := fun | 0 => mB0 | 1 => mB1 | 2 => mS0 | 3 => mR0 | 4 => mS1 | 5 => mR1 | 6 => mL1
abbrev cell (c : Dev nD) (sm : SemLoc sig) : GSem nD τ sig := ((c : Thread nD τ), sm)

theorem csem_injective : Function.Injective csem := by decide

/-- The device d places after c. -/
abbrev pl (c : Dev nD) (d : ℕ) : Dev nD := ⟨(c.val + d) % 4, Nat.mod_lt _ (by decide)⟩
/-- How many places s is before c. -/
abbrev rel (s c : Dev nD) : ℕ := (c.val + 4 - s.val) % 4
abbrev peers (c : Dev nD) : Finset (Dev nD) := Finset.univ.erase c

/-! ## The memrefs -/

abbrev cM : Memref sig .tc .vmem S8x128 .i32 := Memref.whole cc0_stg0_0
abbrev aM : Memref sig .tc .vmem S4x8x128 .i32 := Memref.whole cc0_stg1_0
abbrev xM : Memref sig .tc .vmem S40x64x1024 .bf16 := Memref.whole cc1_stg0_0
abbrev oM : Memref sig .tc .vmem S40x64x1024 .bf16 := Memref.whole cc1_stg2_0

/-- A block of 64 rows at the offsets o. -/
abbrev blkM (b : Memref sig .tc .vmem S40x64x1024 .bf16) (o : Fin 3 → ℕ) (h : ∀ a, o a + S1x64x1024.size a ≤ S40x64x1024.size a) :
    Memref sig .tc .vmem S64x1024 .bf16 :=
  (b.slice (Rect.unit (s := S40x64x1024) o S1x64x1024.size h) (fun _ => rfl)).squeeze S64x1024 squeezes_S1x64x1024_S64x1024
/-- A row of counts at the offsets o. -/
abbrev rowM (b : Memref sig .tc .vmem S4x8x128 .i32) (o : Fin 3 → ℕ) (h : ∀ a, o a + S1x8x128.size a ≤ S4x8x128.size a) :
    Memref sig .tc .vmem S8x128 .i32 :=
  (b.slice (Rect.unit (s := S4x8x128) o S1x8x128.size h) (fun _ => rfl)).squeeze S8x128 squeezes_S1x8x128_S8x128

abbrev N0 : ℕ := (cM : Memref sig .tc .vmem S8x128 .i32).view.dmaCredit
abbrev N1 : ℕ := (blkM oM ![0, 0, 0] inb_S40x64x1024_S1x64x1024_0_0_0).view.dmaCredit
theorem N0_pos : 0 < N0 := View.dmaCredit_pos _ (by decide)
theorem N1_pos : 0 < N1 := View.dmaCredit_pos _ (by decide)

/-- The elements of block i. -/
def blk (i : ℕ) : Finset S40x64x1024.Idx := Finset.univ.filter fun x => (x 0).val = i
/-- The elements of row i of the counts. -/
def row (i : ℕ) : Finset S4x8x128.Idx := Finset.univ.filter fun x => (x 0).val = i

theorem mem_blk {i : ℕ} {x : S40x64x1024.Idx} : x ∈ blk i ↔ (x 0).val = i := by unfold blk; rw [Finset.mem_filter]; simp
theorem mem_row {i : ℕ} {x : S4x8x128.Idx} : x ∈ row i ↔ (x 0).val = i := by unfold row; rw [Finset.mem_filter]; simp

theorem blk_disj {i j : ℕ} (h : i ≠ j) : Disjoint (blk i) (blk j) :=
  Finset.disjoint_left.mpr fun _ h1 h2 => h ((mem_blk.mp h1).symm.trans (mem_blk.mp h2))
theorem row_disj {i j : ℕ} (h : i ≠ j) : Disjoint (row i) (row j) :=
  Finset.disjoint_left.mpr fun _ h1 h2 => h ((mem_row.mp h1).symm.trans (mem_row.mp h2))

theorem set_unit_blk {o : Fin 3 → ℕ} {h} {i : ℕ} (ho : o = ![i, 0, 0]) :
    (Rect.unit (s := S40x64x1024) o S1x64x1024.size h).set = blk i := by
  subst ho
  ext x
  rw [Rect.mem_set_unit, mem_blk]
  refine ⟨fun hx => ?_, fun hx => ?_⟩
  · have := hx 0; simp at this; omega
  · intro a
    fin_cases a
    · simp; omega
    · have := (x 1).isLt; simp at this ⊢; omega
    · have := (x 2).isLt; simp at this ⊢; omega

theorem set_unit_row {o : Fin 3 → ℕ} {h} {i : ℕ} (ho : o = ![i, 0, 0]) :
    (Rect.unit (s := S4x8x128) o S1x8x128.size h).set = row i := by
  subst ho
  ext x
  rw [Rect.mem_set_unit, mem_row]
  refine ⟨fun hx => ?_, fun hx => ?_⟩
  · have := hx 0; simp at this; omega
  · intro a
    fin_cases a
    · simp; omega
    · have := (x 1).isLt; simp at this ⊢; omega
    · have := (x 2).isLt; simp at this ⊢; omega

theorem set_xM {o : Fin 3 → ℕ} {h} {i : ℕ} (ho : o = ![i, 0, 0]) : (blkM xM o h).view.set = blk i := by
  exact (View.set_reshape _ _).trans ((View.set_slice_whole _ _).trans <| set_unit_blk ho)
theorem set_oM {o : Fin 3 → ℕ} {h} {i : ℕ} (ho : o = ![i, 0, 0]) : (blkM oM o h).view.set = blk i := by
  exact (View.set_reshape _ _).trans ((View.set_slice_whole _ _).trans <| set_unit_blk ho)
theorem set_aM {o : Fin 3 → ℕ} {h} {i : ℕ} (ho : o = ![i, 0, 0]) : (rowM aM o h).view.set = row i := by
  exact (View.set_reshape _ _).trans ((View.set_slice_whole _ _).trans <| set_unit_row ho)

/-! ## Contents -/

abbrev Blocks (F : FTy → Type) : Type := S40x64x1024.Idx → Elt F .bf16
abbrev CntRow (F : FTy → Type) : Type := S8x128.Idx → Elt F .i32
abbrev CntAll (F : FTy → Type) : Type := S4x8x128.Idx → Elt F .i32

/-- What lands in device c's result: block 10 s + k is device s's block 10 c + k. -/
def land (XS : Dev nD → Blocks F) (c : Dev nD) : Blocks F := fun x =>
  XS ⟨(x 0).val / 10 % 4, Nat.mod_lt _ (by decide)⟩ (Fin.cons ⟨10 * c.val + (x 0).val % 10, by have := c.isLt; show _ < 40; have : c.val < 4 := this; omega⟩ (fun a => x a.succ))

/-- The gathered counts of device c: row d is the row of the device d places before. -/
def gath (CNT : Dev nD → CntRow F) (c : Dev nD) : CntAll F := fun x =>
  CNT ⟨(c.val + 4 - (x 0).val) % 4, Nat.mod_lt _ (by decide)⟩ (fun a => x a.succ)

/-! ### What a copy writes -/

theorem emb_blk (b : Memref sig .tc .vmem S40x64x1024 .bf16) {o : Fin 3 → ℕ} {h} {i : ℕ} (y : S64x1024.Idx) (a : Fin 3) :
    ((Rect.unit (s := S40x64x1024) o S1x64x1024.size h).emb (Shape.reshapeEquiv (squeezes_S1x64x1024_S64x1024).numel_eq y) a).val
      = o a + ((Shape.reshapeEquiv (squeezes_S1x64x1024_S64x1024).numel_eq y : S1x64x1024.Idx) a).val :=
  ValueKit.rect_emb_unit_val (s := S40x64x1024) o S1x64x1024.size h _ a

/-- A copy of block 10 t + k of device c's argument into block 10 c + k of device t's result writes what lands there. -/
theorem copy_land (XS : Dev nD → Blocks F) (c t : Dev nD) (k : ℕ) (hk : k < 10) {os od : Fin 3 → ℕ} {hs hd}
    (hos : os = ![10 * t.val + k, 0, 0]) (hod : od = ![10 * c.val + k, 0, 0]) (fd : Blocks F) :
    ∀ x ∈ blk (10 * c.val + k),
      ((blkM oM od hd).view.write (Elt F) fd ((blkM xM os hs).view.read (Elt F) (XS c)) Finset.univ : Blocks F) x = land XS t x := by
  intro x hx
  rw [← set_oM (h := hd) hod] at hx
  obtain ⟨y, -, rfl⟩ := Finset.mem_map.mp hx
  refine (View.write_emb_of_mem (v := (blkM oM od hd).view) fd _ (Finset.mem_univ y)).trans ?_
  have hc : c.val < 4 := c.isLt
  have e0 := emb_blk oM (h := hd) (i := 0) y
  have e1 := emb_blk xM (h := hs) (i := 0) y
  have z0 : ((Shape.reshapeEquiv (squeezes_S1x64x1024_S64x1024).numel_eq y : S1x64x1024.Idx) 0).val = 0 := Nat.lt_one_iff.mp (Fin.isLt _)
  have hv0 : (((blkM oM od hd).view.emb y : S40x64x1024.Idx) 0).val = 10 * c.val + k := by
    refine (e0 0).trans ?_; rw [z0, congrFun hod 0]; simp
  show XS c ((blkM xM os hs).view.emb y) = land XS t _
  unfold land
  have hdev : (⟨(((blkM oM od hd).view.emb y : S40x64x1024.Idx) 0).val / 10 % 4, Nat.mod_lt _ (by decide)⟩ : Dev nD) = c :=
    Fin.ext (by show _ / 10 % 4 = c.val; rw [hv0]; omega)
  rw [hdev]
  congr 1
  funext a
  refine Fin.ext ?_
  refine Fin.cases ?_ (fun a => ?_) a
  · refine (e1 0).trans ?_
    rw [z0, Fin.cons_zero, congrFun hos 0]
    show 10 * t.val + k + 0 = 10 * t.val + _ % 10
    rw [hv0]; omega
  · refine (e1 a.succ).trans ?_
    rw [Fin.cons_succ]
    refine Eq.trans ?_ (e0 a.succ).symm
    rw [congrFun hos a.succ, congrFun hod a.succ]
    fin_cases a <;> simp

/-- The row of device c written at row d of the counts of the device d places after. -/
theorem copy_gath (CNT : Dev nD → CntRow F) (c t : Dev nD) {od : Fin 3 → ℕ} {hd}
    (hod : od = ![rel c t, 0, 0]) (fd : CntAll F) :
    ∀ x ∈ row (rel c t),
      ((rowM aM od hd).view.write (Elt F) fd (cM.view.read (Elt F) (CNT c)) Finset.univ : CntAll F) x = gath CNT t x := by
  intro x hx
  rw [← set_aM (h := hd) hod] at hx
  obtain ⟨y, -, rfl⟩ := Finset.mem_map.mp hx
  refine (View.write_emb_of_mem (v := (rowM aM od hd).view) fd _ (Finset.mem_univ y)).trans ?_
  have e0 : ∀ a : Fin 3, (((rowM aM od hd).view.emb y : S4x8x128.Idx) a).val
      = od a + ((Shape.reshapeEquiv (squeezes_S1x8x128_S8x128).numel_eq y : S1x8x128.Idx) a).val :=
    fun a => ValueKit.rect_emb_unit_val (s := S4x8x128) od S1x8x128.size hd _ a
  have z0 : ((Shape.reshapeEquiv (squeezes_S1x8x128_S8x128).numel_eq y : S1x8x128.Idx) 0).val = 0 := Nat.lt_one_iff.mp (Fin.isLt _)
  have hv0 : (((rowM aM od hd).view.emb y : S4x8x128.Idx) 0).val = rel c t := by
    refine (e0 0).trans ?_; rw [z0, congrFun hod 0]; simp
  show CNT c y = gath CNT t _
  unfold gath
  have hdev : (⟨(t.val + 4 - (((rowM aM od hd).view.emb y : S4x8x128.Idx) 0).val) % 4, Nat.mod_lt _ (by decide)⟩ : Dev nD) = c :=
    Fin.ext (by
      rw [hv0]
      show (t.val + 4 - (t.val + 4 - c.val) % 4) % 4 = c.val
      have h1 : c.val < 4 := c.isLt
      have h2 : t.val < 4 := t.isLt
      omega)
  rw [hdev]
  congr 1
  have hz : (Shape.reshapeEquiv (squeezes_S1x8x128_S8x128).numel_eq y : S1x8x128.Idx) = Fin.cons ⟨0, Nat.one_pos⟩ y :=
    Shape.reshapeEquiv_cons_one _ y
  funext a
  refine Fin.ext ?_
  refine Eq.trans ?_ (e0 a.succ).symm
  rw [hz, congrFun hod a.succ]
  fin_cases a <;> exact (Nat.zero_add _).symm

/-! ## The schedule -/

def dut (c : Dev nD) (sm : SemLoc sig) : Finset (Dev nD × ℕ) :=
  if sm = mB0 ∨ sm = mB1 ∨ sm = mS0 ∨ sm = mR0 then peers c ×ˢ {0}
  else if sm = mS1 ∨ sm = mR1 then peers c ×ˢ Finset.range 8
  else if sm = mL1 then {c} ×ˢ Finset.range 10 else ∅

/-- The share of the count row the copy to the device d places after reads. -/
def shr (d : ℕ) : PosShare TreeShare := if d = 1 then fullShare.left else if d = 2 then fullShare.right.left else fullShare.right.right

section Pays
variable (CNT : Dev nD → CntRow F) (XS : Dev nD → Blocks F)

def payB0 (c s : Dev nD) : sProp 𝕄 :=
  iprop((∃ f, ((s : Thread nD τ).loc cc0_stg1_0) ↦[row (rel c s)]{fullShare} f) ∗ reached ER (cell s mR0) 0)
def payB1 (c s : Dev nD) : sProp 𝕄 :=
  iprop((∃ f, ((s : Thread nD τ).loc cc1_stg2_0) ↦[(Finset.range 8).biUnion fun k => blk (10 * c.val + k)]{fullShare} f) ∗ reached ER (cell s mR1) 0)
def payS0 (c r : Dev nD) : sProp 𝕄 := ((c : Thread nD τ).loc cc0_stg0_0) ↦{shr (rel c r)} (CNT c)
def payR0 (c s : Dev nD) : sProp 𝕄 := ((c : Thread nD τ).loc cc0_stg1_0) ↦[row (rel s c)]{fullShare} (gath CNT c)
def xsB (c : Dev nD) (i : ℕ) : sProp 𝕄 := ((c : Thread nD τ).loc cc1_stg0_0) ↦[blk i]{fullShare} (XS c)
def stB (c : Dev nD) (i : ℕ) : sProp 𝕄 := ((c : Thread nD τ).loc cc1_stg2_0) ↦[blk i]{fullShare} (land XS c)

instance (c s : Dev nD) : BI.Storable (upEmb : UEmb _ 𝕄) (payB0 (F := F) c s) := by unfold payB0; infer_instance
instance (c s : Dev nD) : BI.Storable (upEmb : UEmb _ 𝕄) (payB1 (F := F) c s) := by unfold payB1; infer_instance
instance (c s : Dev nD) : BI.Storable (upEmb : UEmb _ 𝕄) (payS0 CNT c s) := by unfold payS0; infer_instance
instance (c s : Dev nD) : BI.Storable (upEmb : UEmb _ 𝕄) (payR0 CNT c s) := by unfold payR0; infer_instance
instance (c : Dev nD) (i : ℕ) : BI.Storable (upEmb : UEmb _ 𝕄) (xsB XS c i) := by unfold xsB; infer_instance
instance (c : Dev nD) (i : ℕ) : BI.Storable (upEmb : UEmb _ 𝕄) (stB XS c i) := by unfold stB; infer_instance

def pay (c : Dev nD) (sm : SemLoc sig) (d : Dev nD × ℕ) : sProp 𝕄 :=
  if sm = mB0 then payB0 c d.1
  else if sm = mB1 then payB1 c d.1
  else if sm = mS0 then payS0 CNT c d.1
  else if sm = mR0 then payR0 CNT c d.1
  else if sm = mS1 then xsB XS c (10 * d.1.val + d.2)
  else if sm = mR1 then stB XS c (10 * d.1.val + d.2)
  else iprop(stB XS c (10 * d.1.val + d.2) ∗ xsB XS c (10 * d.1.val + d.2))

instance (c : Dev nD) (sm : SemLoc sig) (d : Dev nD × ℕ) : BI.Storable (upEmb : UEmb _ 𝕄) (pay CNT XS c sm d) := by
  unfold pay; (repeat' split) <;> infer_instance

def units (sm : SemLoc sig) : ℕ := if sm = mB0 ∨ sm = mB1 then 1 else if sm = mS0 ∨ sm = mR0 then N0 else N1
theorem units_pos (sm : SemLoc sig) : 0 < units sm := by
  unfold units; split
  · exact Nat.one_pos
  · split
    · exact N0_pos
    · exact N1_pos

/-- The schedule: each cell's duties in round 0, nothing later. -/
def Rd : Rounds.Schedule (GSem nD τ sig) (Dev nD × ℕ) 𝕄 where
  duties g r := if r = 0 ∧ g.1.2 = .tc then dut g.1.1 g.2 else ∅
  unitless _ := False
  amount g _ _ := units g.2
  payload g _ d := pay CNT XS g.1.1 g.2 d
  amount_pos g _ _ _ := units_pos g.2

instance (g : GSem nD τ sig) (r : ℕ) (d : Dev nD × ℕ) : BI.Storable (upEmb : UEmb _ 𝕄) ((Rd CNT XS).payload g r d) := by
  show BI.Storable upEmb (pay CNT XS g.1.1 g.2 d); infer_instance

theorem duties_cell (c : Dev nD) (sm : SemLoc sig) : (Rd CNT XS).duties (cell c sm) 0 = dut c sm := by dsimp only [Rd]; exact if_pos ⟨rfl, rfl⟩
theorem duties_later (g : GSem nD τ sig) : ∀ r, 1 ≤ r → (Rd CNT XS).duties g r = ∅ := fun r hr => by dsimp only [Rd]; exact if_neg fun h => by omega
theorem amount_cell (c : Dev nD) (sm : SemLoc sig) (d) : (Rd CNT XS).amount (cell c sm) 0 d = units sm := rfl
theorem payload_cell (c : Dev nD) (sm : SemLoc sig) (d) : (Rd CNT XS).payload (cell c sm) 0 d = pay CNT XS c sm d := rfl
theorem expect_cell (c : Dev nD) (sm : SemLoc sig) : (Rd CNT XS).expect (cell c sm) 0 = (dut c sm).card * units sm := by
  unfold Schedule.expect Schedule.amountOf
  rw [duties_cell, Finset.sum_congr rfl fun d _ => amount_cell CNT XS c sm d, Finset.sum_const, smul_eq_mul]

theorem pay_B0 (c : Dev nD) (d) : pay CNT XS c mB0 d = payB0 c d.1 := if_pos rfl
theorem pay_B1 (c : Dev nD) (d) : pay CNT XS c mB1 d = payB1 c d.1 := by unfold pay; rw [if_neg (by decide), if_pos rfl]
theorem pay_S0 (c : Dev nD) (d) : pay CNT XS c mS0 d = payS0 CNT c d.1 := by
  unfold pay; rw [if_neg (by decide), if_neg (by decide), if_pos rfl]
theorem pay_R0 (c : Dev nD) (d) : pay CNT XS c mR0 d = payR0 CNT c d.1 := by
  unfold pay; rw [if_neg (by decide), if_neg (by decide), if_neg (by decide), if_pos rfl]
theorem pay_S1 (c : Dev nD) (d) : pay CNT XS c mS1 d = xsB XS c (10 * d.1.val + d.2) := by
  unfold pay; rw [if_neg (by decide), if_neg (by decide), if_neg (by decide), if_neg (by decide), if_pos rfl]
theorem pay_R1 (c : Dev nD) (d) : pay CNT XS c mR1 d = stB XS c (10 * d.1.val + d.2) := by
  unfold pay; rw [if_neg (by decide), if_neg (by decide), if_neg (by decide), if_neg (by decide), if_neg (by decide), if_pos rfl]
theorem pay_L1 (c : Dev nD) (d) : pay CNT XS c mL1 d = iprop(stB XS c (10 * d.1.val + d.2) ∗ xsB XS c (10 * d.1.val + d.2)) := by
  unfold pay; rw [if_neg (by decide), if_neg (by decide), if_neg (by decide), if_neg (by decide), if_neg (by decide), if_neg (by decide)]

end Pays

theorem dut_B0 (c : Dev nD) : dut c mB0 = peers c ×ˢ {0} := if_pos (.inl rfl)
theorem dut_B1 (c : Dev nD) : dut c mB1 = peers c ×ˢ {0} := if_pos (.inr (.inl rfl))
theorem dut_S0 (c : Dev nD) : dut c mS0 = peers c ×ˢ {0} := if_pos (.inr (.inr (.inl rfl)))
theorem dut_R0 (c : Dev nD) : dut c mR0 = peers c ×ˢ {0} := if_pos (.inr (.inr (.inr rfl)))
theorem dut_S1 (c : Dev nD) : dut c mS1 = peers c ×ˢ Finset.range 8 := by unfold dut; rw [if_neg (by decide), if_pos (.inl rfl)]
theorem dut_R1 (c : Dev nD) : dut c mR1 = peers c ×ˢ Finset.range 8 := by unfold dut; rw [if_neg (by decide), if_pos (.inr rfl)]
theorem dut_L1 (c : Dev nD) : dut c mL1 = {c} ×ˢ Finset.range 10 := by unfold dut; rw [if_neg (by decide), if_neg (by decide), if_pos rfl]

theorem units_B0 : units mB0 = 1 := if_pos (.inl rfl)
theorem units_B1 : units mB1 = 1 := if_pos (.inr rfl)
theorem units_S0 : units mS0 = N0 := by unfold units; rw [if_neg (by decide), if_pos (.inl rfl)]
theorem units_R0 : units mR0 = N0 := by unfold units; rw [if_neg (by decide), if_pos (.inr rfl)]
theorem units_S1 : units mS1 = N1 := by unfold units; rw [if_neg (by decide), if_neg (by decide)]
theorem units_R1 : units mR1 = N1 := by unfold units; rw [if_neg (by decide), if_neg (by decide)]
theorem units_L1 : units mL1 = N1 := by unfold units; rw [if_neg (by decide), if_neg (by decide)]

/-! ## What each device owes; the levels -/

/-- A payment into a cell of device d. -/
abbrev owe (d : Dev nD) (sm : SemLoc sig) : Pay nD τ sig := (cell d sm, 0, units sm)

def sends0 (c : Dev nD) : List (Pay nD τ sig) := [owe (pl c 1) mR0, owe (pl c 2) mR0, owe (pl c 3) mR0]
def sends1 (c : Dev nD) : List (Pay nD τ sig) :=
  [owe (pl c 1) mR1, owe (pl c 1) mR1, owe (pl c 1) mR1, owe (pl c 1) mR1, owe (pl c 1) mR1, owe (pl c 1) mR1, owe (pl c 1) mR1, owe (pl c 1) mR1,
   owe (pl c 2) mR1, owe (pl c 2) mR1, owe (pl c 2) mR1, owe (pl c 2) mR1, owe (pl c 2) mR1, owe (pl c 2) mR1, owe (pl c 2) mR1, owe (pl c 2) mR1,
   owe (pl c 3) mR1, owe (pl c 3) mR1, owe (pl c 3) mR1, owe (pl c 3) mR1, owe (pl c 3) mR1, owe (pl c 3) mR1, owe (pl c 3) mR1, owe (pl c 3) mR1]
def due1 (c : Dev nD) : List (Pay nD τ sig) := owe (pl c 1) mB1 :: owe (pl c 2) mB1 :: owe (pl c 3) mB1 :: sends1 c
def due0 (c : Dev nD) : List (Pay nD τ sig) :=
  owe (pl c 1) mB0 :: owe (pl c 2) mB0 :: owe (pl c 3) mB0 :: owe (pl c 1) mR0 :: owe (pl c 2) mR0 :: owe (pl c 3) mR0 :: due1 c

def L (g : GSem nD τ sig) : Finset ℕ := if g.1.2 = .tc then {0} else ∅
def lv (g : GSem nD τ sig) (_ : ℕ) : ℕ := if g.2 = mB0 then 1 else if g.2 = mR0 then 2 else if g.2 = mB1 then 3 else if g.2 = mR1 then 4 else 0

theorem L_of_ne (g : GSem nD τ sig) (h : g.1.2 ≠ .tc) : L g = ∅ := if_neg h
theorem L_tc (c : Dev nD) (sm : SemLoc sig) : L (cell c sm) = {0} := if_pos rfl

/-- The levels of the payments of a list are above b. -/
def Over (b : ℕ) (l : List (Pay nD τ sig)) : Prop := ∀ x ∈ l, x.1.1.2 = .tc ∧ x.2.1 = 0 ∧ b < lv x.1 0

theorem mayWait_list (c : Dev nD) (sm : SemLoc sig) (l : List (Pay nD τ sig)) (h : Over (lv (cell c sm) 0) l) :
    (levAts L lv : sProp 𝕄) ⊢ MayWait (c : Thread nD τ) sm 0 (tallyL l) :=
  MayOwe.of_cut (L := L) (lev := lv) (lv (cell c sm) 0) (fun p hp => by rw [Finset.mem_singleton.mp hp, L_tc]; exact Finset.mem_singleton_self _)
    (fun g u hg => by
      obtain ⟨x, hx, rfl, rfl⟩ := TalkSites.tallyL_pos hg
      obtain ⟨h1, h2, -⟩ := h x hx
      rw [h2]; unfold L; rw [if_pos h1]; exact Finset.mem_singleton_self _)
    (fun p hp => by rw [Finset.mem_singleton.mp hp])
    (fun g u hg => by
      obtain ⟨x, hx, rfl, rfl⟩ := TalkSites.tallyL_pos hg
      exact (h x hx).2.2)

theorem over_nil (b : ℕ) : Over b [] := fun _ h => absurd h (List.not_mem_nil)
theorem over_cons {b : ℕ} {d : Dev nD} {sm : SemLoc sig} {l} (h : b < lv (cell d sm) 0) (hl : Over b l) : Over b (owe d sm :: l) := fun x hx => by
  rcases List.mem_cons.mp hx with rfl | hx
  · exact ⟨rfl, rfl, h⟩
  · exact hl x hx

end Cert.KernelIdeal.Pf

end
-- ==== Proof.KernelIdeal.Steps.lean ====
/-
The steps of the two kernels over the protocol: a signal, a remote copy, a local copy, a wait.
-/
module

public import proofs.«01_k».proof.Proof.KernelIdeal.Proto
public import proofs.«01_k».proof.Proof.Gen.KernelIdeal.Skeleton

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.TalkSites (Pay tallyL)

variable {F : FTy → Type} [FloatOps F]

local notation "𝕄" => MT nD τ sig ℕ (Elt F) ℕ UU ℕ

abbrev 𝒱₀ : Variants := Variants.none

variable (CNT : Dev nD → CntRow F) (XS : Dev nD → Blocks F) (K : GSem nD τ sig → ℕ)

/-- The invariants of every cell of every device. -/
def invAll : sProp 𝕄 :=
  bigSep Finset.univ fun p : Dev nD × Fin 7 => cellInv ER (Rd CNT XS) (K (cell p.1 (csem p.2))) (cell p.1 (csem p.2))

instance : BI.Persistent (invAll CNT XS K) := by unfold invAll; infer_instance

theorem inv_at (c : Dev nD) (j : Fin 7) : invAll CNT XS K ⊢ cellInv ER (Rd CNT XS) (K (cell c (csem j))) (cell c (csem j)) :=
  bigSep_elim (Φ := fun p : Dev nD × Fin 7 => cellInv ER (Rd CNT XS) (K (cell p.1 (csem p.2))) (cell p.1 (csem p.2))) (Finset.mem_univ (c, j))

/-- What a device owes, as a list of payments, whatever it has waited for. -/
def owesL (c : Dev nD) (l : List (Pay nD τ sig)) : sProp 𝕄 := iprop(∃ W, owes (c : Thread nD τ) (tallyL l) W)

/-- n credits of one copy each. -/
def creds (c : Dev nD) (sm : SemLoc sig) : ℕ → sProp 𝕄
  | 0 => iprop(emp)
  | n + 1 => iprop(cred (tallyAt (cell c sm) 0 (units sm)) ∗ creds c sm n)

/-- Having waited m times at a cell. -/
def got (c : Dev nD) (sm : SemLoc sig) (m : ℕ) : sProp 𝕄 :=
  iprop(∃ T, ⌜T ⊆ dut c sm⌝ ∗ atPos ER (cell c sm) 0 T (m * units sm) ∗ bigSep T (pay CNT XS c sm))
/-- Having waited for everything at a cell. -/
def gotAll (c : Dev nD) (sm : SemLoc sig) : sProp 𝕄 :=
  iprop(atPos ER (cell c sm) 1 ∅ 0 ∗ bigSep (dut c sm) (pay CNT XS c sm))

theorem creds_succ (c : Dev nD) (sm : SemLoc sig) (n : ℕ) :
    (creds (F := F) c sm (n + 1)) = iprop(cred (tallyAt (cell c sm) 0 (units sm)) ∗ creds c sm n) := rfl

theorem sdiff_join {I : Type} [DecidableEq I] {s t : Finset I} (h : t ⊆ s) (Φ : I → sProp 𝕄) :
    bigSep s Φ = iprop(bigSep t Φ ∗ bigSep (s \ t) Φ) := BI.bigSep_sdiff_split h

theorem tallyL_cons (x : Pay nD τ sig) (l : List (Pay nD τ sig)) : tallyL (x :: l) = tallyL l + x.tally := by
  show x.tally + tallyL l = _; exact add_comm _ _

theorem got_zero (c : Dev nD) (sm : SemLoc sig) : atPos ER (cell c sm) 0 ∅ 0 ⊢ got CNT XS c sm 0 := by
  unfold got
  iintro H
  iexists ∅
  isplitr; · ipureintro; exact Finset.empty_subset _
  rw [Nat.zero_mul, bigSep_empty]
  isplitl [H]; · iexact H
  iempintro

section Steps
variable {α : Type} {Q : α → sProp (MT nD τ sig ℕ (Elt F) ℕ UU ℕ)}

abbrev wpc (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- A wait that is not the last at its cell. -/
theorem step_wait (c : Dev nD) (j : Fin 7) (w : TpuEff nD τ sig (Elt F) Λ₀ .tc PUnit)
    (hw : ∀ Q' : PUnit → sProp 𝕄, wpE (defs₀ (F := F)) 𝒱₀ (c : Thread nD τ) none Set.univ w Q' = waitSpec (c : Thread nD τ) Set.univ (csem j) (units (csem j)) Q')
    (l : List (Pay nD τ sig)) (hl : Over (lv (cell c (csem j)) 0) l) (m n : ℕ) {k : PUnit → Prog (TpuEff nD τ sig (Elt F) Λ₀ .tc) α} :
    iprop(invAll CNT XS K ∗ levAts L lv ∗ owesL c l ∗ creds c (csem j) (n + 1) ∗ got CNT XS c (csem j) m)
      ⊢ iprop(((owesL c l ∗ creds c (csem j) n ∗ got CNT XS c (csem j) (m + 1)) -∗ wpc c (k ⟨⟩) Q) -∗ wpc c (.op w k) Q) := by
  rw [creds_succ]
  unfold owesL got
  iintro ⟨#HI, #HL, ⟨%W, HO⟩, ⟨Hc, Hcs⟩, ⟨%T, %hT, Hat, Hp⟩⟩ Hk
  ihave #Hg := (inv_at CNT XS K c j) $$ HI
  iapply (Rounds.wp_wait 𝒱₀ ER (Rd CNT XS) (c : Thread nD τ) none (κ := K (cell c (csem j))) hw (Set.mem_univ _) {(csem j, 0)}
    (cr := Finsupp.single 0 (units (csem j))) (W := W) (O := tallyL l) (R := 0) (m := m * units (csem j)) (T := T) (Util.total_single _ _) (image_single_subset (csem j) 0 _)) $$ [Hc HO Hat]
  · isplitr; · iexact Hg
    isplitl [Hc]; · iexact Hc
    isplitl [HO]; · iexact HO
    isplitr; · iapply (mayWait_list c (csem j) l hl); iexact HL
    iexact Hat
  iintro %S ⟨%hS, HO, Hat, Hp'⟩
  iapply Hk
  isplitl [HO]; · iexists _; iexact HO
  isplitl [Hcs]; · iexact Hcs
  iexists S
  isplitr; · ipureintro; rw [← duties_cell CNT XS]; exact hS.2.1
  rw [Nat.add_mul, Nat.one_mul]
  isplitl [Hat]; · iexact Hat
  rw [show (fun d => (Rd CNT XS).payload (cell c (csem j)) 0 d) = pay CNT XS c (csem j) from rfl]
  iapply (Entails.of_eq (sdiff_join hS.1 (pay CNT XS c (csem j))).symm)
  isplitl [Hp] <;> iassumption

/-- The last wait at a cell. -/
theorem step_waitLast (c : Dev nD) (j : Fin 7) (w : TpuEff nD τ sig (Elt F) Λ₀ .tc PUnit)
    (hw : ∀ Q' : PUnit → sProp 𝕄, wpE (defs₀ (F := F)) 𝒱₀ (c : Thread nD τ) none Set.univ w Q' = waitSpec (c : Thread nD τ) Set.univ (csem j) (units (csem j)) Q')
    (l : List (Pay nD τ sig)) (hl : Over (lv (cell c (csem j)) 0) l) (m : ℕ) (hm : m + 1 = (dut c (csem j)).card) {k : PUnit → Prog (TpuEff nD τ sig (Elt F) Λ₀ .tc) α} :
    iprop(invAll CNT XS K ∗ levAts L lv ∗ owesL c l ∗ creds c (csem j) 1 ∗ got CNT XS c (csem j) m)
      ⊢ iprop(((owesL c l ∗ gotAll CNT XS c (csem j)) -∗ wpc c (k ⟨⟩) Q) -∗ wpc c (.op w k) Q) := by
  rw [creds_succ]
  unfold owesL got
  iintro ⟨#HI, #HL, ⟨%W, HO⟩, ⟨Hc, Hcs⟩, ⟨%T, %hT, Hat, Hp⟩⟩ Hk
  ihave #Hg := (inv_at CNT XS K c j) $$ HI
  iapply (Rounds.wp_wait_rest_token 𝒱₀ ER (Rd CNT XS) (c : Thread nD τ) none (κ := K (cell c (csem j))) hw (Set.mem_univ _) 0
    (W := W) (O := tallyL l) (R := 0) (m := m * units (csem j)) (T := T) (by rw [expect_cell, ← hm, Nat.add_mul, Nat.one_mul])) $$ [Hc HO Hat]
  · isplitr; · iexact Hg
    isplitl [Hc]; · iexact Hc
    isplitl [HO]; · iexact HO
    isplitr; · iapply (mayWait_list c (csem j) l hl); iexact HL
    iexact Hat
  iintro ⟨HO, Hat, -, Hp'⟩
  iapply Hk
  isplitl [HO]; · iexists _; iexact HO
  unfold gotAll
  isplitl [Hat]; · iexact Hat
  rw [duties_cell, show (fun d => (Rd CNT XS).payload (cell c (csem j)) 0 d) = pay CNT XS c (csem j) from rfl]
  iapply (Entails.of_eq (sdiff_join hT (pay CNT XS c (csem j))).symm)
  isplitl [Hp] <;> iassumption

/-- A wait for all of a barrier cell's units. -/
theorem step_waitBar (c : Dev nD) (j : Fin 7) (w : TpuEff nD τ sig (Elt F) Λ₀ .tc PUnit) (u : ℕ)
    (hw : ∀ Q' : PUnit → sProp 𝕄, wpE (defs₀ (F := F)) 𝒱₀ (c : Thread nD τ) none Set.univ w Q' = waitSpec (c : Thread nD τ) Set.univ (csem j) u Q')
    (hu : u = (dut c (csem j)).card * units (csem j))
    (l : List (Pay nD τ sig)) (hl : Over (lv (cell c (csem j)) 0) l) {k : PUnit → Prog (TpuEff nD τ sig (Elt F) Λ₀ .tc) α} :
    iprop(invAll CNT XS K ∗ levAts L lv ∗ owesL c l ∗ cred (tallyAt (cell c (csem j)) 0 u) ∗ atPos ER (cell c (csem j)) 0 ∅ 0)
      ⊢ iprop(((owesL c l ∗ gotAll CNT XS c (csem j)) -∗ wpc c (k ⟨⟩) Q) -∗ wpc c (.op w k) Q) := by
  unfold owesL
  iintro ⟨#HI, #HL, ⟨%W, HO⟩, Hc, Hat⟩ Hk
  ihave #Hg := (inv_at CNT XS K c j) $$ HI
  iapply (Rounds.wp_wait_rest_token 𝒱₀ ER (Rd CNT XS) (c : Thread nD τ) none (κ := K (cell c (csem j))) hw (Set.mem_univ _) 0
    (W := W) (O := tallyL l) (R := 0) (m := 0) (T := ∅) (by rw [expect_cell, ← hu, Nat.zero_add])) $$ [Hc HO Hat]
  · isplitr; · iexact Hg
    isplitl [Hc]; · iexact Hc
    isplitl [HO]; · iexact HO
    isplitr; · iapply (mayWait_list c (csem j) l hl); iexact HL
    iexact Hat
  iintro ⟨HO, Hat, -, Hp'⟩
  iapply Hk
  isplitl [HO]; · iexists _; iexact HO
  unfold gotAll
  isplitl [Hat]; · iexact Hat
  rw [duties_cell, Finset.sdiff_empty]
  iexact Hp'

/-- A signal to the barrier cell of another device. -/
theorem step_signal (c r n : Dev nD) (hn : n = r) (j : Fin 7) (s : Sem sig) (hj : csem j = .reg s) (hd : (c, 0) ∈ dut r (.reg s)) (k' : ℕ) (hk : units (.reg s) = k')
    (l : List (Pay nD τ sig)) {k : PUnit → Prog (TpuEff nD τ sig (Elt F) Λ₀ .tc) α} :
    iprop(invAll CNT XS K ∗ owesL c (owe r (.reg s) :: l) ∗ dutyTok ER (cell r (.reg s)) 0 (c, 0) ∗ pay CNT XS r (.reg s) (c, 0) ∗ reached ER (cell r (.reg s)) 0)
      ⊢ iprop((owesL c l -∗ wpc c (k ⟨⟩) Q) -∗ wpc c (.op (.semSignal (Dev.tc n : Thread nD τ) s k') k) Q) := by
  subst hn
  unfold owesL
  iintro ⟨#HI, ⟨%W, HO⟩, Ht, Hp, Hr⟩ Hk
  ihave #Hg := (inv_at CNT XS K n j) $$ HI
  rw [hj]
  iapply (Rounds.wp_signal 𝒱₀ ER (Rd CNT XS) (c : Thread nD τ) none (dst := (n : Thread nD τ)) (κ := K (cell n (.reg s)))
      (d := (c, 0)) (r := 0) (by rw [duties_cell]; exact hd) hk 0 (O₀ := tallyL (owe n (.reg s) :: l)) (tallyL l) (W := W) (by rw [tallyL_cons, ← hk])) $$ [HO Ht Hp Hr]
  · isplitr; · iexact Hg
    isplitl [HO]; · iexact HO
    isplitl [Ht]; · iexact Ht
    isplitl [Hp]; · rw [payload_cell]; iexact Hp
    iexact Hr
  iintro HO
  iapply Hk; iexists W; iexact HO

/-- What the copy of the count row to the device d places after c needs. -/
def send0Res (c r : Dev nD) : sProp 𝕄 :=
  iprop((((c : Thread nD τ).loc cc0_stg0_0) ↦{shr (rel c r)} (CNT c)) ∗ (∃ f, ((r : Thread nD τ).loc cc0_stg1_0) ↦[row (rel c r)]{fullShare} f)
    ∗ dutyTok ER (cell c mS0) 0 (r, 0) ∗ reached ER (cell c mS0) 0 ∗ dutyTok ER (cell r mR0) 0 (c, 0) ∗ reached ER (cell r mR0) 0)

theorem step_send0 (c r n : Dev nD) (hn : n = r) (hr : r ∈ peers c) {o : Fin 3 → ℕ} {h} (ho : o = ![rel c r, 0, 0]) (m : ℕ)
    {hsc : (rowM aM o h : Memref sig (Dev.tc n : Thread nD τ).2.kind .vmem S8x128 .i32).view.ref.isScScratch = false}
    {hsrc : cM.view.WordExact} {hdst : (rowM aM o h).view.WordExact}
    {hsem : DmaTarget.Typed .vmem mR0 (.remote (Dev.tc n : Thread nD τ) (rowM aM o h) mS0 hsc)}
    (l : List (Pay nD τ sig)) {k : PUnit → Prog (TpuEff nD τ sig (Elt F) Λ₀ .tc) α} :
    iprop(invAll CNT XS K ∗ owesL c (owe r mR0 :: l) ∗ creds c mS0 m ∗ send0Res CNT c r)
      ⊢ iprop(((owesL c l ∗ creds c mS0 (m + 1)) -∗ wpc c (k ⟨⟩) Q)
        -∗ wpc c (.op (.enqueueDma cM (.remote (Dev.tc n : Thread nD τ) (rowM aM o h) mS0 hsc) mR0 hsrc hdst hsem) k) Q) := by
  subst hn
  have hr' : c ∈ peers n := by
    have := Finset.ne_of_mem_erase hr
    exact Finset.mem_erase.mpr ⟨this.symm, Finset.mem_univ _⟩
  rw [creds_succ]
  unfold owesL send0Res
  iintro ⟨#HI, ⟨%W, HO⟩, Hcs, Hs, ⟨%fd, Hd⟩, Ht1, Hr1, Ht2, Hr2⟩ Hk
  ihave #Hg1 := (inv_at CNT XS K c 2) $$ HI
  ihave #Hg2 := (inv_at CNT XS K n 3) $$ HI
  rw [← set_aM (h := h) ho]
  iapply (Rounds.wp_send_pointsTo 𝒱₀ ER (Rd CNT XS) (c : Thread nD τ) none (κ₁ := K (cell c mS0)) (κ₂ := K (cell n mR0)) (c' := (n : Thread nD τ))
    (src := cM) (dst := rowM aM o h) (sS := mS0) (sem := mR0) (hsc := hsc)
    (r₁ := 0) (r₂ := 0) (d₁ := (n, 0)) (d₂ := (c, 0)) (q := shr (rel c n)) (fs := CNT c) (fd := fd)
    (by rw [duties_cell, dut_S0]; exact Finset.mem_product.mpr ⟨hr, Finset.mem_singleton_self _⟩)
    (by rw [duties_cell, dut_R0]; exact Finset.mem_product.mpr ⟨hr', Finset.mem_singleton_self _⟩)
    0 0 (units mS0) (by rw [units_S0]) rfl (by rw [units_S0]; exact units_R0) (O₀ := tallyL (owe n mR0 :: l)) (tallyL l) (by rw [tallyL_cons, units_S0, ← units_R0]) (W := W)
    (by rw [payload_cell, pay_S0]; unfold payS0; rw [View.set_whole])
    (by
      rw [payload_cell, pay_R0]; unfold payR0; rw [set_aM ho]
      exact Entails.of_eq (pointsTo_congr (copy_gath CNT c n ho fd)))) $$ [HO Hs Hd Ht1 Hr1 Ht2 Hr2]
  · isplitr; · iexact Hg1
    isplitr; · iexact Hg2
    isplitl [Hs]; · rw [View.set_whole]; iexact Hs
    isplitl [Hd]; · iexact Hd
    isplitl [HO]; · iexact HO
    isplitl [Ht1]; · iexact Ht1
    isplitl [Hr1]; · iexact Hr1
    isplitl [Ht2] <;> iassumption
  iintro ⟨Hc, HO⟩
  iapply Hk
  isplitl [HO]; · iexists W; iexact HO
  isplitl [Hc] <;> iassumption

/-- What the copy of block k for device r needs. -/
def send1Res (c : Dev nD) (p : Dev nD × ℕ) : sProp 𝕄 :=
  iprop(xsB XS c (10 * p.1.val + p.2) ∗ (∃ f, ((p.1 : Thread nD τ).loc cc1_stg2_0) ↦[blk (10 * c.val + p.2)]{fullShare} f)
    ∗ dutyTok ER (cell c mS1) 0 p ∗ reached ER (cell c mS1) 0 ∗ dutyTok ER (cell p.1 mR1) 0 (c, p.2) ∗ reached ER (cell p.1 mR1) 0)

theorem step_send1 (c n : Dev nD) (p : Dev nD × ℕ) (hn : n = p.1) (hr : p.1 ∈ peers c) (hp : p.2 < 8) {os od : Fin 3 → ℕ} {hs hd}
    (hos : os = ![10 * p.1.val + p.2, 0, 0]) (hod : od = ![10 * c.val + p.2, 0, 0]) (m : ℕ)
    {hsc : (blkM oM od hd : Memref sig (Dev.tc n : Thread nD τ).2.kind .vmem S64x1024 .bf16).view.ref.isScScratch = false}
    {hsrc : (blkM xM os hs).view.WordExact} {hdst : (blkM oM od hd).view.WordExact}
    {hsem : DmaTarget.Typed .vmem mR1 (.remote (Dev.tc n : Thread nD τ) (blkM oM od hd) mS1 hsc)}
    (l : List (Pay nD τ sig)) {k : PUnit → Prog (TpuEff nD τ sig (Elt F) Λ₀ .tc) α} :
    iprop(invAll CNT XS K ∗ owesL c (owe p.1 mR1 :: l) ∗ creds c mS1 m ∗ send1Res XS c p)
      ⊢ iprop(((owesL c l ∗ creds c mS1 (m + 1)) -∗ wpc c (k ⟨⟩) Q)
        -∗ wpc c (.op (.enqueueDma (blkM xM os hs) (.remote (Dev.tc n : Thread nD τ) (blkM oM od hd) mS1 hsc) mR1 hsrc hdst hsem) k) Q) := by
  subst hn
  obtain ⟨n, i⟩ := p
  have hr' : c ∈ peers n := by
    have := Finset.ne_of_mem_erase hr
    exact Finset.mem_erase.mpr ⟨this.symm, Finset.mem_univ _⟩
  rw [creds_succ]
  unfold owesL send1Res xsB
  dsimp only at hr hp hos hod ⊢
  iintro ⟨#HI, ⟨%W, HO⟩, Hcs, Hs, ⟨%fd, Hd⟩, Ht1, Hr1, Ht2, Hr2⟩ Hk
  ihave #Hg1 := (inv_at CNT XS K c 4) $$ HI
  ihave #Hg2 := (inv_at CNT XS K n 5) $$ HI
  rw [← set_oM (h := hd) hod, ← set_xM (h := hs) hos]
  iapply (Rounds.wp_send_pointsTo 𝒱₀ ER (Rd CNT XS) (c : Thread nD τ) none (κ₁ := K (cell c mS1)) (κ₂ := K (cell n mR1)) (c' := (n : Thread nD τ))
    (src := blkM xM os hs) (dst := blkM oM od hd) (sS := mS1) (sem := mR1) (hsc := hsc)
    (r₁ := 0) (r₂ := 0) (d₁ := (n, i)) (d₂ := (c, i)) (q := fullShare) (fs := XS c) (fd := fd)
    (by rw [duties_cell, dut_S1]; exact Finset.mem_product.mpr ⟨hr, Finset.mem_range.mpr hp⟩)
    (by rw [duties_cell, dut_R1]; exact Finset.mem_product.mpr ⟨hr', Finset.mem_range.mpr hp⟩)
    0 0 (units mS1) (by rw [units_S1]) rfl (by rw [units_S1]; exact units_R1) (O₀ := tallyL (owe n mR1 :: l)) (tallyL l) (by rw [tallyL_cons, units_S1, ← units_R1]) (W := W)
    (by rw [payload_cell, pay_S1]; unfold xsB; rw [set_xM hos])
    (by
      rw [payload_cell, pay_R1]; unfold stB; rw [set_oM hod]
      exact Entails.of_eq (pointsTo_congr (copy_land XS c n i (by omega) hos hod fd)))) $$ [HO Hs Hd Ht1 Hr1 Ht2 Hr2]
  · isplitr; · iexact Hg1
    isplitr; · iexact Hg2
    isplitl [Hs]; · iexact Hs
    isplitl [Hd]; · iexact Hd
    isplitl [HO]; · iexact HO
    isplitl [Ht1]; · iexact Ht1
    isplitl [Hr1]; · iexact Hr1
    isplitl [Ht2] <;> iassumption
  iintro ⟨Hc, HO⟩
  iapply Hk
  isplitl [HO]; · iexists W; iexact HO
  isplitl [Hc] <;> iassumption

/-- What the local copy of block k needs. -/
def copyRes (c : Dev nD) (i : ℕ) : sProp 𝕄 :=
  iprop(xsB XS c (10 * c.val + i) ∗ (∃ f, ((c : Thread nD τ).loc cc1_stg2_0) ↦[blk (10 * c.val + i)]{fullShare} f)
    ∗ dutyTok ER (cell c mL1) 0 (c, i) ∗ reached ER (cell c mL1) 0)

theorem step_copy (c : Dev nD) (i : ℕ) (hi : i < 10) {os od : Fin 3 → ℕ} {hs hd}
    (hos : os = ![10 * c.val + i, 0, 0]) (hod : od = ![10 * c.val + i, 0, 0]) (m : ℕ)
    {hsrc : (blkM xM os hs).view.WordExact} {hdst : (blkM oM od hd).view.WordExact}
    {hsem : DmaTarget.Typed (nD := nD) (τ := τ) (sig := sig) (p := .tc) .vmem mL1 (.here (blkM oM od hd))}
    {k : PUnit → Prog (TpuEff nD τ sig (Elt F) Λ₀ .tc) α} :
    iprop(invAll CNT XS K ∗ creds c mL1 m ∗ copyRes XS c i)
      ⊢ iprop((creds c mL1 (m + 1) -∗ wpc c (k ⟨⟩) Q)
        -∗ wpc c (.op (.enqueueDma (blkM xM os hs) (.here (blkM oM od hd)) mL1 hsrc hdst hsem) k) Q) := by
  rw [creds_succ]
  unfold copyRes xsB
  iintro ⟨#HI, Hcs, Hs, ⟨%fd, Hd⟩, Ht1, Hr1⟩ Hk
  ihave #Hg1 := (inv_at CNT XS K c 6) $$ HI
  rw [← set_oM (h := hd) hod]
  have e : ∀ {P : Finset S40x64x1024.Idx → sProp 𝕄}, P (blkM oM od hd).view.set = P (blkM xM os hs).view.set := by
    intro P; exact congrArg P ((set_oM hod).trans (set_xM hos).symm)
  iapply (Rounds.wp_copy_pointsTo 𝒱₀ ER (Rd CNT XS) (c : Thread nD τ) none (κ := K (cell c mL1))
    (src := blkM xM os hs) (dst := blkM oM od hd) (sem := mL1)
    (r := 0) (d := (c, i)) (q := fullShare) (fs := XS c) (fd := fd)
    (by rw [duties_cell, dut_L1]; exact Finset.mem_product.mpr ⟨Finset.mem_singleton_self _, Finset.mem_range.mpr hi⟩)
    0 (units mL1) (by rw [units_L1]) rfl
    (by
      rw [payload_cell, pay_L1]; unfold stB xsB; rw [set_oM hod, set_xM hos]
      exact sep_mono_left (Entails.of_eq (pointsTo_congr (copy_land XS c c i hi hos hod fd))))) $$ [Hs Hd Ht1 Hr1]
  · isplitr; · iexact Hg1
    isplitl [Hs]
    · iapply (Entails.of_eq (e (P := fun S => ((c : Thread nD τ).loc cc1_stg0_0) ↦[S]{fullShare} (XS c)))); iexact Hs
    isplitl [Hd]; · iexact Hd
    isplitl [Ht1] <;> iassumption
  iintro Hc
  iapply Hk
  isplitl [Hc] <;> iassumption

end Steps

end Cert.KernelIdeal.Pf

end
-- ==== Proof.KernelIdeal.Body1.lean ====
/-
The body of the exchange of blocks, part by part.
-/
module

public import proofs.«01_k».proof.Proof.KernelIdeal.Steps
public import Idealize.ShloMosaic.Lib.Pipeline.BigSepL

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.TalkSites (Pay tallyL)

variable {F : FTy → Type} [FloatOps F]

local notation "𝕄" => MT nD τ sig ℕ (Elt F) ℕ UU ℕ

variable (CNT : Dev nD → CntRow F) (XS : Dev nD → Blocks F) (K : GSem nD τ sig → ℕ)

/-! ## The state between the steps -/

/-- The remote copies of device c, in order: (target, number). -/
def sendL (c : Dev nD) : List (Dev nD × ℕ) :=
  [(pl c 1, 0), (pl c 1, 1), (pl c 1, 2), (pl c 1, 3), (pl c 1, 4), (pl c 1, 5), (pl c 1, 6), (pl c 1, 7),
   (pl c 2, 0), (pl c 2, 1), (pl c 2, 2), (pl c 2, 3), (pl c 2, 4), (pl c 2, 5), (pl c 2, 6), (pl c 2, 7),
   (pl c 3, 0), (pl c 3, 1), (pl c 3, 2), (pl c 3, 3), (pl c 3, 4), (pl c 3, 5), (pl c 3, 6), (pl c 3, 7)]

theorem pl_mem (c : Dev nD) (d : ℕ) (h0 : 0 < d) (h4 : d < 4) : pl c d ∈ peers c :=
  Finset.mem_erase.mpr ⟨fun h => by
    have h1 : (c.val + d) % 4 = c.val := congrArg Fin.val h
    have h2 : c.val < 4 := c.isLt
    omega, Finset.mem_univ _⟩

theorem sendL_mem (c : Dev nD) : ∀ p ∈ sendL c, p.1 ∈ peers c ∧ p.2 < 8 := by
  intro p hp
  simp only [sendL, List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl <;>
    exact ⟨pl_mem c _ (by decide) (by decide), Nat.lt_of_lt_of_le (Nat.lt_succ_self _) (by simp)⟩

/-- After n remote copies. -/
def sendSt (c : Dev nD) (n : ℕ) : sProp 𝕄 :=
  iprop(invAll CNT XS K ∗ owesL c (((sendL c).drop n).map fun p => owe p.1 mR1) ∗ creds c mS1 n ∗ bigSepL ((sendL c).drop n) (send1Res XS c))

/-- After n local copies. -/
def locSt (c : Dev nD) (n : ℕ) : sProp 𝕄 :=
  iprop(invAll CNT XS K ∗ creds c mL1 n ∗ bigSepL ((List.range 10).drop n) (copyRes XS c))

/-- With a waits at a cell left. -/
def waitSt (c : Dev nD) (j : Fin 7) : ℕ → sProp 𝕄
  | 0 => gotAll CNT XS c (csem j)
  | a + 1 => iprop(∃ m, ⌜m + (a + 1) = (dut c (csem j)).card⌝ ∗ creds c (csem j) (a + 1) ∗ got CNT XS c (csem j) m)

/-- The invariants and what is owed. -/
def idleL (c : Dev nD) (l : List (Pay nD τ sig)) : sProp 𝕄 := iprop(invAll CNT XS K ∗ levAts L lv ∗ owesL c l)
abbrev idle (c : Dev nD) : sProp 𝕄 := idleL CNT XS K c []

/-- The counts of blocks: 8 for every device, 24 to receive. -/
def scalV : S5.Idx → Elt F .i32 := fun i => (if (i 0).val < 4 then 8#32 else 24#32 : BitVec 32)

abbrev sM : Memref sig .tc .smem S5 .i32 := Memref.whole cc1_stg1_0

/-- The words in scalar memory. -/
def scalPts (c : Dev nD) : sProp 𝕄 := ((c : Thread nD τ).loc cc1_stg1_0) ↦{fullShare} (scalV (F := F))

theorem read_scal {o : Fin 1 → ℕ} {h} (n : ℕ) (ho : o = ![n]) (x : (Rect.unit (s := S5) o S1.size h).shape.Idx) :
    sM.view.readAt (Elt F) (Rect.unit (s := S5) o S1.size h).toLoadRect (scalV (F := F)) x = ((if n < 4 then 8#32 else 24#32 : BitVec 32) : Elt F .i32) := by
  subst ho
  show scalV _ = _
  unfold scalV
  have e : ((Rect.unit (s := S5) ![n] S1.size h).emb x 0).val = n := by
    refine (ValueKit.rect_emb_unit_val (s := S5) ![n] S1.size h x 0).trans ?_
    have : (x 0).val = 0 := Nat.lt_one_iff.mp (Fin.isLt _)
    rw [this]; rfl
  exact congrArg (fun m : ℕ => (if m < 4 then 8#32 else 24#32 : BitVec 32)) e

theorem read_scal_24 {h} (x : (Rect.unit (s := S5) ![4] S1.size h).shape.Idx) :
    sM.view.readAt (Elt F) (Rect.unit (s := S5) ![4] S1.size h).toLoadRect (scalV (F := F)) x = ((24#32 : BitVec 32) : Elt F .i32) :=
  (read_scal 4 rfl x).trans (if_neg (by decide))

section Steps
variable {α : Type} {Q : α → sProp (MT nD τ sig ℕ (Elt F) ℕ UU ℕ)}

theorem send_n (c : Dev nD) (m : ℕ) (p : Dev nD × ℕ) (hm : (sendL c).drop m = p :: (sendL c).drop (m + 1)) {n : Dev nD} (hn : n = p.1) {os od : Fin 3 → ℕ} {hs hd}
    (hos : os = ![10 * p.1.val + p.2, 0, 0]) (hod : od = ![10 * c.val + p.2, 0, 0])
    {hsc : (blkM oM od hd : Memref sig (Dev.tc n : Thread nD τ).2.kind .vmem S64x1024 .bf16).view.ref.isScScratch = false}
    {hsrc : (blkM xM os hs).view.WordExact} {hdst : (blkM oM od hd).view.WordExact}
    {hsem : DmaTarget.Typed .vmem mR1 (.remote (Dev.tc n : Thread nD τ) (blkM oM od hd) mS1 hsc)}
    {k : PUnit → Prog (TpuEff nD τ sig (Elt F) Λ₀ .tc) α} :
    sendSt CNT XS K c m
      ⊢ iprop((sendSt CNT XS K c (m + 1) -∗ wpc c (k ⟨⟩) Q)
        -∗ wpc c (.op (.enqueueDma (blkM xM os hs) (.remote (Dev.tc n : Thread nD τ) (blkM oM od hd) mS1 hsc) mR1 hsrc hdst hsem) k) Q) := by
  have hp : p ∈ sendL c := List.mem_of_mem_drop (i := m) (by rw [hm]; exact List.mem_cons_self)
  unfold sendSt
  rw [hm, List.map_cons, bigSepL_cons']
  iintro ⟨#HI, HO, Hc, Hs, Hr⟩ Hk
  iapply (step_send1 CNT XS K c n p hn (sendL_mem c p hp).1 (sendL_mem c p hp).2 hos hod m (((sendL c).drop (m + 1)).map fun p => owe p.1 mR1)) $$ [HO Hc Hs]
  · isplitr; · iexact HI
    isplitl [HO]; · iexact HO
    isplitl [Hc]; · iexact Hc
    iexact Hs
  iintro ⟨HO, Hc⟩
  iapply Hk
  isplitr; · iexact HI
  isplitl [HO]; · iexact HO
  isplitl [Hc]; · iexact Hc
  iexact Hr

theorem copy_n (c : Dev nD) (m : ℕ) (hm : m < 10) {os od : Fin 3 → ℕ} {hs hd}
    (hos : os = ![10 * c.val + m, 0, 0]) (hod : od = ![10 * c.val + m, 0, 0])
    {hsrc : (blkM xM os hs).view.WordExact} {hdst : (blkM oM od hd).view.WordExact}
    {hsem : DmaTarget.Typed (nD := nD) (τ := τ) (sig := sig) (p := .tc) .vmem mL1 (.here (blkM oM od hd))}
    {k : PUnit → Prog (TpuEff nD τ sig (Elt F) Λ₀ .tc) α} :
    locSt CNT XS K c m
      ⊢ iprop((locSt CNT XS K c (m + 1) -∗ wpc c (k ⟨⟩) Q)
        -∗ wpc c (.op (.enqueueDma (blkM xM os hs) (.here (blkM oM od hd)) mL1 hsrc hdst hsem) k) Q) := by
  unfold locSt
  have e : (List.range 10).drop m = m :: (List.range 10).drop (m + 1) := by interval_cases m <;> rfl
  rw [e, bigSepL_cons']
  iintro ⟨#HI, Hc, Hs, Hr⟩ Hk
  iapply (step_copy CNT XS K c m hm hos hod m) $$ [Hc Hs]
  · isplitr; · iexact HI
    isplitl [Hc]; · iexact Hc
    iexact Hs
  iintro Hc
  iapply Hk
  isplitr; · iexact HI
  isplitl [Hc]; · iexact Hc
  iexact Hr

theorem wait_l (c : Dev nD) (l : List (Pay nD τ sig)) (j : Fin 7) (hl : Over (lv (cell c (csem j)) 0) l) {a u : ℕ} {w : TpuEff nD τ sig (Elt F) Λ₀ .tc PUnit}
    (hw : ∀ Q' : PUnit → sProp 𝕄, wpE (defs₀ (F := F)) 𝒱₀ (c : Thread nD τ) none Set.univ w Q' = waitSpec (c : Thread nD τ) Set.univ (csem j) u Q')
    (hu : units (csem j) = u) {k : PUnit → Prog (TpuEff nD τ sig (Elt F) Λ₀ .tc) α} :
    iprop(idleL CNT XS K c l ∗ waitSt CNT XS c j (a + 1))
      ⊢ iprop((iprop(idleL CNT XS K c l ∗ waitSt CNT XS c j a) -∗ wpc c (k ⟨⟩) Q) -∗ wpc c (.op w k) Q) := by
  subst hu
  unfold idleL
  cases a with
  | zero =>
    unfold waitSt
    iintro ⟨⟨#HI, #HL, HO⟩, ⟨%m, %hm, Hc, Hg⟩⟩ Hk
    iapply (step_waitLast CNT XS K c j w hw l hl m hm) $$ [HO Hc Hg]
    · isplitr; · iexact HI
      isplitr; · iexact HL
      isplitl [HO]; · iexact HO
      isplitl [Hc]; · iexact Hc
      iexact Hg
    iintro ⟨HO, Hg⟩
    iapply Hk
    isplitl [HO]
    · isplitr; · iexact HI
      isplitr; · iexact HL
      iexact HO
    iexact Hg
  | succ a =>
    unfold waitSt
    iintro ⟨⟨#HI, #HL, HO⟩, ⟨%m, %hm, Hc, Hg⟩⟩ Hk
    iapply (step_wait CNT XS K c j w hw l hl m (a + 1)) $$ [HO Hc Hg]
    · isplitr; · iexact HI
      isplitr; · iexact HL
      isplitl [HO]; · iexact HO
      isplitl [Hc]; · iexact Hc
      iexact Hg
    iintro ⟨HO, Hc, Hg⟩
    iapply Hk
    isplitl [HO]
    · isplitr; · iexact HI
      isplitr; · iexact HL
      iexact HO
    iexists m + 1
    isplitr; · ipureintro; omega
    isplitl [Hc]; · iexact Hc
    iexact Hg

theorem wait_n (c : Dev nD) (j : Fin 7) {a u : ℕ} {w : TpuEff nD τ sig (Elt F) Λ₀ .tc PUnit}
    (hw : ∀ Q' : PUnit → sProp 𝕄, wpE (defs₀ (F := F)) 𝒱₀ (c : Thread nD τ) none Set.univ w Q' = waitSpec (c : Thread nD τ) Set.univ (csem j) u Q')
    (hu : units (csem j) = u) {k : PUnit → Prog (TpuEff nD τ sig (Elt F) Λ₀ .tc) α} :
    iprop(idle CNT XS K c ∗ waitSt CNT XS c j (a + 1))
      ⊢ iprop((iprop(idle CNT XS K c ∗ waitSt CNT XS c j a) -∗ wpc c (k ⟨⟩) Q) -∗ wpc c (.op w k) Q)  :=
  wait_l CNT XS K c [] j (over_nil _) hw hu

theorem wpc_ret (c : Dev nD) (a : α) : Q a ⊢ wpc c (.ret a) Q := by
  rw [wpc, wp_ret]; exact fupd_intro

end Steps

theorem N1x : (blkM xM ![0, 0, 0] inb_S40x64x1024_S1x64x1024_0_0_0).view.dmaCredit = N1 := by decide +kernel
theorem units_S1_x {o h} : units mS1 = (blkM xM o h).view.dmaCredit := units_S1.trans N1x.symm
theorem units_R1_o {o h} : units mR1 = (blkM oM o h).view.dmaCredit := units_R1
theorem units_L1_o {o h} : units mL1 = (blkM oM o h).view.dmaCredit := units_L1

theorem card_dut (c : Dev nD) (j : Fin 7) : (dut c (csem j)).card = ![3, 3, 3, 3, 24, 24, 10] j := by
  have hp : (peers c).card = 3 := by rw [Finset.card_erase_of_mem (Finset.mem_univ _), Finset.card_univ]; rfl
  fin_cases j
  · exact (congrArg Finset.card (dut_B0 c)).trans (by rw [Finset.card_product, hp]; rfl)
  · exact (congrArg Finset.card (dut_B1 c)).trans (by rw [Finset.card_product, hp]; rfl)
  · exact (congrArg Finset.card (dut_S0 c)).trans (by rw [Finset.card_product, hp]; rfl)
  · exact (congrArg Finset.card (dut_R0 c)).trans (by rw [Finset.card_product, hp]; rfl)
  · exact (congrArg Finset.card (dut_S1 c)).trans (by rw [Finset.card_product, hp]; rfl)
  · exact (congrArg Finset.card (dut_R1 c)).trans (by rw [Finset.card_product, hp]; rfl)
  · exact (congrArg Finset.card (dut_L1 c)).trans (by rw [Finset.card_product]; rfl)

section Parts
variable (c : Dev nD)

theorem part2 (v2 v20 : BitVec 32) (Kt : _ → sProp 𝕄) :
    iprop((sendSt CNT XS K c 1 ∗ scalPts c) ∗ (∀ v54 : BitVec 32, (sendSt CNT XS K c 8 ∗ scalPts c) -∗ Kt ⟨Scalar.cmpi .sgt 8#32 2#32, Scalar.cmpi .sgt 8#32 3#32, Scalar.cmpi .sgt 8#32 4#32, Scalar.cmpi .sgt 8#32 5#32, Scalar.cmpi .sgt 8#32 6#32, Scalar.cmpi .sgt 8#32 7#32, Scalar.cmpi .sgt 8#32 8#32, Scalar.cmpi .sgt 8#32 9#32, v54, 8#32, Scalar.cmpi .sgt 8#32 0#32, Scalar.extui (Scalar.cmpi .sgt 8#32 0#32)⟩))
      ⊢ wpc c (k1_part2 (F := F) xM (Memref.isWhole_whole _) sM (Memref.isWhole_whole _) (Memref.whole main_v38) (Memref.isWhole_whole _) oM (Memref.isWhole_whole _)
          cc1_scratch0 cc1_scratch1 cc1_scratch2 c v2 v20 8#32 (Scalar.extui (Scalar.cmpi .sgt 8#32 1#32))) Kt := by
  simp only [k1_part2_eq_skeleton]; unfold k1_part2_skel
  simp (decide := true) only [smemLoad, smemLoadElt, Prog.lift, Prog.bind_op, Prog.bind_ret, Prog.pure_eq_ret, ↓reduceIte]
  iintro ⟨⟨Hs, Hm⟩, Hk⟩
  iapply (send_n CNT XS K c 1 (pl c 1, 1) rfl (Fin.ext (k1_dev5_eq c)) (k1_off5_eq c) (k1_off4_eq c)) $$ Hs; iintro Hs
  iapply (send_n CNT XS K c 2 (pl c 1, 2) rfl (Fin.ext (k1_dev6_eq c)) (k1_off7_eq c) (k1_off6_eq c)) $$ Hs; iintro Hs
  iapply (send_n CNT XS K c 3 (pl c 1, 3) rfl (Fin.ext (k1_dev7_eq c)) (k1_off9_eq c) (k1_off8_eq c)) $$ Hs; iintro Hs
  iapply (send_n CNT XS K c 4 (pl c 1, 4) rfl (Fin.ext (k1_dev8_eq c)) (k1_off11_eq c) (k1_off10_eq c)) $$ Hs; iintro Hs
  iapply (send_n CNT XS K c 5 (pl c 1, 5) rfl (Fin.ext (k1_dev9_eq c)) (k1_off13_eq c) (k1_off12_eq c)) $$ Hs; iintro Hs
  iapply (send_n CNT XS K c 6 (pl c 1, 6) rfl (Fin.ext (k1_dev10_eq c)) (k1_off15_eq c) (k1_off14_eq c)) $$ Hs; iintro Hs
  iapply (send_n CNT XS K c 7 (pl c 1, 7) rfl (Fin.ext (k1_dev11_eq c)) (k1_off17_eq c) (k1_off16_eq c)) $$ Hs; iintro Hs
  unfold scalPts
  iapply (wp_load 𝒱₀ (c : Thread nD τ) none Set.univ (m := sM) (Finset.subset_univ _)) $$ Hm
  iintro Hm
  rw [read_scal ((c.val + 2) % 4) (k1_off22_eq c), if_pos (Nat.mod_lt _ (by decide))]
  iapply (wpc_ret c)
  iapply Hk
  isplitl [Hs] <;> iassumption

theorem part3 (v2 v54 : BitVec 32) (Kt : _ → sProp 𝕄) :
    iprop((sendSt CNT XS K c 8 ∗ scalPts c) ∗ (∀ v87 : BitVec 32, ∀ v : BitVec 32, (sendSt CNT XS K c 16 ∗ scalPts c) -∗ Kt ⟨Scalar.cmpi .sgt 8#32 1#32, Scalar.cmpi .sgt 8#32 2#32, Scalar.cmpi .sgt 8#32 3#32, Scalar.cmpi .sgt 8#32 4#32, Scalar.cmpi .sgt 8#32 5#32, Scalar.cmpi .sgt 8#32 6#32, Scalar.cmpi .sgt 8#32 7#32, Scalar.cmpi .sgt 8#32 8#32, Scalar.cmpi .sgt 8#32 9#32, v87, v⟩))
      ⊢ wpc c (k1_part3 (F := F) xM (Memref.isWhole_whole _) sM (Memref.isWhole_whole _) (Memref.whole main_v38) (Memref.isWhole_whole _) oM (Memref.isWhole_whole _)
          cc1_scratch0 cc1_scratch1 cc1_scratch2 c v2 v54 8#32 (Scalar.extui (Scalar.cmpi .sgt 8#32 0#32))) Kt := by
  simp only [k1_part3_eq_skeleton]; unfold k1_part3_skel
  simp (decide := true) only [smemLoad, smemLoadElt, Prog.lift, Prog.bind_op, Prog.bind_ret, Prog.pure_eq_ret, ↓reduceIte]
  iintro ⟨⟨Hs, Hm⟩, Hk⟩
  iapply (send_n CNT XS K c 8 (pl c 2, 0) rfl (Fin.ext (k1_dev14_eq c)) (k1_off24_eq c) (k1_off23_eq c)) $$ Hs; iintro Hs
  iapply (send_n CNT XS K c 9 (pl c 2, 1) rfl (Fin.ext (k1_dev15_eq c)) (k1_off26_eq c) (k1_off25_eq c)) $$ Hs; iintro Hs
  iapply (send_n CNT XS K c 10 (pl c 2, 2) rfl (Fin.ext (k1_dev16_eq c)) (k1_off28_eq c) (k1_off27_eq c)) $$ Hs; iintro Hs
  iapply (send_n CNT XS K c 11 (pl c 2, 3) rfl (Fin.ext (k1_dev17_eq c)) (k1_off30_eq c) (k1_off29_eq c)) $$ Hs; iintro Hs
  iapply (send_n CNT XS K c 12 (pl c 2, 4) rfl (Fin.ext (k1_dev18_eq c)) (k1_off32_eq c) (k1_off31_eq c)) $$ Hs; iintro Hs
  iapply (send_n CNT XS K c 13 (pl c 2, 5) rfl (Fin.ext (k1_dev19_eq c)) (k1_off34_eq c) (k1_off33_eq c)) $$ Hs; iintro Hs
  iapply (send_n CNT XS K c 14 (pl c 2, 6) rfl (Fin.ext (k1_dev20_eq c)) (k1_off36_eq c) (k1_off35_eq c)) $$ Hs; iintro Hs
  iapply (send_n CNT XS K c 15 (pl c 2, 7) rfl (Fin.ext (k1_dev21_eq c)) (k1_off38_eq c) (k1_off37_eq c)) $$ Hs; iintro Hs
  iapply (wpc_ret c)
  iapply Hk
  isplitl [Hs] <;> iassumption

theorem part4 (v2 v87 v : BitVec 32) (Kt : _ → sProp 𝕄) :
    iprop((sendSt CNT XS K c 16 ∗ scalPts c) ∗ (∀ v88 : BitVec 32, (sendSt CNT XS K c 24 ∗ scalPts c) -∗ Kt ⟨v88, Scalar.cmpi .sgt 8#32 0#32, Scalar.cmpi .sgt 8#32 1#32, Scalar.cmpi .sgt 8#32 2#32, Scalar.cmpi .sgt 8#32 3#32, Scalar.cmpi .sgt 8#32 4#32, Scalar.cmpi .sgt 8#32 5#32, Scalar.cmpi .sgt 8#32 6#32, Scalar.cmpi .sgt 8#32 7#32, Scalar.cmpi .sgt 8#32 8#32, Scalar.cmpi .sgt 8#32 9#32, Scalar.extui (Scalar.cmpi .sgt 8#32 9#32)⟩))
      ⊢ wpc c (k1_part4 (F := F) xM (Memref.isWhole_whole _) sM (Memref.isWhole_whole _) (Memref.whole main_v38) (Memref.isWhole_whole _) oM (Memref.isWhole_whole _)
          cc1_scratch0 cc1_scratch1 cc1_scratch2 c v2 v87 v) Kt := by
  simp only [k1_part4_eq_skeleton]; unfold k1_part4_skel
  simp (decide := true) only [smemLoad, smemLoadElt, Prog.lift, Prog.bind_op, Prog.bind_ret, Prog.pure_eq_ret, ↓reduceIte]
  iintro ⟨⟨Hs, Hm⟩, Hk⟩
  unfold scalPts
  iapply (wp_load 𝒱₀ (c : Thread nD τ) none Set.univ (m := sM) (Finset.subset_univ _)) $$ Hm
  iintro Hm
  rw [read_scal ((c.val + 3) % 4) (k1_off43_eq c), if_pos (Nat.mod_lt _ (by decide))]
  simp (decide := true) only [Prog.bind_op, Prog.bind_ret, ↓reduceIte]
  iapply (send_n CNT XS K c 16 (pl c 3, 0) rfl (Fin.ext (k1_dev24_eq c)) (k1_off45_eq c) (k1_off44_eq c)) $$ Hs; iintro Hs
  iapply (send_n CNT XS K c 17 (pl c 3, 1) rfl (Fin.ext (k1_dev25_eq c)) (k1_off47_eq c) (k1_off46_eq c)) $$ Hs; iintro Hs
  iapply (send_n CNT XS K c 18 (pl c 3, 2) rfl (Fin.ext (k1_dev26_eq c)) (k1_off49_eq c) (k1_off48_eq c)) $$ Hs; iintro Hs
  iapply (send_n CNT XS K c 19 (pl c 3, 3) rfl (Fin.ext (k1_dev27_eq c)) (k1_off51_eq c) (k1_off50_eq c)) $$ Hs; iintro Hs
  iapply (send_n CNT XS K c 20 (pl c 3, 4) rfl (Fin.ext (k1_dev28_eq c)) (k1_off53_eq c) (k1_off52_eq c)) $$ Hs; iintro Hs
  iapply (send_n CNT XS K c 21 (pl c 3, 5) rfl (Fin.ext (k1_dev29_eq c)) (k1_off55_eq c) (k1_off54_eq c)) $$ Hs; iintro Hs
  iapply (send_n CNT XS K c 22 (pl c 3, 6) rfl (Fin.ext (k1_dev30_eq c)) (k1_off57_eq c) (k1_off56_eq c)) $$ Hs; iintro Hs
  iapply (send_n CNT XS K c 23 (pl c 3, 7) rfl (Fin.ext (k1_dev31_eq c)) (k1_off59_eq c) (k1_off58_eq c)) $$ Hs; iintro Hs
  iapply (wpc_ret c)
  iapply Hk
  isplitl [Hs] <;> iassumption

theorem part5 (v2 v88 : BitVec 32) (Kt : _ → sProp 𝕄) :
    iprop(locSt CNT XS K c 0 ∗ (∀ v : BitVec 32, locSt CNT XS K c 3 -∗ Kt v))
      ⊢ wpc c (k1_part5 (F := F) xM (Memref.isWhole_whole _) sM (Memref.isWhole_whole _) (Memref.whole main_v38) (Memref.isWhole_whole _) oM (Memref.isWhole_whole _)
          cc1_scratch0 cc1_scratch1 cc1_scratch2 c v2 v88 (Scalar.extui (Scalar.cmpi .sgt 8#32 9#32))) Kt := by
  simp only [k1_part5_eq_skeleton]; unfold k1_part5_skel
  simp (decide := true) only [smemLoad, smemLoadElt, Prog.lift, Prog.bind_op, Prog.bind_ret, Prog.pure_eq_ret, ↓reduceIte]
  iintro ⟨Hs, Hk⟩
  iapply (copy_n CNT XS K c 0 (by decide) (k1_off64_eq c 0) (k1_off64_eq c 0)) $$ Hs; iintro Hs
  iapply (copy_n CNT XS K c 1 (by decide) (k1_off64_eq c 1) (k1_off64_eq c 1)) $$ Hs; iintro Hs
  iapply (copy_n CNT XS K c 2 (by decide) (k1_off64_eq c 2) (k1_off64_eq c 2)) $$ Hs; iintro Hs
  iapply (wpc_ret c)
  iapply Hk
  iexact Hs

theorem part6 (v2 v : BitVec 32) (Kt : _ → sProp 𝕄) :
    iprop(locSt CNT XS K c 3 ∗ (locSt CNT XS K c 6 -∗ Kt ⟨⟩))
      ⊢ wpc c (k1_part6 (F := F) xM (Memref.isWhole_whole _) sM (Memref.isWhole_whole _) (Memref.whole main_v38) (Memref.isWhole_whole _) oM (Memref.isWhole_whole _)
          cc1_scratch0 cc1_scratch1 cc1_scratch2 c v2 v) Kt := by
  simp only [k1_part6_eq_skeleton]; unfold k1_part6_skel
  simp (decide := true) only [smemLoad, smemLoadElt, Prog.lift, Prog.bind_op, Prog.bind_ret, Prog.pure_eq_ret, ↓reduceIte]
  iintro ⟨Hs, Hk⟩
  iapply (copy_n CNT XS K c 3 (by decide) (k1_off64_eq c 3) (k1_off64_eq c 3)) $$ Hs; iintro Hs
  iapply (copy_n CNT XS K c 4 (by decide) (k1_off64_eq c 4) (k1_off64_eq c 4)) $$ Hs; iintro Hs
  iapply (copy_n CNT XS K c 5 (by decide) (k1_off64_eq c 5) (k1_off64_eq c 5)) $$ Hs; iintro Hs
  iapply (wpc_ret c)
  iapply Hk
  iexact Hs

theorem part7 (v2 : BitVec 32) (Kt : _ → sProp 𝕄) :
    iprop((locSt CNT XS K c 6 ∗ (idle CNT XS K c ∗ waitSt CNT XS c 4 24)) ∗ ((locSt CNT XS K c 10 ∗ (idle CNT XS K c ∗ waitSt CNT XS c 4 23)) -∗ Kt (Scalar.extui (Scalar.cmpi .sgt 8#32 1#32))))
      ⊢ wpc c (k1_part7 (F := F) xM (Memref.isWhole_whole _) sM (Memref.isWhole_whole _) (Memref.whole main_v38) (Memref.isWhole_whole _) oM (Memref.isWhole_whole _)
          cc1_scratch0 cc1_scratch1 cc1_scratch2 c v2 (Scalar.cmpi .sgt 8#32 0#32) (Scalar.cmpi .sgt 8#32 1#32)) Kt := by
  simp only [k1_part7_eq_skeleton]; unfold k1_part7_skel
  simp (decide := true) only [smemLoad, smemLoadElt, Prog.lift, Prog.bind_op, Prog.bind_ret, Prog.pure_eq_ret, ↓reduceIte]
  iintro ⟨⟨Hl, Hs⟩, Hk⟩
  iapply (copy_n CNT XS K c 6 (by decide) (k1_off64_eq c 6) (k1_off64_eq c 6)) $$ Hl; iintro Hl
  iapply (copy_n CNT XS K c 7 (by decide) (k1_off64_eq c 7) (k1_off64_eq c 7)) $$ Hl; iintro Hl
  iapply (copy_n CNT XS K c 8 (by decide) (k1_off64_eq c 8) (k1_off64_eq c 8)) $$ Hl; iintro Hl
  iapply (copy_n CNT XS K c 9 (by decide) (k1_off64_eq c 9) (k1_off64_eq c 9)) $$ Hl; iintro Hl
  iterate 1 (iapply (wait_n CNT XS K c 4 (wpE_waitDma2_eq 𝒱₀ (c : Thread nD τ) none Set.univ) units_S1_x) $$ Hs; iintro Hs)
  iapply (wpc_ret c)
  iapply Hk
  isplitl [Hl] <;> iassumption

theorem part8 (Kt : _ → sProp 𝕄) :
    iprop((idle CNT XS K c ∗ waitSt CNT XS c 4 23) ∗ ((idle CNT XS K c ∗ waitSt CNT XS c 4 15) -∗ Kt (Scalar.extui (Scalar.cmpi .sgt 8#32 1#32))))
      ⊢ wpc c (k1_part8 (F := F) xM (Memref.isWhole_whole _) sM (Memref.isWhole_whole _) (Memref.whole main_v38) (Memref.isWhole_whole _) oM (Memref.isWhole_whole _)
          cc1_scratch0 cc1_scratch1 cc1_scratch2 (Scalar.cmpi .sgt 8#32 2#32) (Scalar.cmpi .sgt 8#32 3#32) (Scalar.cmpi .sgt 8#32 4#32) (Scalar.cmpi .sgt 8#32 5#32) (Scalar.cmpi .sgt 8#32 6#32) (Scalar.cmpi .sgt 8#32 7#32) (Scalar.cmpi .sgt 8#32 8#32) (Scalar.cmpi .sgt 8#32 9#32) (Scalar.cmpi .sgt 8#32 0#32) (Scalar.cmpi .sgt 8#32 1#32) (Scalar.extui (Scalar.cmpi .sgt 8#32 1#32))) Kt := by
  simp only [k1_part8_eq_skeleton]; unfold k1_part8_skel
  simp (decide := true) only [smemLoad, smemLoadElt, Prog.lift, Prog.bind_op, Prog.bind_ret, Prog.pure_eq_ret, ↓reduceIte]
  iintro ⟨Hs, Hk⟩
  iterate 8 (iapply (wait_n CNT XS K c 4 (wpE_waitDma2_eq 𝒱₀ (c : Thread nD τ) none Set.univ) units_S1_x) $$ Hs; iintro Hs)
  iapply (wpc_ret c)
  iapply Hk
  iexact Hs

theorem part9 (Kt : _ → sProp 𝕄) :
    iprop((idle CNT XS K c ∗ waitSt CNT XS c 4 15) ∗ ((idle CNT XS K c ∗ waitSt CNT XS c 4 7) -∗ Kt (Scalar.extui (Scalar.cmpi .sgt 8#32 1#32))))
      ⊢ wpc c (k1_part9 (F := F) xM (Memref.isWhole_whole _) sM (Memref.isWhole_whole _) (Memref.whole main_v38) (Memref.isWhole_whole _) oM (Memref.isWhole_whole _)
          cc1_scratch0 cc1_scratch1 cc1_scratch2 (Scalar.cmpi .sgt 8#32 2#32) (Scalar.cmpi .sgt 8#32 3#32) (Scalar.cmpi .sgt 8#32 4#32) (Scalar.cmpi .sgt 8#32 5#32) (Scalar.cmpi .sgt 8#32 6#32) (Scalar.cmpi .sgt 8#32 7#32) (Scalar.cmpi .sgt 8#32 8#32) (Scalar.cmpi .sgt 8#32 9#32) (Scalar.cmpi .sgt 8#32 0#32) (Scalar.cmpi .sgt 8#32 1#32) (Scalar.extui (Scalar.cmpi .sgt 8#32 1#32))) Kt := by
  simp only [k1_part9_eq_skeleton]; unfold k1_part9_skel
  simp (decide := true) only [smemLoad, smemLoadElt, Prog.lift, Prog.bind_op, Prog.bind_ret, Prog.pure_eq_ret, ↓reduceIte]
  iintro ⟨Hs, Hk⟩
  iterate 8 (iapply (wait_n CNT XS K c 4 (wpE_waitDma2_eq 𝒱₀ (c : Thread nD τ) none Set.univ) units_S1_x) $$ Hs; iintro Hs)
  iapply (wpc_ret c)
  iapply Hk
  iexact Hs

theorem part10 (Kt : _ → sProp 𝕄) :
    iprop((idle CNT XS K c ∗ waitSt CNT XS c 4 7) ∗ ((idle CNT XS K c ∗ waitSt CNT XS c 4 0) -∗ Kt ⟨⟩))
      ⊢ wpc c (k1_part10 (F := F) xM (Memref.isWhole_whole _) sM (Memref.isWhole_whole _) (Memref.whole main_v38) (Memref.isWhole_whole _) oM (Memref.isWhole_whole _)
          cc1_scratch0 cc1_scratch1 cc1_scratch2 c (Scalar.cmpi .sgt 8#32 2#32) (Scalar.cmpi .sgt 8#32 3#32) (Scalar.cmpi .sgt 8#32 4#32) (Scalar.cmpi .sgt 8#32 5#32) (Scalar.cmpi .sgt 8#32 6#32) (Scalar.cmpi .sgt 8#32 7#32) (Scalar.cmpi .sgt 8#32 8#32) (Scalar.cmpi .sgt 8#32 9#32) (Scalar.extui (Scalar.cmpi .sgt 8#32 1#32))) Kt := by
  simp only [k1_part10_eq_skeleton]; unfold k1_part10_skel
  simp (decide := true) only [smemLoad, smemLoadElt, Prog.lift, Prog.bind_op, Prog.bind_ret, Prog.pure_eq_ret, ↓reduceIte]
  iintro ⟨Hs, Hk⟩
  iterate 7 (iapply (wait_n CNT XS K c 4 (wpE_waitDma2_eq 𝒱₀ (c : Thread nD τ) none Set.univ) units_S1_x) $$ Hs; iintro Hs)
  iapply (wpc_ret c)
  iapply Hk
  iexact Hs

theorem part11 (Kt : _ → sProp 𝕄) :
    iprop((idle CNT XS K c ∗ waitSt CNT XS c 6 10) ∗ ((idle CNT XS K c ∗ waitSt CNT XS c 6 3) -∗ Kt ⟨⟩))
      ⊢ wpc c (k1_part11 (F := F) xM (Memref.isWhole_whole _) sM (Memref.isWhole_whole _) (Memref.whole main_v38) (Memref.isWhole_whole _) oM (Memref.isWhole_whole _)
          cc1_scratch0 cc1_scratch1 cc1_scratch2 c) Kt := by
  simp only [k1_part11_eq_skeleton]; unfold k1_part11_skel
  simp (decide := true) only [smemLoad, smemLoadElt, Prog.lift, Prog.bind_op, Prog.bind_ret, Prog.pure_eq_ret, ↓reduceIte]
  iintro ⟨Hs, Hk⟩
  iterate 7 (iapply (wait_n CNT XS K c 6 (wpE_waitDma2_eq 𝒱₀ (c : Thread nD τ) none Set.univ) units_L1_o) $$ Hs; iintro Hs)
  iapply (wpc_ret c)
  iapply Hk
  iexact Hs

theorem part12 (v2 : BitVec 32) (Kt : _ → sProp 𝕄) :
    iprop(((idle CNT XS K c ∗ waitSt CNT XS c 6 3) ∗ waitSt CNT XS c 5 24 ∗ scalPts c) ∗ (((idle CNT XS K c ∗ waitSt CNT XS c 5 20) ∗ waitSt CNT XS c 6 0 ∗ scalPts c) -∗ Kt ⟨24#32, Scalar.extui (Scalar.cmpi .sgt 24#32 4#32)⟩))
      ⊢ wpc c (k1_part12 (F := F) xM (Memref.isWhole_whole _) sM (Memref.isWhole_whole _) (Memref.whole main_v38) (Memref.isWhole_whole _) oM (Memref.isWhole_whole _)
          cc1_scratch0 cc1_scratch1 cc1_scratch2 c v2) Kt := by
  simp only [k1_part12_eq_skeleton]; unfold k1_part12_skel
  simp (decide := true) only [smemLoad, smemLoadElt, Prog.lift, Prog.bind_op, Prog.bind_ret, Prog.pure_eq_ret, ↓reduceIte]
  iintro ⟨⟨Hs, Hr, Hm⟩, Hk⟩
  iterate 3 (iapply (wait_n CNT XS K c 6 (wpE_waitDma2_eq 𝒱₀ (c : Thread nD τ) none Set.univ) units_L1_o) $$ Hs; iintro Hs)
  unfold scalPts
  iapply (wp_load 𝒱₀ (c : Thread nD τ) none Set.univ (m := sM) (Finset.subset_univ _)) $$ Hm
  iintro Hm
  rw [read_scal_24]
  simp (decide := true) only [Prog.bind_op, Prog.bind_ret, ↓reduceIte]
  icases Hs with ⟨Hi, Hl⟩
  ihave Hs : iprop(idle CNT XS K c ∗ waitSt CNT XS c 5 24) $$ [Hi Hr]
  · isplitl [Hi] <;> iassumption
  iterate 4 (iapply (wait_n CNT XS K c 5 (wpE_waitDma2_eq 𝒱₀ (c : Thread nD τ) none Set.univ) units_R1_o) $$ Hs; iintro Hs)
  iapply (wpc_ret c)
  iapply Hk
  isplitl [Hs]; · iexact Hs
  isplitl [Hl] <;> iassumption

theorem part13 (v2 : BitVec 32) (Kt : _ → sProp 𝕄) :
    iprop((idle CNT XS K c ∗ waitSt CNT XS c 5 20) ∗ ((idle CNT XS K c ∗ waitSt CNT XS c 5 13) -∗ Kt (Scalar.cmpi .ne (Scalar.extui (Scalar.cmpi .sgt 24#32 11#32)) 0#32)))
      ⊢ wpc c (k1_part13 (F := F) xM (Memref.isWhole_whole _) sM (Memref.isWhole_whole _) (Memref.whole main_v38) (Memref.isWhole_whole _) oM (Memref.isWhole_whole _)
          cc1_scratch0 cc1_scratch1 cc1_scratch2 v2 24#32 (Scalar.extui (Scalar.cmpi .sgt 24#32 4#32))) Kt := by
  simp only [k1_part13_eq_skeleton]; unfold k1_part13_skel
  simp (decide := true) only [smemLoad, smemLoadElt, Prog.lift, Prog.bind_op, Prog.bind_ret, Prog.pure_eq_ret, ↓reduceIte]
  iintro ⟨Hs, Hk⟩
  iterate 7 (iapply (wait_n CNT XS K c 5 (wpE_waitDma2_eq 𝒱₀ (c : Thread nD τ) none Set.univ) units_R1_o) $$ Hs; iintro Hs)
  iapply (wpc_ret c)
  iapply Hk
  iexact Hs

theorem part14 (v2 : BitVec 32) (Kt : _ → sProp 𝕄) :
    iprop((idle CNT XS K c ∗ waitSt CNT XS c 5 13) ∗ ((idle CNT XS K c ∗ waitSt CNT XS c 5 5) -∗ Kt (Scalar.extui (Scalar.cmpi .sgt 24#32 19#32))))
      ⊢ wpc c (k1_part14 (F := F) xM (Memref.isWhole_whole _) sM (Memref.isWhole_whole _) (Memref.whole main_v38) (Memref.isWhole_whole _) oM (Memref.isWhole_whole _)
          cc1_scratch0 cc1_scratch1 cc1_scratch2 v2 24#32 (Scalar.cmpi .ne (Scalar.extui (Scalar.cmpi .sgt 24#32 11#32)) 0#32)) Kt := by
  simp only [k1_part14_eq_skeleton]; unfold k1_part14_skel
  simp (decide := true) only [smemLoad, smemLoadElt, Prog.lift, Prog.bind_op, Prog.bind_ret, Prog.pure_eq_ret, ↓reduceIte]
  iintro ⟨Hs, Hk⟩
  iterate 8 (iapply (wait_n CNT XS K c 5 (wpE_waitDma2_eq 𝒱₀ (c : Thread nD τ) none Set.univ) units_R1_o) $$ Hs; iintro Hs)
  iapply (wpc_ret c)
  iapply Hk
  iexact Hs

theorem part15 (v2 : BitVec 32) (Kt : _ → sProp 𝕄) :
    iprop((idle CNT XS K c ∗ waitSt CNT XS c 5 5) ∗ ((idle CNT XS K c ∗ waitSt CNT XS c 5 0) -∗ Kt (Scalar.cmpi .ne (Scalar.extui (Scalar.cmpi .sgt 24#32 26#32)) 0#32)))
      ⊢ wpc c (k1_part15 (F := F) xM (Memref.isWhole_whole _) sM (Memref.isWhole_whole _) (Memref.whole main_v38) (Memref.isWhole_whole _) oM (Memref.isWhole_whole _)
          cc1_scratch0 cc1_scratch1 cc1_scratch2 v2 24#32 (Scalar.extui (Scalar.cmpi .sgt 24#32 19#32))) Kt := by
  simp only [k1_part15_eq_skeleton]; unfold k1_part15_skel
  simp (decide := true) only [smemLoad, smemLoadElt, Prog.lift, Prog.bind_op, Prog.bind_ret, Prog.pure_eq_ret, ↓reduceIte]
  iintro ⟨Hs, Hk⟩
  iterate 5 (iapply (wait_n CNT XS K c 5 (wpE_waitDma2_eq 𝒱₀ (c : Thread nD τ) none Set.univ) units_R1_o) $$ Hs; iintro Hs)
  iapply (wpc_ret c)
  iapply Hk
  iexact Hs

end Parts

end Cert.KernelIdeal.Pf

end
-- ==== Proof.KernelIdeal.Whole1.lean ====
/-
The exchange of blocks: the first part of its body, and the whole body from what a device holds at its entry.
-/
module

public import proofs.«01_k».proof.Proof.KernelIdeal.Body1
public import Idealize.ShloMosaic.Lib.SparseCore.Launch

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.TalkSites (Pay tallyL)

variable {F : FTy → Type} [FloatOps F]

local notation "𝕄" => MT nD τ sig ℕ (Elt F) ℕ UU ℕ

variable (CNT : Dev nD → CntRow F) (XS : Dev nD → Blocks F) (K : GSem nD τ sig → ℕ)

/-! ## Sums over the blocks -/

theorem list_sep {I : Type} [DecidableEq I] (l : List I) (h : l.Nodup) (Φ : I → sProp 𝕄) : bigSep l.toFinset Φ = bigSepL l Φ := by
  induction l with
  | nil => rw [List.toFinset_nil, bigSep_empty]; rfl
  | cons i l ih =>
    rw [List.toFinset_cons, bigSep_insert (by rw [List.mem_toFinset]; exact (List.nodup_cons.mp h).1), ih (List.nodup_cons.mp h).2, bigSepL_cons]

theorem sep_sep {I : Type} [DecidableEq I] (s : Finset I) (Φ Ψ : I → sProp 𝕄) : bigSep s (fun i => iprop(Φ i ∗ Ψ i)) = iprop(bigSep s Φ ∗ bigSep s Ψ) :=
  bigSep_sep s Φ Ψ

theorem sep_union {I : Type} [DecidableEq I] {s t : Finset I} (h : Disjoint s t) (Φ : I → sProp 𝕄) : bigSep (s ∪ t) Φ = iprop(bigSep s Φ ∗ bigSep t Φ) :=
  bigSep_union h

theorem sep_product {I J : Type} [DecidableEq I] [DecidableEq J] (s : Finset I) (t : Finset J) (Φ : I × J → sProp 𝕄) :
    bigSep (s ×ˢ t) Φ = bigSep s fun a => bigSep t fun b => Φ (a, b) :=
  SparseCore.bigSep_product s t Φ

/-- What persists may be used at every member of a sum. -/
theorem sep_mono {I : Type} [DecidableEq I] {s : Finset I} {P : sProp 𝕄} [BI.Persistent P] {Φ Ψ : I → sProp 𝕄}
    (h : ∀ i ∈ s, iprop(P ∗ Φ i) ⊢ Ψ i) : iprop(P ∗ bigSep s Φ) ⊢ bigSep s Ψ := by
  induction s using Finset.induction_on with
  | empty => rw [bigSep_empty, bigSep_empty]; iintro ⟨-, H⟩; iexact H
  | insert i s hi ih =>
    rw [bigSep_insert hi, bigSep_insert hi]
    show iprop(P ∗ (Φ i ∗ bigSep s Φ)) ⊢ iprop(Ψ i ∗ bigSep s Ψ)
    iintro ⟨#HP, Hi, Hs⟩
    isplitl [Hi]
    · iapply (h i (Finset.mem_insert_self i s))
      isplitr <;> iassumption
    · iapply (ih fun j hj => h j (Finset.mem_insert_of_mem hj))
      isplitr <;> iassumption

theorem peers_three (c : Dev nD) (Φ : Dev nD → sProp 𝕄) : bigSep (peers c) Φ = iprop(Φ (pl c 1) ∗ Φ (pl c 2) ∗ Φ (pl c 3)) := by
  rw [show peers c = {pl c 1, pl c 2, pl c 3} by revert c; decide, bigSep_insert (by revert c; decide), bigSep_insert (by revert c; decide), bigSep_singleton]
  rfl

theorem peers_symm {c s : Dev nD} (h : s ∈ peers c) : c ∈ peers s :=
  Finset.mem_erase.mpr ⟨(Finset.ne_of_mem_erase h).symm, Finset.mem_univ _⟩

theorem mem_B (c r : Dev nD) (sm : SemLoc sig) (hs : sm = mB0 ∨ sm = mB1) (h : r ∈ peers c) : (c, 0) ∈ dut r sm := by
  have : dut r sm = peers r ×ˢ {0} := by rcases hs with rfl | rfl; exacts [dut_B0 r, dut_B1 r]
  rw [this]
  exact Finset.mem_product.mpr ⟨peers_symm h, Finset.mem_singleton_self _⟩

/-- The blocks sent and received, the blocks kept, and the blocks nobody writes. -/
def bA (c : Dev nD) : Finset (Dev nD × ℕ) := peers c ×ˢ Finset.range 8
def bB (c : Dev nD) : Finset (Dev nD × ℕ) := {c} ×ˢ Finset.range 10
def bC (c : Dev nD) : Finset (Dev nD × ℕ) := peers c ×ˢ {8, 9}
abbrev blkP (p : Dev nD × ℕ) : Finset S40x64x1024.Idx := blk (10 * p.1.val + p.2)

theorem bAB (c : Dev nD) : Disjoint (bA c) (bB c) := by revert c; decide
theorem bABC (c : Dev nD) : Disjoint (bA c ∪ bB c) (bC c) := by revert c; decide
theorem mem_all (c : Dev nD) (p : Dev nD × ℕ) : p ∈ (bA c ∪ bB c) ∪ bC c ↔ p.2 < 10 := by
  simp only [bA, bB, bC, peers, Finset.mem_union, Finset.mem_product, Finset.mem_erase, Finset.mem_univ, and_true, Finset.mem_range, Finset.mem_singleton, Finset.mem_insert]
  constructor
  · rintro ((⟨-, h⟩ | ⟨-, h⟩) | ⟨-, h⟩) <;> omega
  · intro h
    by_cases e : p.1 = c
    · exact .inl (.inr ⟨e, h⟩)
    · by_cases h8 : p.2 < 8
      · exact .inl (.inl ⟨e, h8⟩)
      · exact .inr ⟨e, by omega⟩

theorem blkP_disj (c : Dev nD) : ∀ p ∈ (bA c ∪ bB c) ∪ bC c, ∀ p' ∈ (bA c ∪ bB c) ∪ bC c, p ≠ p' → Disjoint (blkP p) (blkP p') := by
  intro p hp p' hp' hne
  rw [mem_all] at hp hp'
  refine blk_disj fun h => hne (Prod.ext (Fin.ext ?_) ?_) <;> omega

theorem blkP_cover (c : Dev nD) : (Finset.univ : Finset S40x64x1024.Idx) = ((bA c ∪ bB c) ∪ bC c).biUnion blkP := by
  refine (Finset.eq_univ_iff_forall.mpr fun x => ?_).symm
  have hx : (x 0).val < 40 := (x 0).isLt
  refine Finset.mem_biUnion.mpr ⟨(⟨(x 0).val / 10, show _ < 4 by omega⟩, (x 0).val % 10), (mem_all c _).mpr (Nat.mod_lt _ (by decide)), mem_blk.mpr ?_⟩
  show (x 0).val = 10 * ((x 0).val / 10) + (x 0).val % 10
  omega

theorem xs_split (c : Dev nD) (f : Blocks F) :
    (((c : Thread nD τ).loc cc1_stg0_0) ↦{fullShare} f : sProp 𝕄)
      = iprop((bigSep (bA c) (fun p => ((c : Thread nD τ).loc cc1_stg0_0) ↦[blkP p]{fullShare} f) ∗ bigSep (bB c) (fun p => ((c : Thread nD τ).loc cc1_stg0_0) ↦[blkP p]{fullShare} f))
        ∗ bigSep (bC c) (fun p => ((c : Thread nD τ).loc cc1_stg0_0) ↦[blkP p]{fullShare} f)) := by
  rw [← sep_union (bAB c), ← sep_union (bABC c), ← pointsTo_biUnion (ℓ := (c : Thread nD τ).loc cc1_stg0_0) _ blkP (blkP_disj c)]
  exact congrArg (fun S : Finset S40x64x1024.Idx => (((c : Thread nD τ).loc cc1_stg0_0) ↦[S]{fullShare} f : sProp 𝕄)) (blkP_cover c)

theorem st_split (c : Dev nD) (f : Blocks F) :
    (((c : Thread nD τ).loc cc1_stg2_0) ↦{fullShare} f : sProp 𝕄)
      = iprop((bigSep (bA c) (fun p => ((c : Thread nD τ).loc cc1_stg2_0) ↦[blkP p]{fullShare} f) ∗ bigSep (bB c) (fun p => ((c : Thread nD τ).loc cc1_stg2_0) ↦[blkP p]{fullShare} f))
        ∗ bigSep (bC c) (fun p => ((c : Thread nD τ).loc cc1_stg2_0) ↦[blkP p]{fullShare} f)) := by
  rw [← sep_union (bAB c), ← sep_union (bABC c), ← pointsTo_biUnion (ℓ := (c : Thread nD τ).loc cc1_stg2_0) _ blkP (blkP_disj c)]
  exact congrArg (fun S : Finset S40x64x1024.Idx => (((c : Thread nD τ).loc cc1_stg2_0) ↦[S]{fullShare} f : sProp 𝕄)) (blkP_cover c)

/-- What device c's result holds at the end: what lands, in the blocks that somebody writes. -/
def Good (c : Dev nD) (g : Blocks F) : Prop := ∀ x : S40x64x1024.Idx, ((x 0).val % 10 < 8 ∨ (x 0).val / 10 = c.val) → g x = land XS c x

theorem st_join (c : Dev nD) (f : Blocks F) :
    iprop((bigSep (bA c) (fun p => stB XS c (10 * p.1.val + p.2)) ∗ bigSep (bB c) (fun p => stB XS c (10 * p.1.val + p.2)))
        ∗ bigSep (bC c) (fun p => ((c : Thread nD τ).loc cc1_stg2_0) ↦[blkP p]{fullShare} f))
      ⊢ iprop(∃ g : Blocks F, ⌜Good XS c g⌝ ∗ ((c : Thread nD τ).loc cc1_stg2_0) ↦{fullShare} g : sProp 𝕄) := by
  let g : Blocks F := fun x => if (x 0).val % 10 < 8 ∨ (x 0).val / 10 = c.val then land XS c x else f x
  have e1 : ∀ p : Dev nD × ℕ, (p.2 < 8 ∨ (p.1 = c ∧ p.2 < 10)) → (stB XS c (10 * p.1.val + p.2) : sProp 𝕄) = (((c : Thread nD τ).loc cc1_stg2_0) ↦[blkP p]{fullShare} g) := by
    intro p hp
    unfold stB
    refine pointsTo_congr fun x hx => ?_
    have hx0 := mem_blk.mp hx
    refine (if_pos ?_).symm
    rcases hp with h | ⟨h, h'⟩
    · left; omega
    · right; rw [← h]; omega
  have e2 : ∀ p ∈ bC c, ((((c : Thread nD τ).loc cc1_stg2_0) ↦[blkP p]{fullShare} f : sProp 𝕄)) = (((c : Thread nD τ).loc cc1_stg2_0) ↦[blkP p]{fullShare} g) := by
    intro p hp
    refine pointsTo_congr fun x hx => ?_
    have hx0 := mem_blk.mp hx
    obtain ⟨h1, h2⟩ := Finset.mem_product.mp hp
    have h1 := Finset.ne_of_mem_erase h1
    have h3 : p.1.val ≠ c.val := fun h => h1 (Fin.ext h)
    simp only [Finset.mem_insert, Finset.mem_singleton] at h2
    exact (if_neg (by omega)).symm
  rw [bigSep_congr (s := bA c) fun p hp => e1 p (.inl (Finset.mem_range.mp (Finset.mem_product.mp hp).2)),
    bigSep_congr (s := bB c) fun p hp => e1 p (.inr ⟨Finset.mem_singleton.mp (Finset.mem_product.mp hp).1, Finset.mem_range.mp (Finset.mem_product.mp hp).2⟩),
    bigSep_congr (s := bC c) e2, ← st_split c g]
  iintro H
  iexists g
  isplitr; · ipureintro; exact fun x hx => if_pos hx
  iexact H

/-! ## Tokens -/

def barTok (sm : SemLoc sig) (c s : Dev nD) : sProp 𝕄 := iprop(dutyTok ER (cell s sm) 0 (c, 0) ∗ reached ER (cell s sm) 0)
def sTok (c : Dev nD) (p : Dev nD × ℕ) : sProp 𝕄 := dutyTok ER (cell c mS1) 0 p
def rTok (c : Dev nD) (p : Dev nD × ℕ) : sProp 𝕄 := dutyTok ER (cell p.1 mR1) 0 (c, p.2)
def lTok (c : Dev nD) (p : Dev nD × ℕ) : sProp 𝕄 := dutyTok ER (cell c mL1) 0 p

/-- What a device keeps for a remote copy until its target has entered. -/
def half (c : Dev nD) (p : Dev nD × ℕ) : sProp 𝕄 := iprop(xsB XS c (10 * p.1.val + p.2) ∗ sTok c p ∗ rTok c p)

theorem pre_bar (c : Dev nD) (f : Blocks F) :
    iprop(reached ER (cell c mR1) 0 ∗ bigSep (bA c) (fun p => ((c : Thread nD τ).loc cc1_stg2_0) ↦[blkP p]{fullShare} f))
      ⊢ bigSep (peers c) (fun s => payB1 (F := F) s c) := by
  unfold bA
  rw [sep_product]
  refine sep_mono fun s hs => ?_
  unfold payB1
  iintro ⟨#Hr, H⟩
  isplitl [H]
  · iexists f
    rw [pointsTo_biUnion (ℓ := (c : Thread nD τ).loc cc1_stg2_0) (Finset.range 8) (fun k => blk (10 * s.val + k)) (fun k _ k' _ h => blk_disj (by omega))]
    iexact H
  iexact Hr

theorem post_bar (c : Dev nD) :
    iprop(reached ER (cell c mS1) 0 ∗ bigSep (dut c mB1) (pay CNT XS c mB1) ∗ bigSep (bA c) (half XS c)) ⊢ bigSepL (sendL c) (send1Res XS c) := by
  rw [← list_sep (sendL c) (by revert c; decide), show (sendL c).toFinset = bA c by revert c; decide]
  have e1 : bigSep (dut c mB1) (pay CNT XS c mB1)
      ⊢ bigSep (bA c) (fun p => iprop((∃ f, ((Dev.tc p.1 : Thread nD τ).loc cc1_stg2_0) ↦[blk (10 * c.val + p.2)]{fullShare} f) ∗ reached ER (cell p.1 mR1) 0) : _ → sProp 𝕄) := by
    rw [dut_B1, bA, sep_product, sep_product]
    refine bigSep_mono fun s hs => ?_
    rw [bigSep_singleton, pay_B1]
    unfold payB1
    show iprop((∃ f, ((s : Thread nD τ).loc cc1_stg2_0) ↦[(Finset.range 8).biUnion fun k => blk (10 * c.val + k)]{fullShare} f) ∗ reached ER (cell s mR1) 0)
      ⊢ bigSep (Finset.range 8) (fun k => iprop((∃ f, ((s : Thread nD τ).loc cc1_stg2_0) ↦[blk (10 * c.val + k)]{fullShare} f) ∗ reached ER (cell s mR1) 0) : _ → sProp 𝕄)
    iintro ⟨⟨%f, H⟩, #Hr⟩
    ihave H' := (Entails.of_eq (pointsTo_biUnion (ℓ := (s : Thread nD τ).loc cc1_stg2_0) (Finset.range 8) (fun k => blk (10 * c.val + k)) (fun k _ k' _ h => blk_disj (by omega)))) $$ H
    iapply (sep_mono (P := reached ER (cell s mR1) 0) (s := Finset.range 8) (Φ := fun k => (((s : Thread nD τ).loc cc1_stg2_0) ↦[blk (10 * c.val + k)]{fullShare} f : sProp 𝕄)) (fun k hk => by
      iintro ⟨#Hr, H⟩
      isplitl [H]
      · iexists f; iexact H
      iexact Hr))
    isplitr; · iexact Hr
    iexact H'
  iintro ⟨#Hr, Hp, Hh⟩
  ihave Hp' := e1 $$ Hp
  iapply (sep_mono (P := reached ER (cell c mS1) 0) (s := bA c)
    (Φ := fun p => iprop(((∃ f, ((p.1 : Thread nD τ).loc cc1_stg2_0) ↦[blk (10 * c.val + p.2)]{fullShare} f) ∗ reached ER (cell p.1 mR1) 0) ∗ half XS c p)) (fun p hp => by
      unfold half send1Res sTok rTok
      iintro ⟨#Hr, ⟨Hf, Hr'⟩, Hx, Ht, Ht'⟩
      isplitl [Hx]; · iexact Hx
      isplitl [Hf]; · iexact Hf
      isplitl [Ht]; · iexact Ht
      isplitr; · iexact Hr
      isplitl [Ht'] <;> iassumption))
  isplitr; · iexact Hr
  iapply (Entails.of_eq (sep_sep (bA c)
    (fun p => iprop((∃ f, ((Dev.tc p.1 : Thread nD τ).loc cc1_stg2_0) ↦[blk (10 * c.val + p.2)]{fullShare} f) ∗ reached ER (cell p.1 mR1) 0) : _ → sProp 𝕄) (half XS c)).symm)
  isplitl [Hp'] <;> iassumption

theorem pre_loc (c : Dev nD) (f : Blocks F) :
    iprop(reached ER (cell c mL1) 0 ∗ bigSep (bB c) (fun p => xsB XS c (10 * p.1.val + p.2)) ∗ bigSep (bB c) (fun p => ((c : Thread nD τ).loc cc1_stg2_0) ↦[blkP p]{fullShare} f)
        ∗ bigSep (bB c) (lTok c))
      ⊢ bigSepL (List.range 10) (copyRes XS c) := by
  rw [← list_sep (List.range 10) (by decide), show (List.range 10).toFinset = Finset.range 10 by decide]
  unfold bB
  rw [sep_product, sep_product, sep_product, bigSep_singleton, bigSep_singleton, bigSep_singleton]
  rw [← sep_sep, ← sep_sep]
  refine sep_mono fun k hk => ?_
  unfold copyRes lTok
  iintro ⟨#Hr, Hx, Hf, Ht⟩
  isplitl [Hx]; · iexact Hx
  isplitl [Hf]; · iexists f; iexact Hf
  isplitl [Ht]; · iexact Ht
  iexact Hr

theorem lv_B1 (c : Dev nD) : lv (cell c mB1) 0 = 3 := by
  show (if mB1 = mB0 then 1 else if mB1 = mR0 then 2 else if mB1 = mB1 then 3 else if mB1 = mR1 then 4 else 0) = 3
  rw [if_neg (by decide), if_neg (by decide), if_pos rfl]
theorem lv_R1 (c : Dev nD) : lv (cell c mR1) 0 = 4 := by
  show (if mR1 = mB0 then 1 else if mR1 = mR0 then 2 else if mR1 = mB1 then 3 else if mR1 = mR1 then 4 else 0) = 4
  rw [if_neg (by decide), if_neg (by decide), if_neg (by decide), if_pos rfl]

theorem over_sends1 (c : Dev nD) : Over (lv (cell c mB1) 0) (sends1 c) := by
  intro x hx
  have hx : x ∈ (sendL c).map (fun p => owe p.1 mR1) := hx
  obtain ⟨p, -, rfl⟩ := List.mem_map.mp hx
  exact ⟨rfl, rfl, by rw [lv_B1]; exact (lv_R1 p.1).symm ▸ (by decide)⟩

section Parts
variable (c : Dev nD)

theorem part1 (Kt : _ → sProp 𝕄) :
    iprop((invAll CNT XS K ∗ levAts L lv ∗ owesL c (due1 c) ∗ bigSep (peers c) (barTok mB1 c) ∗ bigSep (peers c) (fun s => payB1 (F := F) s c)
        ∗ cred (tallyAt (cell c mB1) 0 3) ∗ atPos ER (cell c mB1) 0 ∅ 0 ∗ reached ER (cell c mS1) 0 ∗ bigSep (bA c) (half XS c) ∗ scalPts c)
      ∗ (∀ v2 : BitVec 32, ∀ v20 : BitVec 32, (sendSt CNT XS K c 1 ∗ scalPts c ∗ atPos ER (cell c mB1) 1 ∅ 0) -∗
        Kt ⟨c, v2, v20, 8#32, Scalar.cmpi .sgt 8#32 0#32, Scalar.cmpi .sgt 8#32 1#32, Scalar.extui (Scalar.cmpi .sgt 8#32 1#32)⟩))
      ⊢ wpc c (k1_part1 (F := F) xM (Memref.isWhole_whole _) sM (Memref.isWhole_whole _) (Memref.whole main_v38) (Memref.isWhole_whole _) oM (Memref.isWhole_whole _)
          cc1_scratch0 cc1_scratch1 cc1_scratch2) Kt := by
  simp only [k1_part1_eq_skeleton]; unfold k1_part1_skel
  simp only [semSignalWord, semWaitWord, smemLoad, smemLoadElt, Prog.lift, Prog.bind_op, Prog.bind_ret, Prog.pure_eq_ret, wpc, wp_deviceId]
  rw [peers_three, peers_three]
  unfold barTok due1
  iintro ⟨⟨#HI, #HL, HO, ⟨⟨Ht1, #Hr1⟩, ⟨Ht2, #Hr2⟩, ⟨Ht3, #Hr3⟩⟩, ⟨Hp1, Hp2, Hp3⟩, Hc, Hat, #HrS, Hh, Hm⟩, Hk⟩
  iapply (step_signal CNT XS K c (pl c 1) _ (Fin.ext (k1_dev1_eq c)) 1 bar1 rfl (mem_B c _ _ (.inr rfl) (pl_mem c 1 (by decide) (by decide))) _ (units_B1.trans (by decide)) _) $$ [HO Ht1 Hp1]
  · isplitr; · iexact HI
    isplitl [HO]; · iexact HO
    isplitl [Ht1]; · iexact Ht1
    isplitl [Hp1]; · rw [pay_B1]; iexact Hp1
    iexact Hr1
  iintro HO
  iapply (step_signal CNT XS K c (pl c 2) _ (Fin.ext (k1_dev2_eq c)) 1 bar1 rfl (mem_B c _ _ (.inr rfl) (pl_mem c 2 (by decide) (by decide))) _ (units_B1.trans (by decide)) _) $$ [HO Ht2 Hp2]
  · isplitr; · iexact HI
    isplitl [HO]; · iexact HO
    isplitl [Ht2]; · iexact Ht2
    isplitl [Hp2]; · rw [pay_B1]; iexact Hp2
    iexact Hr2
  iintro HO
  iapply (step_signal CNT XS K c (pl c 3) _ (Fin.ext (k1_dev3_eq c)) 1 bar1 rfl (mem_B c _ _ (.inr rfl) (pl_mem c 3 (by decide) (by decide))) _ (units_B1.trans (by decide)) _) $$ [HO Ht3 Hp3]
  · isplitr; · iexact HI
    isplitl [HO]; · iexact HO
    isplitl [Ht3]; · iexact Ht3
    isplitl [Hp3]; · rw [pay_B1]; iexact Hp3
    iexact Hr3
  iintro HO
  iapply (step_waitBar CNT XS K c 1 _ 3 (wpE_semWait_eq 𝒱₀ (c : Thread nD τ) none Set.univ) (by rw [card_dut]; show 3 = 3 * units mB1; rw [units_B1]) (sends1 c) (over_sends1 c)) $$ [HO Hc Hat]
  · isplitr; · iexact HI
    isplitr; · iexact HL
    isplitl [HO]; · iexact HO
    isplitl [Hc] <;> iassumption
  unfold gotAll
  iintro ⟨HO, Hat, Hp⟩
  ihave Hl := (post_bar CNT XS c) $$ [Hp Hh]
  · isplitr; · iexact HrS
    isplitl [Hp] <;> iassumption
  unfold scalPts
  iapply (wp_load 𝒱₀ (c : Thread nD τ) none Set.univ (m := sM) (Finset.subset_univ _)) $$ Hm
  iintro Hm
  rw [read_scal ((c.val + 1) % 4) (k1_off1_eq c), if_pos (Nat.mod_lt _ (by decide))]
  simp (decide := true) only [Prog.bind_op, Prog.bind_ret, ↓reduceIte]
  ihave Hs : sendSt CNT XS K c 0 $$ [HO Hl]
  · unfold sendSt
    isplitr; · iexact HI
    isplitl [HO]; · iexact HO
    isplitr; · unfold creds; iempintro
    iexact Hl
  iapply (send_n CNT XS K c 0 (pl c 1, 0) rfl (Fin.ext (k1_dev4_eq c)) (k1_off3_eq c) (k1_off2_eq c)) $$ Hs; iintro Hs
  iapply (wpc_ret c)
  iapply Hk
  isplitl [Hs]; · iexact Hs
  isplitl [Hm] <;> iassumption

/-- What a device holds when it enters the exchange of blocks. -/
def pre1 : sProp 𝕄 :=
  iprop((invAll CNT XS K ∗ levAts L lv ∗ owesL c (due1 c))
    ∗ (bigSep (peers c) (barTok mB1 c) ∗ cred (tallyAt (cell c mB1) 0 3) ∗ atPos ER (cell c mB1) 0 ∅ 0)
    ∗ (bigSep (bA c) (sTok c) ∗ bigSep (bA c) (rTok c) ∗ bigSep (bB c) (lTok c) ∗ creds c mR1 24)
    ∗ ((atPos ER (cell c mS1) 0 ∅ 0 ∗ reached ER (cell c mS1) 0) ∗ (atPos ER (cell c mR1) 0 ∅ 0 ∗ reached ER (cell c mR1) 0) ∗ (atPos ER (cell c mL1) 0 ∅ 0 ∗ reached ER (cell c mL1) 0))
    ∗ (((c : Thread nD τ).loc cc1_stg0_0) ↦{fullShare} XS c) ∗ scalPts c ∗ (∃ f : Blocks F, ((c : Thread nD τ).loc cc1_stg2_0) ↦{fullShare} f))

/-- What it holds when it leaves. -/
def post1 : sProp 𝕄 :=
  iprop(owesL c []
    ∗ (atPos ER (cell c mB1) 1 ∅ 0 ∗ atPos ER (cell c mS1) 1 ∅ 0 ∗ atPos ER (cell c mR1) 1 ∅ 0 ∗ atPos ER (cell c mL1) 1 ∅ 0)
    ∗ (((c : Thread nD τ).loc cc1_stg0_0) ↦{fullShare} XS c) ∗ scalPts c ∗ (∃ g : Blocks F, ⌜Good XS c g⌝ ∗ ((c : Thread nD τ).loc cc1_stg2_0) ↦{fullShare} g))

theorem start_wait (j : Fin 7) (a : ℕ) (h : a + 1 = (dut c (csem j)).card) :
    iprop(creds c (csem j) (a + 1) ∗ atPos ER (cell c (csem j)) 0 ∅ 0) ⊢ waitSt CNT XS c j (a + 1) := by
  unfold waitSt
  iintro ⟨Hc, Ha⟩
  iexists 0
  isplitr; · ipureintro; omega
  isplitl [Hc]; · iexact Hc
  iapply (got_zero CNT XS c (csem j))
  iexact Ha

theorem got_S1 : waitSt CNT XS c 4 0 ⊢ iprop(atPos ER (cell c mS1) 1 ∅ 0 ∗ bigSep (bA c) (fun p => xsB XS c (10 * p.1.val + p.2))) := by
  show gotAll CNT XS c mS1 ⊢ _
  unfold gotAll
  rw [dut_S1, show pay CNT XS c mS1 = _ from funext (pay_S1 CNT XS c)]
  exact Entails.refl _
theorem got_R1 : waitSt CNT XS c 5 0 ⊢ iprop(atPos ER (cell c mR1) 1 ∅ 0 ∗ bigSep (bA c) (fun p => stB XS c (10 * p.1.val + p.2))) := by
  show gotAll CNT XS c mR1 ⊢ _
  unfold gotAll
  rw [dut_R1, show pay CNT XS c mR1 = _ from funext (pay_R1 CNT XS c)]
  exact Entails.refl _
theorem got_L1 : waitSt CNT XS c 6 0 ⊢ iprop(atPos ER (cell c mL1) 1 ∅ 0
    ∗ bigSep (bB c) (fun p => stB XS c (10 * p.1.val + p.2)) ∗ bigSep (bB c) (fun p => xsB XS c (10 * p.1.val + p.2))) := by
  show gotAll CNT XS c mL1 ⊢ _
  unfold gotAll
  rw [dut_L1, show pay CNT XS c mL1 = _ from funext (pay_L1 CNT XS c), ← sep_sep]
  exact Entails.refl _

theorem body1 (Q : PUnit → sProp 𝕄) :
    iprop(pre1 CNT XS K c ∗ (post1 XS c -∗ Q ⟨⟩))
      ⊢ wpc c (cc1__a2av_body (F := F) xM (Memref.isWhole_whole _) sM (Memref.isWhole_whole _) (Memref.whole main_v38) (Memref.isWhole_whole _) oM (Memref.isWhole_whole _)
          cc1_scratch0 cc1_scratch1 cc1_scratch2) Q := by
  unfold pre1
  rw [xs_split c (XS c)]
  iintro ⟨⟨⟨#HI, #HL, HO⟩, ⟨Hbt, Hbc, Hba⟩, ⟨Hst, Hrt, Hlt, Hcr⟩, ⟨⟨HaS, #HrS⟩, ⟨HaR, #HrR⟩, ⟨HaL, #HrL⟩⟩, ⟨⟨HxA, HxB⟩, HxC⟩, Hm, %f, Hf⟩, Hk⟩
  ihave Hf := (Entails.of_eq (st_split c f)) $$ Hf
  icases Hf with ⟨⟨HfA, HfB⟩, HfC⟩
  ihave Hp := (pre_bar c f) $$ [HfA]
  · isplitr; · iexact HrR
    iexact HfA
  ihave Hh : bigSep (bA c) (half XS c) $$ [HxA Hst Hrt]
  · unfold half
    rw [sep_sep, sep_sep]
    isplitl [HxA]; · iexact HxA
    isplitl [Hst] <;> iassumption
  ihave Hl := (pre_loc XS c f) $$ [HxB HfB Hlt]
  · isplitr; · iexact HrL
    isplitl [HxB]; · iexact HxB
    isplitl [HfB] <;> iassumption
  ihave Hl : locSt CNT XS K c 0 $$ [Hl]
  · unfold locSt
    isplitr; · iexact HI
    isplitr; · unfold creds; iempintro
    iexact Hl
  rw [cc1__a2av_body_eq_skeleton]
  unfold cc1__a2av_body_skel
  unfold wpc
  rw [wp_bind]
  iapply (part1 CNT XS K c _)
  isplitl [HO Hbt Hp Hbc Hba Hh Hm]
  · isplitr; · iexact HI
    isplitr; · iexact HL
    isplitl [HO]; · iexact HO
    isplitl [Hbt]; · iexact Hbt
    isplitl [Hp]; · iexact Hp
    isplitl [Hbc]; · iexact Hbc
    isplitl [Hba]; · iexact Hba
    isplitr; · iexact HrS
    isplitl [Hh] <;> iassumption
  iintro %v2 %v20 ⟨Hs, Hm, Hba⟩
  try dsimp only
  rw [wp_bind]
  iapply (part2 CNT XS K c v2 v20 _)
  isplitl [Hs Hm]; · isplitl [Hs] <;> iassumption
  iintro %v54 ⟨Hs, Hm⟩
  try dsimp only
  rw [wp_bind]
  iapply (part3 CNT XS K c v2 v54 _)
  isplitl [Hs Hm]; · isplitl [Hs] <;> iassumption
  iintro %v87 %v4 ⟨Hs, Hm⟩
  try dsimp only
  rw [wp_bind]
  iapply (part4 CNT XS K c v2 v87 v4 _)
  isplitl [Hs Hm]; · isplitl [Hs] <;> iassumption
  iintro %v88 ⟨Hs, Hm⟩
  try dsimp only
  rw [wp_bind]
  iapply (part5 CNT XS K c v2 v88 _)
  isplitl [Hl]; · iexact Hl
  iintro %v147 Hl
  try dsimp only
  rw [wp_bind]
  iapply (part6 CNT XS K c v2 v147 _)
  isplitl [Hl]; · iexact Hl
  iintro Hl
  try dsimp only
  rw [wp_bind]
  unfold sendSt
  icases Hs with ⟨-, HO, Hcs, -⟩
  ihave Hs : iprop(idle CNT XS K c ∗ waitSt CNT XS c 4 24) $$ [HO Hcs HaS]
  · isplitl [HO]
    · unfold idle idleL
      isplitr; · iexact HI
      isplitr; · iexact HL
      iexact HO
    iapply (start_wait CNT XS c 4 23 (by rw [card_dut]; rfl))
    isplitl [Hcs] <;> iassumption
  iapply (part7 CNT XS K c v2 _)
  isplitl [Hl Hs]; · isplitl [Hl] <;> iassumption
  iintro ⟨Hl, Hs⟩
  try dsimp only
  rw [wp_bind]
  iapply (part8 CNT XS K c _)
  isplitl [Hs]; · iexact Hs
  iintro Hs
  try dsimp only
  rw [wp_bind]
  iapply (part9 CNT XS K c _)
  isplitl [Hs]; · iexact Hs
  iintro Hs
  try dsimp only
  rw [wp_bind]
  iapply (part10 CNT XS K c _)
  isplitl [Hs]; · iexact Hs
  iintro ⟨Hi, Hs⟩
  try dsimp only
  rw [wp_bind]
  ihave Hs := (got_S1 CNT XS c) $$ Hs
  icases Hs with ⟨HaS, HxA⟩
  unfold locSt
  icases Hl with ⟨-, Hcl, -⟩
  iapply (part11 CNT XS K c _)
  isplitl [Hi Hcl HaL]
  · isplitl [Hi]; · iexact Hi
    iapply (start_wait CNT XS c 6 9 (by rw [card_dut]; rfl))
    isplitl [Hcl] <;> iassumption
  iintro Hs
  try dsimp only
  rw [wp_bind]
  iapply (part12 CNT XS K c v2 _)
  isplitl [Hs Hcr HaR Hm]
  · isplitl [Hs]; · iexact Hs
    isplitl [Hcr HaR]
    · iapply (start_wait CNT XS c 5 23 (by rw [card_dut]; rfl))
      isplitl [Hcr] <;> iassumption
    iexact Hm
  iintro ⟨Hs, Hl, Hm⟩
  try dsimp only
  rw [wp_bind]
  iapply (part13 CNT XS K c v2 _)
  isplitl [Hs]; · iexact Hs
  iintro Hs
  try dsimp only
  rw [wp_bind]
  iapply (part14 CNT XS K c v2 _)
  isplitl [Hs]; · iexact Hs
  iintro Hs
  try dsimp only
  rw [wp_bind]
  iapply (part15 CNT XS K c v2 _)
  isplitl [Hs]; · iexact Hs
  iintro ⟨Hi, Hs⟩
  simp (decide := true) only [Prog.bind_ret, Prog.pure_eq_ret, ↓reduceIte]
  ihave Hs := (got_R1 CNT XS c) $$ Hs
  icases Hs with ⟨HaR, HsA⟩
  ihave Hl := (got_L1 CNT XS c) $$ Hl
  icases Hl with ⟨HaL, HsB, HxB⟩
  iapply (wpc_ret c)
  iapply Hk
  unfold post1 idle idleL
  icases Hi with ⟨-, -, HO⟩
  isplitl [HO]; · iexact HO
  isplitl [Hba HaS HaR HaL]
  · isplitl [Hba]; · iexact Hba
    isplitl [HaS]; · iexact HaS
    isplitl [HaR] <;> iassumption
  isplitl [HxA HxB HxC]
  · rw [xs_split c (XS c)]
    isplitl [HxA HxB]
    · isplitl [HxA]; · iexact HxA
      iexact HxB
    iexact HxC
  isplitl [Hm]; · iexact Hm
  iapply (st_join XS c f)
  isplitl [HsA HsB]; · isplitl [HsA] <;> iassumption
  iexact HfC

end Parts

end Cert.KernelIdeal.Pf

end
-- ==== Proof.KernelIdeal.Body0.lean ====
/-
The exchange of counts: its whole body, from what a device holds at its entry.
-/
module

public import proofs.«01_k».proof.Proof.KernelIdeal.Whole1

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.TalkSites (Pay tallyL)

variable {F : FTy → Type} [FloatOps F]

local notation "𝕄" => MT nD τ sig ℕ (Elt F) ℕ UU ℕ

variable (CNT : Dev nD → CntRow F) (XS : Dev nD → Blocks F) (K : GSem nD τ sig → ℕ)

theorem rel_inj (c : Dev nD) : ∀ s s' : Dev nD, s ≠ s' → rel s c ≠ rel s' c := by revert c; decide

theorem rel_pl (c : Dev nD) (d : ℕ) (h0 : 0 < d) (h4 : d < 4) : rel c (pl c d) = d := by interval_cases d <;> (revert c; decide)
theorem rel_self (c : Dev nD) : rel c c = 0 := by revert c; decide

/-- The rows of the gathered counts: one's own, and one for each peer. -/
theorem al_split (c : Dev nD) (f : CntAll F) :
    (((c : Thread nD τ).loc cc0_stg1_0) ↦{fullShare} f : sProp 𝕄)
      = iprop((((c : Thread nD τ).loc cc0_stg1_0) ↦[row 0]{fullShare} f) ∗ bigSep (peers c) (fun s => ((c : Thread nD τ).loc cc0_stg1_0) ↦[row (rel s c)]{fullShare} f)) := by
  have e : (Finset.univ : Finset S4x8x128.Idx) = (Finset.univ : Finset (Dev nD)).biUnion (fun s => row (rel s c)) := by
    refine (Finset.eq_univ_iff_forall.mpr fun x => ?_).symm
    have hx : (x 0).val < 4 := (x 0).isLt
    have hc : c.val < 4 := c.isLt
    refine Finset.mem_biUnion.mpr ⟨⟨(c.val + 4 - (x 0).val) % 4, Nat.mod_lt _ (by decide)⟩, Finset.mem_univ _, mem_row.mpr ?_⟩
    show (x 0).val = (c.val + 4 - (c.val + 4 - (x 0).val) % 4) % 4
    omega
  refine (congrArg (fun S : Finset S4x8x128.Idx => (((c : Thread nD τ).loc cc0_stg1_0) ↦[S]{fullShare} f : sProp 𝕄)) e).trans ?_
  rw [pointsTo_biUnion (ℓ := (c : Thread nD τ).loc cc0_stg1_0) Finset.univ (fun s => row (rel s c)) (fun s _ s' _ h => row_disj (rel_inj c s s' h)),
    show (Finset.univ : Finset (Dev nD)) = insert c (peers c) from (Finset.insert_erase (Finset.mem_univ c)).symm, bigSep_insert (Finset.notMem_erase c _)]
  rw [rel_self]
  rfl

theorem cn_split (c : Dev nD) :
    (((c : Thread nD τ).loc cc0_stg0_0) ↦{fullShare} (CNT c) : sProp 𝕄) = bigSep (peers c) (payS0 CNT c) := by
  rw [peers_three]
  unfold payS0
  rw [rel_pl c 1 (by decide) (by decide), rel_pl c 2 (by decide) (by decide), rel_pl c 3 (by decide) (by decide)]
  show _ = iprop((((c : Thread nD τ).loc cc0_stg0_0) ↦{fullShare.left} (CNT c)) ∗ (((c : Thread nD τ).loc cc0_stg0_0) ↦{fullShare.right.left} (CNT c)) ∗ (((c : Thread nD τ).loc cc0_stg0_0) ↦{fullShare.right.right} (CNT c)))
  have h1 := pointsTo_share (nD := nD) (ℓ := (c : Thread nD τ).loc cc0_stg0_0) (I := Finset.univ) (f := CNT c) (Ix := ℕ) (Lvl := ℕ) (U := UU) (Name := ℕ) (PosShare.mem_left_op_right fullShare)
  have h2 := pointsTo_share (nD := nD) (ℓ := (c : Thread nD τ).loc cc0_stg0_0) (I := Finset.univ) (f := CNT c) (Ix := ℕ) (Lvl := ℕ) (U := UU) (Name := ℕ) (PosShare.mem_left_op_right fullShare.right)
  exact ((Entails.antisymm h1.1 h1.2).trans (congrArg (fun P : sProp 𝕄 => iprop((((c : Thread nD τ).loc cc0_stg0_0) ↦{fullShare.left} (CNT c)) ∗ P)) (Entails.antisymm h2.1 h2.2)))

/-- The row a device writes itself. -/
theorem own_row (c : Dev nD) (fd : CntAll F) {h} (w : Vec F S8x128 .i32) (hw : w = CNT c) :
    ∀ x ∈ row 0, ((aM.access (Rect.unit (s := S4x8x128) ![0, 0, 0] S1x8x128.size h)).write (Elt F) fd (k0_pay1 (F := F) w) Finset.univ : CntAll F) x = gath CNT c x := by
  subst hw
  intro x hx
  have hset : (Rect.unit (s := S4x8x128) ![0, 0, 0] S1x8x128.size h).set = row 0 := set_unit_row rfl
  have hx' : x ∈ (aM.access (Rect.unit (s := S4x8x128) ![0, 0, 0] S1x8x128.size h)).set := by
    rw [View.set_slice_whole, hset]; exact hx
  obtain ⟨y, -, rfl⟩ := Finset.mem_map.mp hx'
  refine (View.write_emb_of_mem (v := aM.access (Rect.unit (s := S4x8x128) ![0, 0, 0] S1x8x128.size h)) fd _ (Finset.mem_univ y)).trans ?_
  have e0 : ∀ a : Fin 3, ((aM.access (Rect.unit (s := S4x8x128) ![0, 0, 0] S1x8x128.size h)).emb y a).val = (![0, 0, 0] : Fin 3 → ℕ) a + (y a).val :=
    fun a => ValueKit.rect_emb_unit_val (s := S4x8x128) ![0, 0, 0] S1x8x128.size h y a
  have z0 : (y 0).val = 0 := Nat.lt_one_iff.mp (Fin.isLt _)
  unfold k0_pay1
  rw [shapeCast_self]
  refine (shapeCast_addUnit_apply (n := 2) ![8, 128] (CNT c) shapeCasts_S8x128_S1x8x128 y).trans ?_
  unfold gath
  have hc : c.val < 4 := c.isLt
  have hdev : (⟨(c.val + 4 - (((aM.access (Rect.unit (s := S4x8x128) ![0, 0, 0] S1x8x128.size h)).emb y : S4x8x128.Idx) 0).val) % 4, Nat.mod_lt _ (by decide)⟩ : Dev nD) = c :=
    Fin.ext (by
      rw [show (((aM.access (Rect.unit (s := S4x8x128) ![0, 0, 0] S1x8x128.size h)).emb y : S4x8x128.Idx) 0).val = 0 from (e0 0).trans (by rw [z0]; rfl)]
      show (c.val + 4 - 0) % 4 = c.val
      omega)
  rw [hdev]
  congr 1
  funext a
  refine Fin.ext (Eq.trans ?_ (e0 a.succ).symm)
  fin_cases a <;> exact (Nat.zero_add _).symm

theorem lv_B0 (c : Dev nD) : lv (cell c mB0) 0 = 1 := by
  show (if mB0 = mB0 then 1 else if mB0 = mR0 then 2 else if mB0 = mB1 then 3 else if mB0 = mR1 then 4 else 0) = 1
  rw [if_pos rfl]
theorem lv_R0 (c : Dev nD) : lv (cell c mR0) 0 = 2 := by
  show (if mR0 = mB0 then 1 else if mR0 = mR0 then 2 else if mR0 = mB1 then 3 else if mR0 = mR1 then 4 else 0) = 2
  rw [if_neg (by decide), if_pos rfl]
theorem lv_S0 (c : Dev nD) : lv (cell c mS0) 0 = 0 := by
  show (if mS0 = mB0 then 1 else if mS0 = mR0 then 2 else if mS0 = mB1 then 3 else if mS0 = mR1 then 4 else 0) = 0
  rw [if_neg (by decide), if_neg (by decide), if_neg (by decide), if_neg (by decide)]

theorem over_due1 (c : Dev nD) {b : ℕ} (hb : b < 3) : Over b (due1 c) := by
  unfold due1
  refine over_cons (by rw [lv_B1]; exact hb) (over_cons (by rw [lv_B1]; exact hb) (over_cons (by rw [lv_B1]; exact hb) fun x hx => ?_))
  obtain ⟨h1, h2, h3⟩ := over_sends1 c x hx
  rw [lv_B1] at h3
  exact ⟨h1, h2, by omega⟩

theorem over_sends0 (c : Dev nD) : Over (lv (cell c mB0) 0) (owe (pl c 1) mR0 :: owe (pl c 2) mR0 :: owe (pl c 3) mR0 :: due1 c) := by
  rw [lv_B0]
  exact over_cons (by rw [lv_R0]; decide) (over_cons (by rw [lv_R0]; decide) (over_cons (by rw [lv_R0]; decide) (over_due1 c (by decide))))

variable (c : Dev nD)

/-- What a device holds when it enters the exchange of counts. -/
def pre0 : sProp 𝕄 :=
  iprop((invAll CNT XS K ∗ levAts L lv ∗ owesL c (due0 c))
    ∗ (bigSep (peers c) (barTok mB0 c) ∗ cred (tallyAt (cell c mB0) 0 3) ∗ atPos ER (cell c mB0) 0 ∅ 0)
    ∗ (bigSep (peers c) (fun r => dutyTok ER (cell c mS0) 0 (r, 0)) ∗ bigSep (peers c) (fun r => dutyTok ER (cell r mR0) 0 (c, 0)) ∗ creds c mR0 3)
    ∗ ((atPos ER (cell c mS0) 0 ∅ 0 ∗ reached ER (cell c mS0) 0) ∗ (atPos ER (cell c mR0) 0 ∅ 0 ∗ reached ER (cell c mR0) 0))
    ∗ (((c : Thread nD τ).loc cc0_stg0_0) ↦{fullShare} CNT c) ∗ (∃ f : CntAll F, ((c : Thread nD τ).loc cc0_stg1_0) ↦{fullShare} f))

/-- What it holds when it leaves. -/
def post0 : sProp 𝕄 :=
  iprop(owesL c (due1 c)
    ∗ (atPos ER (cell c mB0) 1 ∅ 0 ∗ atPos ER (cell c mS0) 1 ∅ 0 ∗ atPos ER (cell c mR0) 1 ∅ 0)
    ∗ (((c : Thread nD τ).loc cc0_stg0_0) ↦{fullShare} CNT c) ∗ (((c : Thread nD τ).loc cc0_stg1_0) ↦{fullShare} gath CNT c))

theorem pre_bar0 (f : CntAll F) :
    iprop(reached ER (cell c mR0) 0 ∗ bigSep (peers c) (fun s => ((c : Thread nD τ).loc cc0_stg1_0) ↦[row (rel s c)]{fullShare} f))
      ⊢ bigSep (peers c) (fun s => payB0 (F := F) s c) := by
  refine sep_mono fun s hs => ?_
  unfold payB0
  iintro ⟨#Hr, H⟩
  isplitl [H]; · iexists f; iexact H
  iexact Hr

theorem post_bar0 :
    iprop(reached ER (cell c mS0) 0 ∗ bigSep (dut c mB0) (pay CNT XS c mB0) ∗ bigSep (peers c) (payS0 CNT c)
        ∗ bigSep (peers c) (fun r => dutyTok ER (cell c mS0) 0 (r, 0)) ∗ bigSep (peers c) (fun r => dutyTok ER (cell r mR0) 0 (c, 0)))
      ⊢ bigSep (peers c) (send0Res CNT c) := by
  have e1 : bigSep (dut c mB0) (pay CNT XS c mB0) = bigSep (peers c) (fun s => payB0 (F := F) c s) := by
    rw [dut_B0, sep_product]
    exact bigSep_congr fun s hs => by rw [bigSep_singleton, pay_B0]
  rw [e1, ← sep_sep, ← sep_sep, ← sep_sep]
  refine sep_mono fun r hr => ?_
  unfold payB0 payS0 send0Res
  iintro ⟨#Hr, ⟨Hf, Hr'⟩, Hs, Ht, Ht'⟩
  isplitl [Hs]; · iexact Hs
  isplitl [Hf]; · iexact Hf
  isplitl [Ht]; · iexact Ht
  isplitr; · iexact Hr
  isplitl [Ht'] <;> iassumption

theorem got_S0 : waitSt CNT XS c 2 0 ⊢ iprop(atPos ER (cell c mS0) 1 ∅ 0 ∗ (((c : Thread nD τ).loc cc0_stg0_0) ↦{fullShare} CNT c)) := by
  show gotAll CNT XS c mS0 ⊢ _
  unfold gotAll
  rw [cn_split, dut_S0, sep_product, bigSep_congr (s := peers c) fun s hs => (bigSep_singleton (i := (0 : ℕ)) (Φ := fun b => pay CNT XS c mS0 (s, b))).trans (pay_S0 CNT XS c (s, 0))]
theorem got_R0 : waitSt CNT XS c 3 0
    ⊢ iprop(atPos ER (cell c mR0) 1 ∅ 0 ∗ bigSep (peers c) (fun s => ((c : Thread nD τ).loc cc0_stg1_0) ↦[row (rel s c)]{fullShare} gath CNT c)) := by
  show gotAll CNT XS c mR0 ⊢ _
  unfold gotAll
  rw [dut_R0, sep_product, bigSep_congr (s := peers c) fun s hs => (bigSep_singleton (i := (0 : ℕ)) (Φ := fun b => pay CNT XS c mR0 (s, b))).trans (pay_R0 CNT XS c (s, 0))]
  exact Entails.refl _

theorem units_S0_c : units mS0 = cM.view.dmaCredit := by rw [units_S0]
theorem units_R0_a {o : Fin 3 → ℕ} {h} : units mR0 = (rowM aM o h).view.dmaCredit := by rw [units_R0]

set_option maxHeartbeats 1000000 in
theorem body0 (Q : PUnit → sProp 𝕄) :
    iprop(pre0 CNT XS K c ∗ (post0 CNT c -∗ Q ⟨⟩))
      ⊢ wpc c (cc0__cnt_exchange_body (F := F) cM (Memref.isWhole_whole _) aM (Memref.isWhole_whole _) cc0_scratch0 cc0_scratch1) Q := by
  unfold pre0
  iintro ⟨⟨⟨#HI, #HL, HO⟩, ⟨Hbt, Hbc, Hba⟩, ⟨Hst, Hrt, Hcr⟩, ⟨⟨HaS, #HrS⟩, ⟨HaR, #HrR⟩⟩, Hx, %f, Hf⟩, Hk⟩
  ihave Hf := (Entails.of_eq (al_split c f)) $$ Hf
  icases Hf with ⟨Hf0, Hfp⟩
  ihave Hp := (pre_bar0 c f) $$ [Hfp]
  · isplitr; · iexact HrR
    iexact Hfp
  ihave Hp := (Entails.of_eq (peers_three c (fun s => payB0 (F := F) s c))) $$ Hp
  ihave Hbt := (Entails.of_eq (peers_three c (barTok (F := F) mB0 c))) $$ Hbt
  unfold barTok due0
  icases Hp with ⟨Hp1, Hp2, Hp3⟩
  icases Hbt with ⟨⟨Ht1, #Hr1⟩, ⟨Ht2, #Hr2⟩, ⟨Ht3, #Hr3⟩⟩
  rw [cc0__cnt_exchange_body_eq_skeleton]
  unfold cc0__cnt_exchange_body_skel
  simp only [k0_part1_eq_skeleton, k0_part2_eq_skeleton]
  unfold k0_part1_skel k0_part2_skel
  simp only [semSignalWord, semWaitWord, Prog.lift, Prog.bind_op, Prog.bind_ret, Prog.pure_eq_ret, wpc, wp_deviceId]
  iapply (step_signal CNT XS K c (pl c 1) _ (Fin.ext (k0_dev1_eq c)) 0 bar0 rfl (mem_B c _ _ (.inl rfl) (pl_mem c 1 (by decide) (by decide))) _ (units_B0.trans (by decide)) _) $$ [HO Ht1 Hp1]
  · isplitr; · iexact HI
    isplitl [HO]; · iexact HO
    isplitl [Ht1]; · iexact Ht1
    isplitl [Hp1]; · rw [pay_B0]; iexact Hp1
    iexact Hr1
  iintro HO
  iapply (step_signal CNT XS K c (pl c 2) _ (Fin.ext (k0_dev2_eq c)) 0 bar0 rfl (mem_B c _ _ (.inl rfl) (pl_mem c 2 (by decide) (by decide))) _ (units_B0.trans (by decide)) _) $$ [HO Ht2 Hp2]
  · isplitr; · iexact HI
    isplitl [HO]; · iexact HO
    isplitl [Ht2]; · iexact Ht2
    isplitl [Hp2]; · rw [pay_B0]; iexact Hp2
    iexact Hr2
  iintro HO
  iapply (step_signal CNT XS K c (pl c 3) _ (Fin.ext (k0_dev3_eq c)) 0 bar0 rfl (mem_B c _ _ (.inl rfl) (pl_mem c 3 (by decide) (by decide))) _ (units_B0.trans (by decide)) _) $$ [HO Ht3 Hp3]
  · isplitr; · iexact HI
    isplitl [HO]; · iexact HO
    isplitl [Ht3]; · iexact Ht3
    isplitl [Hp3]; · rw [pay_B0]; iexact Hp3
    iexact Hr3
  iintro HO
  iapply (step_waitBar CNT XS K c 0 _ 3 (wpE_semWait_eq 𝒱₀ (c : Thread nD τ) none Set.univ) (by rw [card_dut]; show 3 = 3 * units mB0; rw [units_B0]) _ (over_sends0 c)) $$ [HO Hbc Hba]
  · isplitr; · iexact HI
    isplitr; · iexact HL
    isplitl [HO]; · iexact HO
    isplitl [Hbc] <;> iassumption
  unfold gotAll
  iintro ⟨HO, Hba, Hp⟩
  iapply (wp_load 𝒱₀ (c : Thread nD τ) none Set.univ (m := cM) (Finset.subset_univ _)) $$ Hx
  iintro Hx
  iapply (wp_load_rect 𝒱₀ (c : Thread nD τ) none Set.univ (m := aM) (r := Rect.unit (s := S4x8x128) ![0, 0, 0] S1x8x128.size inb_S4x8x128_S1x8x128_0_0_0) (S := row 0) (subset_of_eq ((View.set_slice_whole _ _).trans (set_unit_row rfl)))) $$ Hf0
  iintro Hf0
  iapply (wp_store 𝒱₀ (c : Thread nD τ) none Set.univ (m := aM) (r := Rect.unit (s := S4x8x128) ![0, 0, 0] S1x8x128.size inb_S4x8x128_S1x8x128_0_0_0) (Mk := Finset.univ) (S := row 0) (subset_of_eq ((View.setOn_univ _).trans ((View.set_slice_whole _ _).trans (set_unit_row rfl))))) $$ Hf0
  iintro Hf0
  ihave Hf0 := (Entails.of_eq (pointsTo_congr (own_row CNT c f _ (Memref.readAt_unit_zero (Elt F) cc0_stg0_0 (off := ![0, 0]) (by funext a; fin_cases a <;> rfl) inb_S8x128_S8x128_0_0 (CNT c))))) $$ Hf0
  ihave Hx := (Entails.of_eq (cn_split CNT c)) $$ Hx
  ihave Hl := (post_bar0 CNT XS c) $$ [Hp Hx Hst Hrt]
  · isplitr; · iexact HrS
    isplitl [Hp]; · iexact Hp
    isplitl [Hx]; · iexact Hx
    isplitl [Hst] <;> iassumption
  ihave Hl := (Entails.of_eq (peers_three c (send0Res CNT c))) $$ Hl
  icases Hl with ⟨Hl1, Hl2, Hl3⟩
  ihave Hcs : creds c mS0 0 $$ []
  · unfold creds; iempintro
  iapply (step_send0 CNT XS K c (pl c 1) _ (Fin.ext (k0_dev4_eq c)) (pl_mem c 1 (by decide) (by decide)) (by rw [rel_pl c 1 (by decide) (by decide)]) 0 _) $$ [HO Hcs Hl1]
  · isplitr; · iexact HI
    isplitl [HO]; · iexact HO
    isplitl [Hcs] <;> iassumption
  iintro ⟨HO, Hcs⟩
  iapply (step_send0 CNT XS K c (pl c 2) _ (Fin.ext (k0_dev5_eq c)) (pl_mem c 2 (by decide) (by decide)) (by rw [rel_pl c 2 (by decide) (by decide)]) 1 _) $$ [HO Hcs Hl2]
  · isplitr; · iexact HI
    isplitl [HO]; · iexact HO
    isplitl [Hcs] <;> iassumption
  iintro ⟨HO, Hcs⟩
  iapply (step_send0 CNT XS K c (pl c 3) _ (Fin.ext (k0_dev6_eq c)) (pl_mem c 3 (by decide) (by decide)) (by rw [rel_pl c 3 (by decide) (by decide)]) 2 _) $$ [HO Hcs Hl3]
  · isplitr; · iexact HI
    isplitl [HO]; · iexact HO
    isplitl [Hcs] <;> iassumption
  iintro ⟨HO, Hcs⟩
  ihave Hs : iprop(idleL CNT XS K c (due1 c) ∗ waitSt CNT XS c 2 3) $$ [HO Hcs HaS]
  · isplitl [HO]
    · unfold idleL
      isplitr; · iexact HI
      isplitr; · iexact HL
      iexact HO
    iapply (start_wait CNT XS c 2 2 (by rw [card_dut]; rfl))
    isplitl [Hcs] <;> iassumption
  iterate 3 (iapply (wait_l CNT XS K c (due1 c) 2 (over_due1 c (by show lv (cell c mS0) 0 < 3; rw [lv_S0]; decide)) (wpE_waitDma2_eq 𝒱₀ (c : Thread nD τ) none Set.univ) units_S0_c) $$ Hs; iintro Hs)
  icases Hs with ⟨Hi, Hs⟩
  ihave Hs := (got_S0 CNT XS c) $$ Hs
  icases Hs with ⟨HaS, Hx⟩
  ihave Hs : iprop(idleL CNT XS K c (due1 c) ∗ waitSt CNT XS c 3 3) $$ [Hi Hcr HaR]
  · isplitl [Hi]; · iexact Hi
    iapply (start_wait CNT XS c 3 2 (by rw [card_dut]; rfl))
    isplitl [Hcr] <;> iassumption
  iterate 3 (iapply (wait_l CNT XS K c (due1 c) 3 (over_due1 c (by show lv (cell c mR0) 0 < 3; rw [lv_R0]; decide)) (wpE_waitDma2_eq 𝒱₀ (c : Thread nD τ) none Set.univ) units_R0_a) $$ Hs; iintro Hs)
  icases Hs with ⟨Hi, Hs⟩
  ihave Hs := (got_R0 CNT XS c) $$ Hs
  icases Hs with ⟨HaR, Hfp⟩
  iapply (wpc_ret c)
  iapply Hk
  unfold post0 idleL
  icases Hi with ⟨-, -, HO⟩
  isplitl [HO]; · iexact HO
  isplitl [Hba HaS HaR]
  · isplitl [Hba]; · iexact Hba
    isplitl [HaS] <;> iassumption
  isplitl [Hx]; · iexact Hx
  rw [al_split c (gath CNT c)]
  isplitl [Hf0] <;> iassumption

end Cert.KernelIdeal.Pf

end
-- ==== Proof.KernelIdeal.Regions.lean ====
/-
The two exchanges as regions of the host program: what each is entered with and leaves, and that its kernel does so.
-/
module

public import proofs.«01_k».proof.Proof.KernelIdeal.Whole1
public import proofs.«01_k».proof.Proof.KernelIdeal.Body0
public import proofs.«01_k».proof.Proof.Gen.KernelIdeal.Regions
public import proofs.«01_k».proof.Proof.Gen.KernelIdeal.Points
public import Idealize.ShloMosaic.Lib.Pipeline.DatRel
public import Idealize.ShloMosaic.Lib.Pipeline.ArrRel
public import Idealize.ShloMosaic.Lib.Pipeline.RegionTalk

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf ownSems0 scopedRest arrRef arrRefs ucRefs)
open Idealize.ShloMosaic.TalkSites (Pay tallyL)

variable {F : FTy → Type} [FloatOps F]

local notation "𝕄" => MT nD τ sig ℕ (Elt F) ℕ UU ℕ

variable (m : (ℓ : Loc nD τ sig) → Buf (Elt F) ℓ)

/-! ## The contents -/

/-- The buffers when the first exchange begins. -/
@[irreducible] def W12 (c : Dev nD) : Valuation τ sig (Elt F) := V12 m c
theorem W12_eq (c : Dev nD) : W12 m c = V12 m c := by unfold W12; rfl
/-- The count row of each device. -/
def cntOf (c : Dev nD) : CntRow F := W12 m c main_v37
/-- What the first exchange leaves. -/
def outs0 : Outs (F := F) := fun _ r c => (Function.update (W12 m c) (Proc.devRef .tc main_v38) (gath (cntOf m) c) : Valuation τ sig (Elt F)) (Proc.devRef .tc r)
/-- The buffers when the second exchange begins. -/
@[irreducible] def W24 (c : Dev nD) : Valuation τ sig (Elt F) := V24 m (outs0 m) c
theorem W24_eq (c : Dev nD) : W24 m c = V24 m (outs0 m) c := by unfold W24; rfl
/-- The rows each device sends, by blocks. -/
def xsOf (c : Dev nD) : Blocks F := W24 m c main_v32
/-- … and what the second exchange leaves, the result of each device at v. -/
def outs1 (v : Dev nD → Blocks F) : Outs (F := F) := fun k r c =>
  if k = 25 then (Function.update (W24 m c) (Proc.devRef .tc main_v66) (v c) : Valuation τ sig (Elt F)) (Proc.devRef .tc r) else outs0 m k r c

/-! ## What passes from stretch to stretch -/

/-- The invariants, at some names. -/
def invs : sProp 𝕄 := iprop(∃ K, invAll (cntOf m) (xsOf m) K)
instance : BI.Persistent (invs m) := by unfold invs; infer_instance

/-- What the launch keeps for the first exchange … -/
def keep0 (c : Dev nD) : sProp 𝕄 :=
  iprop((bigSep (peers c) (barTok mB0 c) ∗ cred (tallyAt (cell c mB0) 0 3) ∗ atPos ER (cell c mB0) 0 ∅ 0)
    ∗ (bigSep (peers c) (fun r => dutyTok ER (cell c mS0) 0 (r, 0)) ∗ bigSep (peers c) (fun r => dutyTok ER (cell r mR0) 0 (c, 0)) ∗ creds c mR0 3))
/-- … and for the second. -/
def keep1 (c : Dev nD) : sProp 𝕄 :=
  iprop((bigSep (peers c) (barTok mB1 c) ∗ cred (tallyAt (cell c mB1) 0 3) ∗ atPos ER (cell c mB1) 0 ∅ 0)
    ∗ (bigSep (bA c) (sTok c) ∗ bigSep (bA c) (rTok c) ∗ bigSep (bB c) (lTok c) ∗ creds c mR1 24))
/-- The cells of each exchange, not yet opened. -/
def shut0 (c : Dev nD) : sProp 𝕄 := iprop(openTok ER (cell c mS0) ∗ openTok ER (cell c mR0))
def shut1 (c : Dev nD) : sProp 𝕄 := iprop(openTok ER (cell c mS1) ∗ openTok ER (cell c mR1) ∗ openTok ER (cell c mL1))
/-- The cells of each exchange, opened. -/
def pos0 (c : Dev nD) : sProp 𝕄 :=
  iprop((atPos ER (cell c mS0) 0 ∅ 0 ∗ reached ER (cell c mS0) 0) ∗ (atPos ER (cell c mR0) 0 ∅ 0 ∗ reached ER (cell c mR0) 0))
def pos1 (c : Dev nD) : sProp 𝕄 :=
  iprop((atPos ER (cell c mS1) 0 ∅ 0 ∗ reached ER (cell c mS1) 0) ∗ (atPos ER (cell c mR1) 0 ∅ 0 ∗ reached ER (cell c mR1) 0) ∗ (atPos ER (cell c mL1) 0 ∅ 0 ∗ reached ER (cell c mL1) 0))
/-- The cells of each exchange, closed at zero. -/
def zero0 (c : Dev nD) : sProp 𝕄 := iprop(semVal (cell c mS0) 0 ∗ semVal (cell c mR0) 0)
def zero1 (c : Dev nD) : sProp 𝕄 := iprop(semVal (cell c mS1) 0 ∗ semVal (cell c mR1) 0 ∗ semVal (cell c mL1) 0)

def E0 (c : Dev nD) : sProp 𝕄 := iprop((invs m ∗ keep0 c ∗ shut0 c ∗ keep1 c ∗ shut1 c) ∗ owesL c (due0 c))
def E1 (c : Dev nD) : sProp 𝕄 := iprop((invs m ∗ keep1 c ∗ shut1 c ∗ atPos ER (cell c mB0) 1 ∅ 0) ∗ owesL c (due1 c))
def E2 (c : Dev nD) : sProp 𝕄 := iprop((invs m ∗ atPos ER (cell c mB0) 1 ∅ 0 ∗ atPos ER (cell c mB1) 1 ∅ 0) ∗ owesL c [])

/-! ## The proof data -/

def dat0 (c : Dev nD) : Dat τ (Elt F) ℕ ℕ UU ℕ (cfgs (0 : Fin 2)) c where
  A w := W12 m c (Proc.devRef .tc (arrRef spec0 w))
  after w _ := match w with
    | ⟨0, _⟩ => cntOf m c
    | ⟨1, _⟩ => gath (cntOf m) c
  Φ t := match t with
    | ⟨0, _⟩ => iprop((invs m ∗ levAts L lv ∗ keep0 c ∗ pos0 c) ∗ scopedRest spec0 c)
    | ⟨_ + 1, _⟩ => iprop(atPos ER (cell c mB0) 1 ∅ 0 ∗ zero0 c ∗ scopedRest spec0 c)
  q _ := fullShare
  owed t := match t with
    | ⟨0, _⟩ => tallyL (due0 c)
    | ⟨_ + 1, _⟩ => tallyL (due1 c)

def dat1 (c : Dev nD) : Dat τ (Elt F) ℕ ℕ UU ℕ (cfgs (1 : Fin 2)) c where
  A w := W24 m c (Proc.devRef .tc (arrRef spec1 w))
  after w _ := match w with
    | ⟨0, _⟩ => xsOf m c
    | ⟨1, _⟩ => scalV
    | ⟨2, _⟩ => xsOf m c
  Φ t := match t with
    | ⟨0, _⟩ => iprop((invs m ∗ levAts L lv ∗ keep1 c ∗ pos1 c) ∗ scopedRest spec1 c)
    | ⟨_ + 1, _⟩ => iprop(atPos ER (cell c mB1) 1 ∅ 0 ∗ zero1 c ∗ scopedRest spec1 c)
  q _ := fullShare
  owed t := match t with
    | ⟨0, _⟩ => tallyL (due1 c)
    | ⟨_ + 1, _⟩ => tallyL []

def pdat (p : Fin 2) (c : Dev nD) : Dat τ (Elt F) ℕ ℕ UU ℕ (cfgs p) c :=
  match p with
  | ⟨0, _⟩ => dat0 m c
  | ⟨1, _⟩ => dat1 m c

/-- The result windows, told of by what is said below of their contents. -/
def fgt (p : Fin 2) (w : Fin (cfgs p).W) : Bool :=
  match p with
  | ⟨0, _⟩ => w.val == 1
  | ⟨1, _⟩ => w.val == 2
def Rl0 (c : Dev nD) (w : Fin (cfgs (0 : Fin 2)).W) (_ : Fin (cfgs (0 : Fin 2)).N) (X : ((cfgs (0 : Fin 2)).win w).block.Idx → Elt F ((cfgs (0 : Fin 2)).win w).elt) : Prop :=
  match w with
  | ⟨0, _⟩ => True
  | ⟨1, _⟩ => X = gath (cntOf m) c
def Rl1 (c : Dev nD) (w : Fin (cfgs (1 : Fin 2)).W) (_ : Fin (cfgs (1 : Fin 2)).N) (X : ((cfgs (1 : Fin 2)).win w).block.Idx → Elt F ((cfgs (1 : Fin 2)).win w).elt) : Prop :=
  match w with
  | ⟨0, _⟩ => True
  | ⟨1, _⟩ => True
  | ⟨2, _⟩ => Good (xsOf m) c X
def Rl (p : Fin 2) (c : Dev nD) : (w : Fin (cfgs p).W) → Fin (cfgs p).N → (((cfgs p).win w).block.Idx → Elt F ((cfgs p).win w).elt) → Prop :=
  match p with
  | ⟨0, _⟩ => Rl0 m c
  | ⟨1, _⟩ => Rl1 m c

def rdats (p : Fin 2) (c : Dev nD) : RDat τ (Elt F) ℕ ℕ UU ℕ (cfgs p) c := (pdat m p c).toRRel (fgt p) (Rl m p c)

/-! ## The kernels' bodies -/

theorem owns_whole (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem stg_of (c : Dev nD) (b : Ref sig .tc) (X : b.ty.Contents (Elt F)) : (((c : Thread nD τ).loc b) ↦{fullShare} X : sProp 𝕄) ⊢ stg c b X := by
  iintro H; iexists X; isplitr; · ipureintro; rfl
  iexact H

theorem close_cell (K : GSem nD τ sig → ℕ) (c : Dev nD) (j : Fin 7) :
    iprop(invAll (cntOf m) (xsOf m) K ∗ atPos ER (cell c (csem j)) 1 ∅ 0) ⊢ |={Set.univ}=> (semVal (cell c (csem j)) 0 : sProp 𝕄) := by
  iintro ⟨#HI, H⟩
  iapply (Rounds.cell_close ER (Rd (cntOf m) (xsOf m)) (g := cell c (csem j)) (Set.mem_univ (K (cell c (csem j)))) (fun h => h) (R := 1) (duties_later (cntOf m) (xsOf m) _))
  isplitr; · iapply (inv_at (cntOf m) (xsOf m) K c j); iexact HI
  iexact H

theorem open_cell (K : GSem nD τ sig → ℕ) (c : Dev nD) (j : Fin 7) :
    iprop(invAll (cntOf m) (xsOf m) K ∗ openTok ER (cell c (csem j)) ∗ semVal (cell c (csem j)) 0)
      ⊢ |={Set.univ}=> (iprop(atPos ER (cell c (csem j)) 0 ∅ 0 ∗ reached ER (cell c (csem j)) 0) : sProp 𝕄) := by
  iintro ⟨#HI, Ho, H⟩
  iapply (Rounds.cell_open ER (Rd (cntOf m) (xsOf m)) (g := cell c (csem j)) (Set.mem_univ (K (cell c (csem j)))))
  isplitr; · iapply (inv_at (cntOf m) (xsOf m) K c j); iexact HI
  isplitl [Ho] <;> iassumption

theorem whole_at (b : Ref sig .tc) (off size : Fin b.ty.shape.rank → ℕ) (inb) (y : (Rect.unit off size inb).shape.Idx) (a : Fin b.ty.shape.rank) (h : off a = 0) :
    ((((View.whole b).slice (Rect.unit off size inb)).emb y a : Fin _) : ℕ) = y a := by
  rw [ValueKit.view_emb_slice_whole_unit_val, h, Nat.zero_add]

theorem before0_0 (c : Dev nD) (d) : (dat0 m c).before (0 : Fin 2) t0_0 d = cntOf m c := by
  unfold Dat.before
  rw [if_pos (show ((cfgs (0 : Fin 2)).win (0 : Fin 2)).fetch t0_0 = true from fetch0_0 t0_0)]
  funext y
  refine congrArg (W12 m c (Proc.devRef .tc main_v37)) (funext fun a => Fin.ext ?_)
  exact whole_at main_v37 _ _ _ _ a (Nat.zero_mul _)

theorem obl0 (c : Dev nD) : BodyObligationRel (pdat m 0 c) (defs₀ (F := F)) 𝒱₀ 0 Set.univ (fgt 0) (Rl m 0 c) := fun t => by
  obtain rfl := fin_N0 t
  have hW : ∀ Φ : Fin (cfgs (0 : Fin 2)).W → sProp 𝕄, bigSep Finset.univ Φ = iprop(Φ (0 : Fin 2) ∗ Φ (1 : Fin 2)) := fun Φ => bigSep_W0 Φ
  rw [hW, hW]
  show iprop(iprop((invs m ∗ levAts L lv ∗ keep0 c ∗ pos0 c) ∗ scopedRest spec0 c) ∗ (dat0 m c).owesAt 0 (Fin.castSucc t0_0)
      ∗ (∃ d, owns (c : Thread nD τ) cM fullShare ((dat0 m c).before (0 : Fin 2) t0_0 d))
      ∗ (∃ Y, ⌜((pdat m 0 c).toRRel (fgt 0) (Rl m 0 c)).Finds (1 : Fin 2) t0_0 Y⌝ ∗ owns (c : Thread nD τ) aM fullShare Y))
    ⊢ wpc c (cc0__cnt_exchange_body (F := F) cM (Memref.isWhole_whole _) aM (Memref.isWhole_whole _) cc0_scratch0 cc0_scratch1)
      (fun _ => iprop(iprop(atPos ER (cell c mB0) 1 ∅ 0 ∗ zero0 c ∗ scopedRest spec0 c) ∗ (dat0 m c).owesAt 0 (Fin.succ t0_0)
        ∗ owns (c : Thread nD τ) cM fullShare (cntOf m c)
        ∗ (∃ X : CntAll F, ⌜X = gath (cntOf m) c⌝ ∗ owns (c : Thread nD τ) aM fullShare X)))
  have hX : ∀ d, (dat0 m c).before (0 : Fin 2) t0_0 d = cntOf m c := before0_0 m c
  simp only [hX, owns_whole]
  unfold Dat.owesAt Pipeline.owesWithin invs pos0 keep0
  iintro ⟨⟨⟨⟨%K, #HI⟩, #HL, ⟨Hbar, Htok⟩, Hpos⟩, Hsc⟩, ⟨%Wd, -, How⟩, ⟨%d, %f, %hf, Hc⟩, ⟨%Y, %hY, %g, %hg, Ha⟩⟩
  subst hf
  iapply (wp_fupd _ _ _ _ _)
  iapply (body0 (cntOf m) (xsOf m) K c _)
  isplitl [Hbar Htok Hpos How Hc Ha]
  · unfold pre0 owesL
    isplitl [How]
    · isplitr; · iexact HI
      isplitr; · iexact HL
      iexists Wd; iexact How
    isplitl [Hbar]; · iexact Hbar
    isplitl [Htok]; · iexact Htok
    isplitl [Hpos]; · iexact Hpos
    isplitl [Hc]; · iexact Hc
    iexists g; iexact Ha
  unfold post0 owesL
  iintro ⟨⟨%Wd', How⟩, ⟨Hb, Hs, Hr⟩, Hc, Ha⟩
  imod (close_cell m K c 2) $$ [Hs] with Hs
  · isplitr; · iexact HI
    iexact Hs
  imod (close_cell m K c 3) $$ [Hr] with Hr
  · isplitr; · iexact HI
    iexact Hr
  imodintro
  isplitl [Hb Hs Hr Hsc]
  · isplitl [Hb]; · iexact Hb
    isplitl [Hs Hr]
    · unfold zero0
      isplitl [Hs]; · iexact Hs
      iexact Hr
    iexact Hsc
  isplitl [How]
  · iexists Wd'; isplitr; · ipureintro; exact fun _ _ => Or.inl trivial
    iexact How
  isplitl [Hc]; · iapply (stg_of c cc0_stg0_0 (cntOf m c)); iexact Hc
  iexists (gath (cntOf m) c)
  isplitr; · ipureintro; rfl
  iapply (stg_of c cc0_stg1_0 (gath (cntOf m) c)); iexact Ha

theorem before1_0 (c : Dev nD) (d) : (dat1 m c).before (0 : Fin 3) t1_0 d = xsOf m c := by
  unfold Dat.before
  rw [if_pos (show ((cfgs (1 : Fin 2)).win (0 : Fin 3)).fetch t1_0 = true from fetch1_0 t1_0)]
  funext y
  refine congrArg (W24 m c (Proc.devRef .tc main_v32)) (funext fun a => Fin.ext ?_)
  exact whole_at main_v32 _ _ _ _ a (Nat.zero_mul _)
theorem before1_1 (hs : W24 m c main_v65 = scalV) (d) : (dat1 m c).before (1 : Fin 3) t1_0 d = scalV := by
  unfold Dat.before
  rw [if_pos (show ((cfgs (1 : Fin 2)).win (1 : Fin 3)).fetch t1_0 = true from fetch1_1 t1_0)]
  rw [← hs]
  funext y
  refine congrArg (W24 m c (Proc.devRef .tc main_v65)) (funext fun a => Fin.ext ?_)
  exact whole_at main_v65 _ _ _ _ a (Nat.zero_mul _)

theorem obl1 (c : Dev nD) (hs : W24 m c main_v65 = scalV) : BodyObligationRel (pdat m 1 c) (defs₀ (F := F)) 𝒱₀ 0 Set.univ (fgt 1) (Rl m 1 c) := fun t => by
  obtain rfl := fin_N1 t
  have hW : ∀ Φ : Fin (cfgs (1 : Fin 2)).W → sProp 𝕄, bigSep Finset.univ Φ = iprop(Φ (0 : Fin 3) ∗ Φ (1 : Fin 3) ∗ Φ (2 : Fin 3)) := fun Φ => bigSep_W1 Φ
  rw [hW, hW]
  show iprop(iprop((invs m ∗ levAts L lv ∗ keep1 c ∗ pos1 c) ∗ scopedRest spec1 c) ∗ (dat1 m c).owesAt 0 (Fin.castSucc t1_0)
      ∗ (∃ d, owns (c : Thread nD τ) xM fullShare ((dat1 m c).before (0 : Fin 3) t1_0 d))
      ∗ (∃ d, owns (c : Thread nD τ) sM fullShare ((dat1 m c).before (1 : Fin 3) t1_0 d))
      ∗ (∃ Y, ⌜((pdat m 1 c).toRRel (fgt 1) (Rl m 1 c)).Finds (2 : Fin 3) t1_0 Y⌝ ∗ owns (c : Thread nD τ) oM fullShare Y))
    ⊢ wpc c (cc1__a2av_body (F := F) xM (Memref.isWhole_whole _) sM (Memref.isWhole_whole _) (Memref.whole main_v38) (Memref.isWhole_whole _) oM (Memref.isWhole_whole _) cc1_scratch0 cc1_scratch1 cc1_scratch2)
      (fun _ => iprop(iprop(atPos ER (cell c mB1) 1 ∅ 0 ∗ zero1 c ∗ scopedRest spec1 c) ∗ (dat1 m c).owesAt 0 (Fin.succ t1_0)
        ∗ owns (c : Thread nD τ) xM fullShare (xsOf m c)
        ∗ owns (c : Thread nD τ) sM fullShare scalV
        ∗ (∃ X : Blocks F, ⌜Good (xsOf m) c X⌝ ∗ owns (c : Thread nD τ) oM fullShare X)))
  have hX : ∀ d, (dat1 m c).before (0 : Fin 3) t1_0 d = xsOf m c := before1_0 m c
  have hX' : ∀ d, (dat1 m c).before (1 : Fin 3) t1_0 d = scalV := before1_1 m hs
  simp only [hX, hX', owns_whole]
  unfold Dat.owesAt Pipeline.owesWithin invs pos1 keep1
  iintro ⟨⟨⟨⟨%K, #HI⟩, #HL, ⟨Hbar, Htok⟩, Hpos⟩, Hsc⟩, ⟨%Wd, -, How⟩, ⟨%d, %f, %hf, Hc⟩, ⟨%d', %f', %hf', Hv⟩, ⟨%Y, %hY, %g, %hg, Ha⟩⟩
  subst hf hf'
  iapply (wp_fupd _ _ _ _ _)
  iapply (body1 (cntOf m) (xsOf m) K c _)
  isplitl [Hbar Htok Hpos How Hc Hv Ha]
  · unfold pre1 owesL
    isplitl [How]
    · isplitr; · iexact HI
      isplitr; · iexact HL
      iexists Wd; iexact How
    isplitl [Hbar]; · iexact Hbar
    isplitl [Htok]; · iexact Htok
    isplitl [Hpos]; · iexact Hpos
    isplitl [Hc]; · iexact Hc
    isplitl [Hv]; · unfold scalPts; iexact Hv
    iexists g; iexact Ha
  unfold post1 owesL scalPts
  iintro ⟨⟨%Wd', How⟩, ⟨Hb, Hs, Hr, Hl⟩, Hc, Hv, ⟨%G, %hG, Ha⟩⟩
  imod (close_cell m K c 4) $$ [Hs] with Hs
  · isplitr; · iexact HI
    iexact Hs
  imod (close_cell m K c 5) $$ [Hr] with Hr
  · isplitr; · iexact HI
    iexact Hr
  imod (close_cell m K c 6) $$ [Hl] with Hl
  · isplitr; · iexact HI
    iexact Hl
  imodintro
  isplitl [Hb Hs Hr Hl Hsc]
  · isplitl [Hb]; · iexact Hb
    isplitl [Hs Hr Hl]
    · unfold zero1
      isplitl [Hs]; · iexact Hs
      isplitl [Hr]; · iexact Hr
      iexact Hl
    iexact Hsc
  isplitl [How]
  · iexists Wd'; isplitr; · ipureintro; exact fun _ _ => Or.inl trivial
    iexact How
  isplitl [Hc]; · iapply (stg_of c cc1_stg0_0 (xsOf m c)); iexact Hc
  isplitl [Hv]; · iapply (stg_of c cc1_stg1_0 (scalV (F := F))); iexact Hv
  iexists G
  isplitr; · ipureintro; exact hG
  iapply (stg_of c cc1_stg2_0 G); iexact Ha

end Cert.KernelIdeal.Pf

end
-- ==== Proof.KernelIdeal.Words.lean ====
/-
The integer arithmetic of the host operations as functions of words alone.
-/
module

public import proofs.«01_k».proof.Proof.KernelIdeal.Regions

@[expose] public section

noncomputable section

namespace Cert.KernelIdeal.Pf

open Cert.KernelIdeal Cert.KernelIdeal.Gen
open Idealize.ShloMosaic

/-- How many entries of the destinations are 0, 1, 2 and 3. -/
def counts (d : IVec S2048 32) : IVec S4 32 :=
  let t0 : IVec S2048x1 32 := (broadcastInDim S2048x1 ![0] bcast_S2048_S2048x1_0) d
  let t1 := (iotaInDim S4 32 0)
  let t2 : IVec S1x4 32 := (broadcastInDim S1x4 ![1] bcast_S4_S1x4_1) t1
  let t3 : IVec S2048x4 32 := (broadcastInDim S2048x4 ![0, 1] bcast_S2048x1_S2048x4_0_1) t0
  let t4 : IVec S2048x4 32 := (broadcastInDim S2048x4 ![0, 1] bcast_S1x4_S2048x4_0_1) t2
  let t5 : IVec S2048x4 1 := (cmpi .eq) t3 t4
  let t6 : IVec S2048x4 32 := (extui 32 t5 natLt_1_32)
  let t7 := (constantI S_ 32 0#32)
  (fun x v => Host.reduce IntOp.addi x v reducesTo_S2048x4_S4_d0 h_S_) t6 t7

/-- The running sum of four words. -/
def prefix4 (n : IVec S4 32) : IVec S4 32 :=
  let t0 : IVec S_ 32 := (constantI S_ 32 0#32)
  let t1 : IVec S_ 32 := (broadcastInDim S_ ![] bcast_S_S_) t0
  (fun x v => Host.reduceWindow IntOp.addi ![4] ![1] ![3] ![0] x v reduceWindows_S4_S4_w4s1p3_0 h_S_) n t1

/-- The floor of the quotient, word by word. -/
def floorDiv2560 (x : IVec S2560 32) (y : IVec S_ 32) : IVec S2560 32 :=
  let t0 : IVec S_ 32 := y
  let t1 : IVec S2560 32 := (broadcastInDim S2560 ![] bcast_S_S2560) t0
  let t2 : IVec S2560 32 := Host.divsi x t1
  let t3 : IVec S2560 32 := signi x
  let t4 : IVec S_ 32 := signi t0
  let t5 : IVec S2560 32 := (broadcastInDim S2560 ![] bcast_S_S2560) t4
  let t6 : IVec S2560 1 := (cmpi .ne) t3 t5
  let t7 : IVec S2560 32 := (broadcastInDim S2560 ![] bcast_S_S2560) t0
  let t8 : IVec S2560 32 := Host.remsi x t7
  let t9 : IVec S_ 32 := (constantI S_ 32 0#32)
  let t10 : IVec S2560 32 := (broadcastInDim S2560 ![] bcast_S_S2560) t9
  let t11 : IVec S2560 1 := (cmpi .ne) t8 t10
  let t12 : IVec S2560 1 := andi t6 t11
  let t13 : IVec S_ 32 := (constantI S_ 32 1#32)
  let t14 : IVec S2560 32 := (broadcastInDim S2560 ![] bcast_S_S2560) t13
  let t15 : IVec S2560 32 := subi t2 t14
  select t12 t15 t2

/-- The remainder of the floor division, word by word. -/
def floorRem2560 (x : IVec S2560 32) (y : IVec S_ 32) : IVec S2560 32 :=
  let t0 : IVec S_ 32 := y
  let t1 : IVec S_ 32 := (constantI S_ 32 0#32)
  let t2 : IVec S_ 1 := (cmpi .eq) t0 t1
  let t3 : IVec S_ 32 := (constantI S_ 32 1#32)
  let t4 : IVec S_ 32 := select t2 t3 t0
  let t5 : IVec S2560 32 := (broadcastInDim S2560 ![] bcast_S_S2560) t4
  let t6 : IVec S2560 32 := Host.remsi x t5
  let t7 : IVec S_ 32 := (constantI S_ 32 0#32)
  let t8 : IVec S2560 32 := (broadcastInDim S2560 ![] bcast_S_S2560) t7
  let t9 : IVec S2560 1 := (cmpi .ne) t6 t8
  let t10 : IVec S_ 32 := (constantI S_ 32 0#32)
  let t11 : IVec S2560 32 := (broadcastInDim S2560 ![] bcast_S_S2560) t10
  let t12 : IVec S2560 1 := (cmpi .slt) t6 t11
  let t13 : IVec S_ 32 := (constantI S_ 32 0#32)
  let t14 : IVec S_ 1 := (cmpi .slt) t4 t13
  let t15 : IVec S2560 1 := (broadcastInDim S2560 ![] bcast_S_S2560) t14
  let t16 : IVec S2560 1 := (cmpi .ne) t12 t15
  let t17 : IVec S2560 1 := andi t16 t9
  let t18 : IVec S2560 32 := (broadcastInDim S2560 ![] bcast_S_S2560) t4
  let t19 : IVec S2560 32 := addi t6 t18
  select t17 t19 t6

/-- The start of the bucket `b` plus the place within it. -/
def startPlus (o : IVec S4 32) (b : IVec S2560 32) (w : IVec S2560 32) : IVec S2560 32 :=
  let t0 := (constantI S_ 32 0#32)
  let t1 : IVec S2560 32 := (broadcastInDim S2560 ![] bcast_S_S2560) t0
  let t2 : IVec S2560 1 := (cmpi .slt) b t1
  let t3 := (constantI S_ 32 4#32)
  let t4 : IVec S2560 32 := (broadcastInDim S2560 ![] bcast_S_S2560) t3
  let t5 : IVec S2560 32 := addi b t4
  let t6 : IVec S2560 32 := select t2 t5 b
  let t7 : IVec S2560x1 32 := (broadcastInDim S2560x1 ![0] bcast_S2560_S2560x1_0) t6
  let t8 : IVec S2560 32 := (fun x i => Host.gather gather_S4_S2560x1_S2560_n_0_n_n_0_1_1 x i) o t7
  addi t8 w

/-- The words clipped to an interval. -/
def clip2560 (x : IVec S2560 32) (lo : IVec S_ 32) (hi : IVec S_ 32) : IVec S2560 32 :=
  let t0 : IVec S_ 32 := lo
  let t1 : IVec S2560 32 := (broadcastInDim S2560 ![] bcast_S_S2560) t0
  let t2 : IVec S2560 32 := maxsi t1 x
  let t3 : IVec S_ 32 := hi
  let t4 : IVec S2560 32 := (broadcastInDim S2560 ![] bcast_S_S2560) t3
  minsi t4 t2

/-- The entries of `p` at the positions `i`. -/
def pick2048 (p : IVec S2048 32) (i : IVec S2560 32) : IVec S2560 32 :=
  let t0 := (constantI S_ 32 0#32)
  let t1 : IVec S2560 32 := (broadcastInDim S2560 ![] bcast_S_S2560) t0
  let t2 : IVec S2560 1 := (cmpi .slt) i t1
  let t3 := (constantI S_ 32 2048#32)
  let t4 : IVec S2560 32 := (broadcastInDim S2560 ![] bcast_S_S2560) t3
  let t5 : IVec S2560 32 := addi i t4
  let t6 : IVec S2560 32 := select t2 t5 i
  let t7 : IVec S2560x1 32 := (broadcastInDim S2560x1 ![0] bcast_S2560_S2560x1_0) t6
  (fun x i => Host.gather gather_S2048_S2560x1_S2560_n_0_n_n_0_1_1 x i) p t7

/-- The four counts laid into the first row of a tile of zeros. -/
def countRow (n : IVec S4 32) : IVec S8x128 32 :=
  let t0 := (constantI S_ 32 0#32)
  let t1 : IVec S8x128 32 := (broadcastInDim S8x128 ![] bcast_S_S8x128) t0
  let t2 := (constantI S_ 32 0#32)
  let t3 : IVec S1 32 := (broadcastInDim S1 ![] bcast_S_S1) t2
  let t4 := (constantI S_ 32 0#32)
  let t5 : IVec S1 32 := (broadcastInDim S1 ![] bcast_S_S1) t4
  let t6 : IVec S2 32 := (fun a b => concatenate S2 0 [⟨S1, a⟩, ⟨S1, b⟩] concatenates_S1_S1_S2_d0) t3 t5
  (fun x i u => Host.scatter scatter_S8x128_S2_S4_0_0_01_0 (fun _ b => b) x i u) t1 t6 n

/-- The four counts of each of the four tiles gathered. -/
def fourRows (g : IVec S4x8x128 32) : IVec S4x4 32 :=
  let t0 : IVec S4x1x4 32 := (extractStridedSlice S4x1x4 ![0, 0, 0] g slices_S4x8x128_S4x1x4_0_0_0)
  shapeCast _ t0 shapeCasts_S4x1x4_S4x4

/-- The rank of a device as the program computes it. -/
def rank (c : Dev nD) : IVec S_ 32 :=
  let t0 := (constantI S_ 32 1#32)
  let t1 := (constantI S_ 32 4#32)
  let t2 := (constantI S_ 32 (Dev.word c))
  let t3 : IVec S_ 32 := Host.divui t2 t0
  let t4 : IVec S_ 32 := Host.remui t3 t1
  t4

/-- The ranks of the senders in the order of their slots, before wrapping. -/
def rankLess (c : Dev nD) : IVec S4 32 :=
  let t0 := (constantI S_ 32 1#32)
  let t1 := (constantI S_ 32 4#32)
  let t2 := (constantI S_ 32 (Dev.word c))
  let t3 : IVec S_ 32 := Host.divui t2 t0
  let t4 : IVec S_ 32 := Host.remui t3 t1
  let t5 : IVec S_ 32 := t4
  let t6 := (iotaInDim S4 32 0)
  let t7 : IVec S4 32 := (broadcastInDim S4 ![] bcast_S_S4) t5
  subi t7 t6

/-- The remainder of the floor division of four words. -/
def floorRem4 (x : IVec S4 32) (y : IVec S_ 32) : IVec S4 32 :=
  let t0 : IVec S_ 32 := y
  let t1 : IVec S_ 32 := (constantI S_ 32 0#32)
  let t2 : IVec S_ 1 := (cmpi .eq) t0 t1
  let t3 : IVec S_ 32 := (constantI S_ 32 1#32)
  let t4 : IVec S_ 32 := select t2 t3 t0
  let t5 : IVec S4 32 := (broadcastInDim S4 ![] bcast_S_S4) t4
  let t6 : IVec S4 32 := Host.remsi x t5
  let t7 : IVec S_ 32 := (constantI S_ 32 0#32)
  let t8 : IVec S4 32 := (broadcastInDim S4 ![] bcast_S_S4) t7
  let t9 : IVec S4 1 := (cmpi .ne) t6 t8
  let t10 : IVec S_ 32 := (constantI S_ 32 0#32)
  let t11 : IVec S4 32 := (broadcastInDim S4 ![] bcast_S_S4) t10
  let t12 : IVec S4 1 := (cmpi .slt) t6 t11
  let t13 : IVec S_ 32 := (constantI S_ 32 0#32)
  let t14 : IVec S_ 1 := (cmpi .slt) t4 t13
  let t15 : IVec S4 1 := (broadcastInDim S4 ![] bcast_S_S4) t14
  let t16 : IVec S4 1 := (cmpi .ne) t12 t15
  let t17 : IVec S4 1 := andi t16 t9
  let t18 : IVec S4 32 := (broadcastInDim S4 ![] bcast_S_S4) t4
  let t19 : IVec S4 32 := addi t6 t18
  select t17 t19 t6

/-- The rows `i` of a four by four table. -/
def takeRow4 (x : IVec S4x4 32) (i : IVec S4 32) : IVec S4x4 32 :=
  let t0 : IVec S_ 32 := (constantI S_ 32 0#32)
  let t1 : IVec S4 32 := (broadcastInDim S4 ![] bcast_S_S4) t0
  let t2 : IVec S4 1 := (cmpi .slt) i t1
  let t3 : IVec S_ 32 := (constantI S_ 32 4#32)
  let t4 : IVec S4 32 := (broadcastInDim S4 ![] bcast_S_S4) t3
  let t5 : IVec S4 32 := addi i t4
  let t6 : IVec S4 32 := select t2 t5 i
  let t7 : IVec S4x1 32 := (broadcastInDim S4x1 ![0] bcast_S4_S4x1_0) t6
  let t8 : IVec S1 32 := (constantI S1 32 3#32)
  let t9 : IVec S_ 32 := (constantI S_ 32 0#32)
  let t10 : IVec S4x1 32 := (broadcastInDim S4x1 ![] bcast_S_S4x1) t9
  let t11 : IVec S4x1 1 := (cmpi .sge) t7 t10
  let t12 : IVec S1x1 32 := (broadcastInDim S1x1 ![1] bcast_S1_S1x1_1) t8
  let t13 : IVec S4x1 32 := (broadcastInDim S4x1 ![0, 1] bcast_S1x1_S4x1_0_1) t12
  let t14 : IVec S4x1 1 := (cmpi .sle) t7 t13
  let t15 : IVec S4x1 1 := andi t11 t14
  let t16 : IVec S_ 1 := (constantI S_ 1 1#1)
  let t17 : IVec S4 1 := (fun x v => Host.reduce IntOp.andi x v reducesTo_S4x1_S4_d1 h_S_) t15 t16
  let t18 : IVec S4x4 32 := (fun x i => Host.gather gather_S4x4_S4x1_S4x4_1_0_n_n_0_1_14 x i) x t7
  let t19 : IVec S4x4 1 := (broadcastInDim S4x4 ![0] bcast_S4_S4x4_0) t17
  let t20 : IVec S_ 32 := (constantI S_ 32 2147483648#32)
  let t21 : IVec S4x4 32 := (broadcastInDim S4x4 ![] bcast_S_S4x4) t20
  select t19 t18 t21

/-- Four words plus 63. -/
def upTo64 (n : IVec S4 32) : IVec S4 32 :=
  let t0 := (constantI S_ 32 64#32)
  let t1 : IVec S4 32 := (broadcastInDim S4 ![] bcast_S_S4) t0
  let t2 : IVec S4 32 := addi n t1
  let t3 := (constantI S_ 32 1#32)
  let t4 : IVec S4 32 := (broadcastInDim S4 ![] bcast_S_S4) t3
  subi t2 t4

/-- The floor of the quotient of four words. -/
def floorDiv4 (x : IVec S4 32) (y : IVec S_ 32) : IVec S4 32 :=
  let t0 : IVec S_ 32 := y
  let t1 : IVec S4 32 := (broadcastInDim S4 ![] bcast_S_S4) t0
  let t2 : IVec S4 32 := Host.divsi x t1
  let t3 : IVec S4 32 := signi x
  let t4 : IVec S_ 32 := signi t0
  let t5 : IVec S4 32 := (broadcastInDim S4 ![] bcast_S_S4) t4
  let t6 : IVec S4 1 := (cmpi .ne) t3 t5
  let t7 : IVec S4 32 := (broadcastInDim S4 ![] bcast_S_S4) t0
  let t8 : IVec S4 32 := Host.remsi x t7
  let t9 : IVec S_ 32 := (constantI S_ 32 0#32)
  let t10 : IVec S4 32 := (broadcastInDim S4 ![] bcast_S_S4) t9
  let t11 : IVec S4 1 := (cmpi .ne) t8 t10
  let t12 : IVec S4 1 := andi t6 t11
  let t13 : IVec S_ 32 := (constantI S_ 32 1#32)
  let t14 : IVec S4 32 := (broadcastInDim S4 ![] bcast_S_S4) t13
  let t15 : IVec S4 32 := subi t2 t14
  select t12 t15 t2

/-- The column `i` of a four by four table. -/
def takeCol4 (x : IVec S4x4 32) (i : IVec S_ 32) : IVec S4 32 :=
  let t0 : IVec S_ 32 := (constantI S_ 32 0#32)
  let t1 : IVec S_ 1 := (cmpi .slt) i t0
  let t2 : IVec S_ 32 := (constantI S_ 32 4#32)
  let t3 : IVec S_ 32 := addi i t2
  let t4 : IVec S_ 32 := select t1 t3 i
  let t5 : IVec S1 32 := (broadcastInDim S1 ![] bcast_S_S1) t4
  let t6 : IVec S1 32 := (constantI S1 32 3#32)
  let t7 : IVec S_ 32 := (constantI S_ 32 0#32)
  let t8 : IVec S1 32 := (broadcastInDim S1 ![] bcast_S_S1) t7
  let t9 : IVec S1 1 := (cmpi .sge) t5 t8
  let t10 : IVec S1 1 := (cmpi .sle) t5 t6
  let t11 : IVec S1 1 := andi t9 t10
  let t12 : IVec S_ 1 := (constantI S_ 1 1#1)
  let t13 : IVec S_ 1 := (fun x v => Host.reduce IntOp.andi x v reducesTo_S1_S_d0 h_S_) t11 t12
  let t14 : IVec S4 32 := (fun x i => Host.gather gather_S4x4_S1_S4_0_1_n_n_1_0_41 x i) x t5
  let t15 : IVec S4 1 := (broadcastInDim S4 ![] bcast_S_S4) t13
  let t16 : IVec S_ 32 := (constantI S_ 32 2147483648#32)
  let t17 : IVec S4 32 := (broadcastInDim S4 ![] bcast_S_S4) t16
  select t15 t14 t17

/-- The sum of four words. -/
def sum4 (x : IVec S4 32) : IVec S_ 32 :=
  let t0 := (constantI S_ 32 0#32)
  (fun x v => Host.reduce IntOp.addi x v reducesTo_S4_S_d0 h_S_) x t0

/-- The word at `i` of four words. -/
def takeOne4 (x : IVec S4 32) (i : IVec S_ 32) : IVec S_ 32 :=
  let t0 : IVec S_ 32 := (constantI S_ 32 0#32)
  let t1 : IVec S_ 1 := (cmpi .slt) i t0
  let t2 : IVec S_ 32 := (constantI S_ 32 4#32)
  let t3 : IVec S_ 32 := addi i t2
  let t4 : IVec S_ 32 := select t1 t3 i
  let t5 : IVec S1 32 := (broadcastInDim S1 ![] bcast_S_S1) t4
  let t6 : IVec S1 32 := (constantI S1 32 3#32)
  let t7 : IVec S_ 32 := (constantI S_ 32 0#32)
  let t8 : IVec S1 32 := (broadcastInDim S1 ![] bcast_S_S1) t7
  let t9 : IVec S1 1 := (cmpi .sge) t5 t8
  let t10 : IVec S1 1 := (cmpi .sle) t5 t6
  let t11 : IVec S1 1 := andi t9 t10
  let t12 : IVec S_ 1 := (constantI S_ 1 1#1)
  let t13 : IVec S_ 1 := (fun x v => Host.reduce IntOp.andi x v reducesTo_S1_S_d0 h_S_) t11 t12
  let t14 : IVec S_ 32 := (fun x i => Host.gather gather_S4_S1_S__n_0_n_n_0_0_1 x i) x t5
  let t15 : IVec S_ 32 := (constantI S_ 32 2147483648#32)
  select t13 t14 t15

/-- Four words followed by the difference of two. -/
def five (x : IVec S4 32) (a : IVec S_ 32) (b : IVec S_ 32) : IVec S5 32 :=
  let t0 : IVec S_ 32 := subi a b
  let t1 : IVec S1 32 := (broadcastInDim S1 ![] bcast_S_S1) t0
  (fun a b => concatenate S5 0 [⟨S4, a⟩, ⟨S1, b⟩] concatenates_S4_S1_S5_d0) x t1

end Cert.KernelIdeal.Pf
-- ==== Proof.KernelIdeal.Host1.lean ====
/-
What the host operations compute, one stretch at a time, from the buffers before the stretch.
-/
module

public import proofs.«01_k».proof.Proof.KernelIdeal.Words
public import Idealize.ShloMosaic.Lib.StableHlo.ReadAt

@[expose] public section

noncomputable section

namespace Cert.KernelIdeal.Pf

open Cert.KernelIdeal Cert.KernelIdeal.Gen
open Idealize.ShloMosaic
open Idealize.ShloMosaic.TcCoe
open Idealize.ShloMosaic.StableHlo (after)

variable {F : FTy → Type} [FloatOps F]

variable (V : Valuation τ sig (Elt F))

theorem at_v9 : after hostOps0_1 V main_v9 = counts (V main_arg1) := by
  after_reads_simp
  rfl

theorem at_v1 : after hostOps0 V main_v1 = (Host.sort2 S2048 0 comparator_i32_i32_d0 (V main_arg1) (iotaInDim S2048 32 0)).2 := by
  after_reads_simp
  rfl

theorem at_v10 : after hostOps0_2 V main_v10 = prefix4 (V main_v9) := by
  after_reads_simp
  rfl

theorem at_v11 : after hostOps0_3 V main_v11 = subi (V main_v10 : IVec S4 32) (V main_v9) := by
  after_reads_simp

theorem at_v13 : after hostOps0_4 V main_v13 = floorDiv2560 (V main_v12) (V main_c_0) := by
  after_reads_simp
  rfl

theorem at_v14 : after hostOps0_6 V main_v14 = floorRem2560 (V main_v12) (V main_c_1) := by
  after_reads_simp
  simp only [StableHlo.TRef.toBuf, StableHlo.TRef.ofBuf, cast_cast, cast_eq]
  rfl

theorem at_v22 : after hostOps0_7 V main_v22 = startPlus (V main_v11) (V main_v13) (V main_v14) := by
  after_reads_simp
  rfl

theorem at_v23 : after hostOps0_8 V main_v23 = clip2560 (V main_v22) (V main_c_4) (V main_c_5) := by
  after_reads_simp
  rfl

theorem at_v30 : after hostOps0_9 V main_v30 = pick2048 (V main_v1) (V main_v23) := by
  after_reads_simp
  rfl

theorem at_v37 : after hostOps0_11 V main_v37 = countRow (V main_v9) := by
  after_reads_simp
  rfl

theorem at_v44 (c : Dev nD) : after (hostOps1 c) V main_v44 = fourRows (V main_v38) := by
  after_reads_simp
  rfl

theorem at_v42 (c : Dev nD) : after (hostOps1 c) V main_v42 = rank c := by
  after_reads_simp
  rfl

theorem at_v47 (c : Dev nD) : after (hostOps1 c) V main_v47 = rankLess c := by
  after_reads_simp
  rfl

theorem at_c13 (c : Dev nD) : after (hostOps1 c) V main_c_13 = constantI S_ 32 4#32 := by
  after_reads_simp

theorem at_v48 : after hostOps1_1 V main_v48 = floorRem4 (V main_v47) (V main_c_13) := by
  after_reads_simp
  simp only [StableHlo.TRef.toBuf, StableHlo.TRef.ofBuf, cast_cast, cast_eq]
  rfl

theorem at_v49 : after hostOps1_2 V main_v49 = takeRow4 (V main_v44) (V main_v48) := by
  after_reads_simp
  rfl

theorem at_v53 : after hostOps1_3 V main_v53 = upTo64 (V main_v9) := by
  after_reads_simp
  rfl

theorem at_c16 : after hostOps1_3 V main_c_16 = constantI S_ 32 64#32 := by
  after_reads_simp

theorem at_v54 : after hostOps1_4 V main_v54 = floorDiv4 (V main_v53) (V main_c_16) := by
  after_reads_simp
  rfl

theorem at_v55 : after hostOps1_5 V main_v55 = takeCol4 (V main_v49) (V main_v42) := by
  after_reads_simp
  rfl

theorem at_v59 : after hostOps1_6 V main_v59 = upTo64 (V main_v55) := by
  after_reads_simp
  rfl

theorem at_c19 : after hostOps1_6 V main_c_19 = constantI S_ 32 64#32 := by
  after_reads_simp

theorem at_v60 : after hostOps1_7 V main_v60 = floorDiv4 (V main_v59) (V main_c_19) := by
  after_reads_simp
  rfl

theorem at_v61 : after hostOps1_8 V main_v61 = sum4 (V main_v60) := by
  after_reads_simp
  rfl

theorem at_v62 : after hostOps1_9 V main_v62 = takeOne4 (V main_v60) (V main_v42) := by
  after_reads_simp
  rfl

theorem at_v65 : after hostOps1_10 V main_v65 = five (V main_v54) (V main_v61) (V main_v62) := by
  after_reads_simp
  rfl

end Cert.KernelIdeal.Pf

end
-- ==== Proof.KernelIdeal.Records.lean ====
/-
The two exchanges as segments of the host program, and the host operations after the second, whose result is known only
on the blocks that arrive.
-/
module

public import proofs.«01_k».proof.Proof.KernelIdeal.Regions
public import Idealize.ShloMosaic.Lib.Pipeline.RegionArrays
public import Idealize.ShloMosaic.Lib.Pipeline.RegionArraysF

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf ownSems0 scopedRest arrRef arrRefs ucRefs pin)
open Idealize.ShloMosaic.TalkSites (Pay tallyL)

variable {F : FTy → Type} [FloatOps F]

local notation "𝕄" => MT nD τ sig ℕ (Elt F) ℕ UU ℕ

variable (m : (ℓ : Loc nD τ sig) → Buf (Elt F) ℓ)

/-- The arrays of an exchange when it ends: at contents its windows' relations allow. -/
theorem arrays_end (p : Fin 2) (c : Dev nD) (n : ℕ) :
    ((rdats m p c).arraysAt n : sProp 𝕄) ⊢ iprop(∃ G : (w : Fin (cfgs p).W) → Buf (Elt F) (((cfgs p).win w).arr.view.loc (c.tc : Thread nD τ)),
      ⌜∀ w, (rdats m p c).ArrAt w n (G w)⌝ ∗ (pdat m p c).arrays G) := by
  unfold RDat.arraysAt Dat.arrays
  refine (BI.bigSep_exists_pi Finset.univ _).trans ?_
  iintro ⟨%G, H⟩
  ihave H' := (BI.bigSep_pure_sep Finset.univ (fun w => (rdats m p c).ArrAt w n (G w)) _) $$ H
  icases H' with ⟨%hG, H⟩
  iexists G
  isplitr
  · ipureintro; exact fun w => hG w (Finset.mem_univ w)
  iexact H

/-- What a list over level b owes, as the waits of the staging cells ask it. -/
theorem over_pos {l : List (Pay nD τ sig)} (h : Over 0 l) (g : GSem nD τ sig) (i : ℕ) (hg : 0 < tallyL l g i) : i ∈ L g ∧ 0 < lv g i := by
  obtain ⟨x, hx, rfl, rfl⟩ := TalkSites.tallyL_pos hg
  obtain ⟨h1, h2, h3⟩ := h x hx
  refine ⟨?_, h3⟩
  rw [h2]; unfold L; rw [if_pos h1]; exact Finset.mem_singleton_self _

/-- An exchange as a segment: entered from the unscoped buffers at W, what the launch keeps for it, and what the device
    then owes; left with the buffers at a valuation of which R holds. -/
def talk (p : Fin 2) (kit : Pipeline.PLaunchFacts (nD := nD) (τ := τ) (pcfgs (F := F)) p) (hK : ((pcfgs (F := F)) p).pre.K = 0)
    {K : Type} [Fintype K] (osem : K → SemLoc sig) (ho : Pipeline.OwnSemFacts ((pcfgs (F := F)) p).spec osem)
    (hsub : ∀ w, (arrRef ((pcfgs (F := F)) p).spec w).isScoped = false)
    (hbody : ∀ c, BodyObligationRel (pdat m p c) (defs₀ (F := F)) 𝒱₀ 0 Set.univ (fgt p) (Rl m p c))
    (dueA dueB : Dev nD → List (Pay nD τ sig))
    (howed0 : ∀ c, (pdat m p c).owed 0 = tallyL (dueA c)) (howedN : ∀ c, (pdat m p c).owed (Fin.last _) = tallyL (dueB c))
    (hrec : ∀ c, (pdat m p c).recorded 0 = Set.univ)
    (hshare : ∀ c w, (pdat m p c).share w = fullShare)
    (hlv : ∀ (c : Dev nD) (w : Fin (cfgs p).W) (s : Fin ((cfgs p).win w).nbuf), lv ((c : Thread nD τ), .dma (((cfgs p).win w).sem s)) 0 ≤ 0)
    (hD : ∀ (c : Dev nD) (t : Fin ((cfgs p).N + 1)), ∃ l, (pdat m p c).owed t = tallyL l ∧ Over 0 l)
    (W : Dev nD → Valuation τ sig (Elt F)) (hW : ∀ c w, (pdat m p c).A w = W c (Proc.devRef .tc (arrRef ((pcfgs (F := F)) p).spec w)))
    (R : Dev nD → Valuation τ sig (Elt F) → Prop)
    (hleave : ∀ (c : Dev nD) (G : (w : Fin (cfgs p).W) → Buf (Elt F) (((cfgs p).win w).arr.view.loc (c.tc : Thread nD τ))),
      (∀ w, (rdats m p c).ArrAt w (cfgs p).N (G w)) → ∃ V', R c V' ∧ (∀ w, G w = V' (Proc.devRef .tc (arrRef ((pcfgs (F := F)) p).spec w)))
        ∧ ∀ b ∈ ucRefs τ sig \ arrRefs ((pcfgs (F := F)) p).spec, W c b = V' b)
    (Tk Xk Yk Zk Tn : Dev nD → sProp 𝕄)
    (hopen : ∀ c : Dev nD, iprop(Tk c ∗ ownSems0 osem c ∗ levAts L lv) ⊢ |={Set.univ}=> iprop(Xk c ∗ Zk c))
    (hin : ∀ c : Dev nD, iprop(Xk c ∗ scopedRest ((pcfgs (F := F)) p).spec c) ⊢ (pdat m p c).Φ 0)
    (hout : ∀ c : Dev nD, (pdat m p c).Φ (Fin.last (cfgs p).N) ⊢ iprop(Yk c ∗ ownSems0 osem c ∗ scopedRest ((pcfgs (F := F)) p).spec c))
    (hend : ∀ c : Dev nD, iprop(Yk c ∗ Zk c) ⊢ Tn c) :
    RDat.RegionSeg (pcfgs (F := F)) adm (rdats m) 0 (defs₀ (F := F)) 𝒱₀ L lv p where
  win := kit.to₀.win
  block_pos := kit.to₀.block_pos
  stage_whole := kit.to₀.stage_whole
  K := K
  osem := osem
  ho := ho
  hbody c := (hbody c).toRRel
  hwaits c :=
    have hD' : ∀ (c : Dev nD) (t : Fin ((cfgs p).N + 1)) (g : GSem nD τ sig) (i : ℕ), 0 < (pdat m p c).owed t g i → i ∈ L g ∧ 0 < lv g i := fun c t g i hg => by
      obtain ⟨l, e, hl⟩ := hD c t
      rw [e] at hg
      exact over_pos hl g i hg
    RDat.cellsWaits_intro (pin (pcfgs (F := F)) adm) (rdats m) 0 p c fun w s t =>
    MayOwe.of_cut 0 (fun q hq => by rw [Finset.mem_singleton.mp hq]; exact (L_tc c _).symm ▸ Finset.mem_singleton_self _) (fun g i hg => (hD' c t g i hg).1)
      (fun q hq => by rw [Finset.mem_singleton.mp hq]; exact hlv c w s) (fun g i hg => (hD' c t g i hg).2)
  pre c := iprop(StableHlo.held (c.tc : Thread nD τ) (ucRefs τ sig) (W c) ∗ Tk c ∗ owesL c (dueA c))
  post c := iprop((∃ V', ⌜R c V'⌝ ∗ StableHlo.held (c.tc : Thread nD τ) (ucRefs τ sig) V') ∗ Tn c ∗ owesL c (dueB c))
  X c := Xk c
  Y c := Yk c
  Z c := iprop(StableHlo.held (c.tc : Thread nD τ) (ucRefs τ sig \ arrRefs ((pcfgs (F := F)) p).spec) (W c) ∗ Zk c)
  hentry c := by
    rw [Pipeline.prefHeld_of_none _ hK, StableHlo.held_sub_split (c.tc : Thread nD τ) (Pipeline.arrRefs_sub_ucRefs _ hsub) (W c),
      ← Pipeline.arrays_held (pcfgs (F := F)) adm (pdat m) p kit c (hshare c) ((pdat m p c).A) (W c) (hW c)]
    show _ ⊢ |={Set.univ}=> iprop((pdat m p c).arrays (pdat m p c).A ∗ emp ∗ (pdat m p c).owesAt 0 0 ∗ Xk c
      ∗ (StableHlo.held (c.tc : Thread nD τ) (ucRefs τ sig \ arrRefs ((pcfgs (F := F)) p).spec) (W c) ∗ Zk c))
    iintro ⟨⟨⟨Ha, Hr⟩, HT, HO⟩, Hos, HL⟩
    imod (hopen c) $$ [HT Hos HL] with ⟨HX, HZ⟩
    · isplitl [HT]; · iexact HT
      isplitl [Hos] <;> iassumption
    imodintro
    isplitl [Ha]; · iexact Ha
    isplitr; · iempintro
    isplitl [HO]
    · unfold Dat.owesAt Pipeline.owesWithin Dat.bound owesL
      rw [howed0 c, hrec c]
      icases HO with ⟨%Wd, HO⟩; iexists Wd; isplitr; · ipureintro; exact fun _ _ => Or.inl trivial
      iexact HO
    isplitl [HX]; · iexact HX
    isplitl [Hr] <;> iassumption
  hin c := (show _ ⊢ iprop(Xk c ∗ scopedRest ((pcfgs (F := F)) p).spec c) from by
    iintro ⟨HX, -, Hr⟩
    isplitl [HX] <;> iassumption).trans (hin c)
  hout c := hout c
  hexit c := by
    show iprop((rdats m p c).arraysAt (cfgs p).N ∗ (pdat m p c).owesAt 0 (Fin.last (cfgs p).N) ∗ Yk c
      ∗ (StableHlo.held (c.tc : Thread nD τ) (ucRefs τ sig \ arrRefs ((pcfgs (F := F)) p).spec) (W c) ∗ Zk c)) ⊢ _
    iintro ⟨Ha, HO, HY, Hr, HZ⟩
    ihave Ha' := (arrays_end m p c (cfgs p).N) $$ Ha
    icases Ha' with ⟨%G, %hG, Ha⟩
    imodintro
    obtain ⟨V', hR, hV, hoff⟩ := hleave c G hG
    isplitl [Ha Hr]
    · iexists V'
      isplitr; · ipureintro; exact hR
      rw [StableHlo.held_sub_split (c.tc : Thread nD τ) (Pipeline.arrRefs_sub_ucRefs _ hsub) V',
        ← Pipeline.arrays_held (pcfgs (F := F)) adm (pdat m) p kit c (hshare c) G V' hV, ← StableHlo.held_congr (c.tc : Thread nD τ) hoff]
      isplitl [Ha] <;> iassumption
    isplitl [HY HZ]
    · iapply (hend c)
      isplitl [HY] <;> iassumption
    unfold Dat.owesAt Pipeline.owesWithin owesL
    rw [howedN c]
    icases HO with ⟨%Wd, -, HO⟩; iexists Wd; iexact HO

/-! ## The first exchange -/

def osem0 : Fin 2 → SemLoc sig | 0 => mS0 | 1 => mR0
def osem1 : Fin 3 → SemLoc sig | 0 => mS1 | 1 => mR1 | 2 => mL1

theorem own0 (c : Dev nD) : (ownSems0 osem0 c : sProp 𝕄) = zero0 c := by
  unfold ownSems0 zero0
  exact bigSep_univ_eq_bigSepL [(0 : Fin 2), (1 : Fin 2)] (by decide) (by decide) _
theorem own1 (c : Dev nD) : (ownSems0 osem1 c : sProp 𝕄) = zero1 c := by
  unfold ownSems0 zero1
  exact bigSep_univ_eq_bigSepL [(0 : Fin 3), (1 : Fin 3), (2 : Fin 3)] (by decide) (by decide) _

theorem over_due0 (c : Dev nD) : Over 0 (due0 c) := by
  unfold due0
  refine over_cons ?_ <| over_cons ?_ <| over_cons ?_ <| over_cons ?_ <| over_cons ?_ <| over_cons ?_ (over_due1 c (by decide))
  all_goals decide +revert

theorem own_facts0 : Pipeline.OwnSemFacts spec0 osem0 := by decide
theorem own_facts1 : Pipeline.OwnSemFacts spec1 osem1 := by decide
theorem arr_unscoped0 : ∀ w, (arrRef spec0 w).isScoped = false := by decide
theorem arr_unscoped1 : ∀ w, (arrRef spec1 w).isScoped = false := by decide
theorem share_full (p : Fin 2) (c : Dev nD) (w : Fin (cfgs p).W) : (pdat m p c).share w = fullShare := by
  match p with
  | ⟨0, _⟩ => unfold Dat.share; split <;> rfl
  | ⟨1, _⟩ => unfold Dat.share; split <;> rfl

/-- The staging cells lie at the lowest level. -/
theorem lv_stage0 {c : Dev nD} : ∀ (w : Fin 2) (s : Fin ((cfgs (0 : Fin 2)).win w).nbuf), lv ((c : Thread nD τ), .dma (((cfgs (0 : Fin 2)).win w).sem s)) 0 ≤ 0 := by
  show ∀ (w : Fin 2) (s : Fin (win0 w).nbuf), (if SemLoc.dma ((win0 w).sem s) = mB0 then 1 else if SemLoc.dma ((win0 w).sem s) = mR0 then 2 else if SemLoc.dma ((win0 w).sem s) = mB1 then 3 else if SemLoc.dma ((win0 w).sem s) = mR1 then 4 else 0) ≤ 0
  decide
theorem lv_stage1 {c : Dev nD} : ∀ (w : Fin 3) (s : Fin ((cfgs (1 : Fin 2)).win w).nbuf), lv ((c : Thread nD τ), .dma (((cfgs (1 : Fin 2)).win w).sem s)) 0 ≤ 0 := by
  show ∀ (w : Fin 3) (s : Fin (win1 w).nbuf), (if SemLoc.dma ((win1 w).sem s) = mB0 then 1 else if SemLoc.dma ((win1 w).sem s) = mR0 then 2 else if SemLoc.dma ((win1 w).sem s) = mB1 then 3 else if SemLoc.dma ((win1 w).sem s) = mR1 then 4 else 0) ≤ 0
  decide

theorem open0 (c : Dev nD) : iprop((invs m ∗ keep0 c ∗ shut0 c ∗ keep1 c ∗ shut1 c) ∗ ownSems0 osem0 c ∗ levAts L lv)
    ⊢ |={Set.univ}=> (iprop((invs m ∗ levAts L lv ∗ keep0 c ∗ pos0 c) ∗ (invs m ∗ keep1 c ∗ shut1 c)) : sProp 𝕄) := by
  rw [own0]
  unfold zero0 shut0 pos0
  iintro ⟨⟨#HI, Hk, ⟨Ha, Hb⟩, Hk1, Hs1⟩, ⟨Hza, Hzb⟩, #HL⟩
  ihave HI' := (show invs m ⊢ iprop(∃ K, invAll (cntOf m) (xsOf m) K) from Entails.refl _) $$ HI
  icases HI' with ⟨%K, #HK⟩
  imod (open_cell m K c 2) $$ [Ha Hza] with Ha
  · isplitr; · iexact HK
    isplitl [Ha]; · iexact Ha
    iexact Hza
  imod (open_cell m K c 3) $$ [Hb Hzb] with Hb
  · isplitr; · iexact HK
    isplitl [Hb]; · iexact Hb
    iexact Hzb
  imodintro
  isplitl [Hk Ha Hb]
  · isplitr; · iexact HI
    isplitr; · iexact HL
    isplitl [Hk]; · iexact Hk
    isplitl [Ha]; · iexact Ha
    iexact Hb
  isplitr; · iexact HI
  isplitl [Hk1] <;> iassumption

theorem open1 (c : Dev nD) : iprop((invs m ∗ keep1 c ∗ shut1 c ∗ atPos ER (cell c mB0) 1 ∅ 0) ∗ ownSems0 osem1 c ∗ levAts L lv)
    ⊢ |={Set.univ}=> (iprop((invs m ∗ levAts L lv ∗ keep1 c ∗ pos1 c) ∗ (invs m ∗ atPos ER (cell c mB0) 1 ∅ 0)) : sProp 𝕄) := by
  rw [own1]
  unfold zero1 shut1 pos1
  iintro ⟨⟨#HI, Hk, ⟨Ha, Hb, Hc⟩, Hp⟩, ⟨Hza, Hzb, Hzc⟩, #HL⟩
  ihave HI' := (show invs m ⊢ iprop(∃ K, invAll (cntOf m) (xsOf m) K) from Entails.refl _) $$ HI
  icases HI' with ⟨%K, #HK⟩
  imod (open_cell m K c 4) $$ [Ha Hza] with Ha
  · isplitr; · iexact HK
    isplitl [Ha]; · iexact Ha
    iexact Hza
  imod (open_cell m K c 5) $$ [Hb Hzb] with Hb
  · isplitr; · iexact HK
    isplitl [Hb]; · iexact Hb
    iexact Hzb
  imod (open_cell m K c 6) $$ [Hc Hzc] with Hc
  · isplitr; · iexact HK
    isplitl [Hc]; · iexact Hc
    iexact Hzc
  imodintro
  isplitl [Hk Ha Hb Hc]
  · isplitr; · iexact HI
    isplitr; · iexact HL
    isplitl [Hk]; · iexact Hk
    isplitl [Ha]; · iexact Ha
    isplitl [Hb]; · iexact Hb
    iexact Hc
  isplitr; · iexact HI
  iexact Hp

/-- The buffers when the first exchange ends. -/
@[irreducible] def W13 (c : Dev nD) : Valuation τ sig (Elt F) := V13 m (outs0 m) c
theorem W13_eq (c : Dev nD) : W13 m c = V13 m (outs0 m) c := by unfold W13; rfl

theorem update_at (V : Valuation τ sig (Elt F)) (r : DevRef τ sig) (x : r.ty.Contents (Elt F)) : (Function.update V r x : Valuation τ sig (Elt F)) r = x := Function.update_self _ _ _
theorem update_off (V : Valuation τ sig (Elt F)) (r b : DevRef τ sig) (x : r.ty.Contents (Elt F)) (h : b ≠ r) : (Function.update V r x : Valuation τ sig (Elt F)) b = V b := Function.update_of_ne h _ _

theorem W13_out (c : Dev nD) : W13 m c (Proc.devRef .tc main_v38) = gath (cntOf m) c := by
  rw [W13_eq]
  exact (update_at (V12 m c) (Proc.devRef .tc main_v38) _).trans (update_at (W12 m c) (Proc.devRef .tc main_v38) _)
theorem W13_ne (c : Dev nD) (b : DevRef τ sig) (hb : b ≠ Proc.devRef .tc main_v38) : W13 m c b = W12 m c b := by
  rw [W13_eq, W12_eq]
  exact update_off (V12 m c) (Proc.devRef .tc main_v38) b _ hb

/-- The arrays of the first exchange, from what its one point leaves. -/
theorem leave0 (c : Dev nD) (G : (w : Fin (cfgs (0 : Fin 2)).W) → Buf (Elt F) (((cfgs (0 : Fin 2)).win w).arr.view.loc (c.tc : Thread nD τ)))
    (hG : ∀ w, (rdats m 0 c).ArrAt w (cfgs (0 : Fin 2)).N (G w)) :
    ∃ V', V' = W13 m c ∧ (∀ w, G w = V' (Proc.devRef .tc (arrRef spec0 w))) ∧ ∀ b ∈ ucRefs τ sig \ arrRefs spec0, W12 m c b = V' b := by
  have h0 : G (0 : Fin 2) = W12 m c (Proc.devRef .tc main_v37) := by
    have := hG (0 : Fin 2)
    rw [RDat.ArrAt_in (rdats m 0 c) (0 : Fin 2) rfl] at this
    exact this
  have h1 : G (1 : Fin 2) = gath (cntOf m) c := by
    obtain ⟨X, hX, hj⟩ := RDat.ArrAt.emb_eq_of_wholeAt (rd := rdats m 0 c) (hG (1 : Fin 2)) (t₀ := t0_0) (by decide +kernel)
    have hX' : X = gath (cntOf m) c := (pdat m 0 c).toRRel_leaves (fgt := fgt 0) (Rl := Rl m 0 c) (w := (1 : Fin 2)) rfl hX
    subst hX'
    funext j
    exact hj j
  refine ⟨_, rfl, ?_, ?_⟩
  · intro w
    match w with
    | ⟨0, _⟩ => exact h0.trans (W13_ne m c (Proc.devRef .tc main_v37) (by decide)).symm
    | ⟨1, _⟩ => exact h1.trans (W13_out m c).symm
  · intro b hb
    refine (W13_ne m c b fun h => ?_).symm
    subst h
    exact (Finset.mem_sdiff.mp hb).2 (Finset.mem_map.mpr ⟨main_v38, Finset.mem_image.mpr ⟨(1 : Fin 2), Finset.mem_univ _, rfl⟩, rfl⟩)

theorem owed_over0 (c : Dev nD) : ∀ t, ∃ l, (pdat m 0 c).owed t = tallyL l ∧ Over 0 l
  | ⟨0, _⟩ => ⟨due0 c, rfl, over_due0 c⟩
  | ⟨_ + 1, _⟩ => ⟨due1 c, rfl, over_due1 c (by decide)⟩
theorem owed_over1 (c : Dev nD) : ∀ t, ∃ l, (pdat m 1 c).owed t = tallyL l ∧ Over 0 l
  | ⟨0, _⟩ => ⟨due1 c, rfl, over_due1 c (by decide)⟩
  | ⟨_ + 1, _⟩ => ⟨[], rfl, over_nil 0⟩

/-- The first exchange's segment. -/
def rec0 : RDat.RegionSeg (pcfgs (F := F)) adm (rdats m) 0 (defs₀ (F := F)) 𝒱₀ L lv 0 :=
  talk m 0 (launch0.toP) rfl osem0 own_facts0 arr_unscoped0 (obl0 m) due0 due1 (fun _ => rfl) (fun _ => rfl) (fun _ => rfl) (fun c w => share_full m _ c w)
    (fun c w s => lv_stage0 w s)
    (owed_over0 m)
    (W12 m) (fun _ _ => rfl) (fun c V' => V' = W13 m c) (leave0 m)
    (fun c => iprop(invs m ∗ keep0 c ∗ shut0 c ∗ keep1 c ∗ shut1 c)) (fun c => iprop(invs m ∗ levAts L lv ∗ keep0 c ∗ pos0 c))
    (fun c => atPos ER (cell c mB0) 1 ∅ 0) (fun c => iprop(invs m ∗ keep1 c ∗ shut1 c)) (fun c => iprop(invs m ∗ keep1 c ∗ shut1 c ∗ atPos ER (cell c mB0) 1 ∅ 0))
    (open0 m) (fun c => Entails.refl _) (fun c => by rw [own0]; exact Entails.refl _)
    (fun c => by
      iintro ⟨Hp, HI, Hk, Hs⟩
      isplitl [HI]; · iexact HI
      isplitl [Hk]; · iexact Hk
      isplitl [Hs] <;> iassumption)

/-! ## The second exchange -/

/-- The valuations up to the second exchange do not depend on what it leaves. -/
theorem V13_outs (v : Dev nD → Blocks F) (c : Dev nD) : V13 m (outs1 m v) c = V13 m (outs0 m) c := by
  unfold V13 outs1; rfl
theorem V24_outs (v : Dev nD → Blocks F) (c : Dev nD) : V24 m (outs1 m v) c = V24 m (outs0 m) c := by
  unfold V24 V23 V22 V21 V20 V19 V18 V17 V16 V15 V14
  rw [V13_outs]

/-- The buffers when the second exchange ends, the device's result at g. -/
@[irreducible] def VR (c : Dev nD) (g : Blocks F) : Valuation τ sig (Elt F) := V25 m (outs1 m fun _ => g) c
theorem VR_eq (c : Dev nD) (g : Blocks F) : VR m c g = V25 m (outs1 m fun _ => g) c := by unfold VR; rfl

theorem outs1_out (c : Dev nD) (g : Blocks F) : outs1 m (fun _ => g) 25 main_v66 c = g :=
  (if_pos rfl).trans (update_at (W24 m c) (Proc.devRef .tc main_v66) g)
theorem outs1_cnt (c : Dev nD) (g : Blocks F) : outs1 m (fun _ => g) 25 main_v38 c = V24 m (outs0 m) c (Proc.devRef .tc main_v38) :=
  ((if_pos rfl).trans (update_off (W24 m c) (Proc.devRef .tc main_v66) (Proc.devRef .tc main_v38) g (by decide))).trans (congrFun (W24_eq m c) _)

theorem VR_out (c : Dev nD) (g : Blocks F) : VR m c g (Proc.devRef .tc main_v66) = g := by
  rw [VR_eq]
  refine (update_off _ (Proc.devRef .tc main_v38) (Proc.devRef .tc main_v66) _ (by decide)).trans ?_
  exact (update_at _ (Proc.devRef .tc main_v66) _).trans (outs1_out m c g)
theorem VR_ne (c : Dev nD) (g : Blocks F) (b : DevRef τ sig) (hb : b ≠ Proc.devRef .tc main_v66) : VR m c g b = W24 m c b := by
  rw [VR_eq, W24_eq]
  by_cases h : b = Proc.devRef .tc main_v38
  · subst h
    exact (update_at _ (Proc.devRef .tc main_v38) _).trans (outs1_cnt m c g)
  refine (update_off _ (Proc.devRef .tc main_v38) b _ h).trans ?_
  refine (update_off _ (Proc.devRef .tc main_v66) b _ hb).trans ?_
  exact congrFun (V24_outs m _ c) b

theorem leave1 (c : Dev nD) (G : (w : Fin (cfgs (1 : Fin 2)).W) → Buf (Elt F) (((cfgs (1 : Fin 2)).win w).arr.view.loc (c.tc : Thread nD τ)))
    (hG : ∀ w, (rdats m 1 c).ArrAt w (cfgs (1 : Fin 2)).N (G w)) :
    ∃ V', (∃ g, Good (xsOf m) c g ∧ V' = VR m c g) ∧ (∀ w, G w = V' (Proc.devRef .tc (arrRef spec1 w))) ∧ ∀ b ∈ ucRefs τ sig \ arrRefs spec1, W24 m c b = V' b := by
  have h0 : G (0 : Fin 3) = W24 m c (Proc.devRef .tc main_v32) := by
    have := hG (0 : Fin 3)
    rw [RDat.ArrAt_in (rdats m 1 c) (0 : Fin 3) rfl] at this
    exact this
  have h1 : G (1 : Fin 3) = W24 m c (Proc.devRef .tc main_v65) := by
    have := hG (1 : Fin 3)
    rw [RDat.ArrAt_in (rdats m 1 c) (1 : Fin 3) rfl] at this
    exact this
  have h2 : Good (xsOf m) c (G (2 : Fin 3)) := by
    obtain ⟨X, hX, hj⟩ := RDat.ArrAt.emb_eq_of_wholeAt (rd := rdats m 1 c) (hG (2 : Fin 3)) (t₀ := t1_0) (by decide +kernel)
    have hX' : Good (xsOf m) c X := (pdat m 1 c).toRRel_leaves (fgt := fgt 1) (Rl := Rl m 1 c) (w := (2 : Fin 3)) rfl hX
    have e : G (2 : Fin 3) = X := by funext j; exact hj j
    rw [e]; exact hX'
  refine ⟨_, ⟨_, h2, rfl⟩, ?_, ?_⟩
  · intro w
    match w with
    | ⟨0, _⟩ => exact h0.trans (VR_ne m c _ (Proc.devRef .tc main_v32) (by decide)).symm
    | ⟨1, _⟩ => exact h1.trans (VR_ne m c _ (Proc.devRef .tc main_v65) (by decide)).symm
    | ⟨2, _⟩ => exact (VR_out m c _).symm
  · intro b hb
    refine (VR_ne m c _ b fun h => ?_).symm
    subst h
    exact (Finset.mem_sdiff.mp hb).2 (Finset.mem_map.mpr ⟨main_v66, Finset.mem_image.mpr ⟨(2 : Fin 3), Finset.mem_univ _, rfl⟩, rfl⟩)

/-- The second exchange's segment, where every device's scalars are those of full runs of 512 rows. -/
def rec1 (hs : ∀ c, W24 m c main_v65 = scalV) : RDat.RegionSeg (pcfgs (F := F)) adm (rdats m) 0 (defs₀ (F := F)) 𝒱₀ L lv 1 :=
  talk m 1 (launch1.toP) rfl osem1 own_facts1 arr_unscoped1 (fun c => obl1 m c (hs c)) due1 (fun _ => []) (fun _ => rfl) (fun _ => rfl) (fun _ => rfl) (fun c w => share_full m _ c w)
    (fun c w s => lv_stage1 w s)
    (owed_over1 m)
    (W24 m) (fun _ _ => rfl) (fun c V' => ∃ g, Good (xsOf m) c g ∧ V' = VR m c g) (leave1 m)
    (fun c => iprop(invs m ∗ keep1 c ∗ shut1 c ∗ atPos ER (cell c mB0) 1 ∅ 0)) (fun c => iprop(invs m ∗ levAts L lv ∗ keep1 c ∗ pos1 c))
    (fun c => atPos ER (cell c mB1) 1 ∅ 0) (fun c => iprop(invs m ∗ atPos ER (cell c mB0) 1 ∅ 0)) (fun c => iprop(invs m ∗ atPos ER (cell c mB0) 1 ∅ 0 ∗ atPos ER (cell c mB1) 1 ∅ 0))
    (open1 m) (fun c => Entails.refl _) (fun c => by rw [own1]; exact Entails.refl _)
    (fun c => by
      iintro ⟨Hp, HI, Hk⟩
      isplitl [HI]; · iexact HI
      isplitl [Hk] <;> iassumption)

/-! ## The host operations after it -/

set_option backward.isDefEq.respectTransparency.types false in
/-- A host stretch over the unscoped buffers at V c g, for some g that has the blocks that arrived. -/
def tail (ops : List (HloOp τ sig (Elt F))) (hS : ∀ op ∈ ops, op.bufs ⊆ ucRefs τ sig) (hf : ∀ op ∈ ops, op.fresh = ∅)
    (V : Dev nD → Blocks F → Valuation τ sig (Elt F)) : Pipeline.HostSeg (Ix := ℕ) (Name := ℕ) (U := UU) (Lvl := ℕ) (pcfgs (F := F)) defs₀ 𝒱₀ L lv where
  prog := StableHlo.seq ops
  pre c := iprop((∃ g, ⌜Good (xsOf m) c g⌝ ∗ StableHlo.held (c.tc : Thread nD τ) (ucRefs τ sig) (V c g)) ∗ E2 m c)
  post c := iprop((∃ g, ⌜Good (xsOf m) c g⌝ ∗ StableHlo.held (c.tc : Thread nD τ) (ucRefs τ sig) (StableHlo.after ops (V c g))) ∗ E2 m c)
  run c {β} k K := by
    iintro ⟨Hk, Hbd, ⟨⟨%g, %hg, Hh⟩, HR⟩, -⟩
    have hseq := StableHlo.wp_seq (defs := Pipeline.defs (pcfgs (F := F)) defs₀) (Variants.lift 𝒱₀) none Set.univ c (ucRefs τ sig) k (K := K) ops hS hf (V c g)
    iapply hseq $$ [Hbd Hh]
    · isplitl [Hbd] <;> iassumption
    iintro ⟨Hbd, Hh⟩
    iapply Hk
    isplitl [Hbd]; · iexact Hbd
    isplitl [Hh]
    · iexists g; isplitr; · ipureintro; exact hg
      iexact Hh
    iexact HR

end Cert.KernelIdeal.Pf

end
-- ==== Proof.KernelIdeal.Host2.lean ====
/-
With 512 rows for each destination on every device, the words that steer the second exchange are
the same on all devices: eight blocks to each destination, twenty-four to await.
-/
module

public import proofs.«01_k».proof.Proof.KernelIdeal.Host1
public import proofs.«01_k».proof.Proof.KernelIdeal.Records

@[expose] public section

noncomputable section

namespace Cert.KernelIdeal.Pf

open Cert.KernelIdeal Cert.KernelIdeal.Gen
open Idealize.ShloMosaic
open Idealize.ShloMosaic.TcCoe
open Idealize.ShloMosaic.StableHlo (after)

/-! ### The words -/

theorem takeRow4_512 : ∀ c : Dev nD, ∀ i, takeRow4 (fun _ => 512#32) (floorRem4 (rankLess c) (constantI S_ 32 4#32)) i = 512#32 := by decide +kernel
theorem blocks_512 : ∀ i, floorDiv4 (upTo64 fun _ => 512#32) (constantI S_ 32 64#32) i = 8#32 := by decide +kernel
theorem takeCol4_512 : ∀ c : Dev nD, ∀ i, takeCol4 (fun _ => 512#32) (rank c) i = 512#32 := by decide +kernel
theorem five_8 : ∀ c : Dev nD, ∀ i, five (fun _ => 8#32) (sum4 fun _ => 8#32) (takeOne4 (fun _ => 8#32) (rank c)) i = if (i 0).val < 4 then 8#32 else 24#32 := by decide +kernel
theorem countRow_512 : ∀ i : S8x128.Idx, (i 0).val = 0 → (i 1).val < 4 → countRow (fun _ => 512#32) i = 512#32 := by decide +kernel

theorem fourRows_512 (g : IVec S4x8x128 32) (h : ∀ x : S4x8x128.Idx, (x 1).val = 0 → (x 2).val < 4 → g x = 512#32) : fourRows g = fun _ => 512#32 := by
  funext i
  have key : ∀ y : S4x1x4.Idx, g (fun a => ⟨(![0, 0, 0] : Fin 3 → ℕ) a + (y (a.cast rfl)).val, Nat.lt_of_lt_of_le (Nat.add_lt_add_left (y _).isLt _) (slices_S4x8x128_S4x1x4_0_0_0.2 a)⟩) = 512#32 := by
    intro y
    refine h _ ?_ ?_
    · have h1 : (y 1).val < 1 := (y 1).isLt
      show 0 + (y 1).val = 0
      omega
    · have h2 : (y 2).val < 4 := (y 2).isLt
      show 0 + (y 2).val < 4
      omega
  exact key (Shape.reshapeEquiv shapeCasts_S4x1x4_S4x4 i)

/-! ### The stretches -/

variable {F : FTy → Type} [FloatOps F]
variable (m : (ℓ : Loc nD τ sig) → Buf (Elt F) ℓ)

/-- Every device has 512 rows for each destination. -/
def Balanced : Prop := ∀ c : Dev nD, counts (m ((c : Thread nD τ).loc main_arg1)) = fun _ => 512#32

variable {m}

theorem v9_at (hb : Balanced m) (c : Dev nD) : V2 m c main_v9 = fun _ => 512#32 :=
  (at_v9 (V1 m c)).trans (by rw [V1_of m c main_arg1 (by decide)]; exact hb c)

theorem v9_12 (hb : Balanced m) (c : Dev nD) : V12 m c main_v9 = fun _ => 512#32 :=
  (V12_of m c main_v9 (by decide)).trans <| (V11_of m c main_v9 (by decide)).trans <| (V10_of m c main_v9 (by decide)).trans <| (V9_of m c main_v9 (by decide)).trans <| (V8_of m c main_v9 (by decide)).trans <| (V7_of m c main_v9 (by decide)).trans <| (V6_of m c main_v9 (by decide)).trans <| (V5_of m c main_v9 (by decide)).trans <| (V4_of m c main_v9 (by decide)).trans <| (V3_of m c main_v9 (by decide)).trans <| v9_at hb c

theorem cnt_at (hb : Balanced m) (c : Dev nD) : cntOf m c = countRow (fun _ => 512#32) := by
  unfold cntOf
  rw [W12_eq]
  refine (at_v37 (V11 m c)).trans ?_
  rw [← V12_of m c main_v9 (by decide), v9_12 hb c]; rfl

section
variable (outs : Outs (F := F))

theorem v9_16 (hb : Balanced m) (c : Dev nD) : V16 m outs c main_v9 = fun _ => 512#32 :=
  (V16_of m outs c main_v9 (by decide)).trans <| (V15_of m outs c main_v9 (by decide)).trans <| (V14_of m outs c main_v9 (by decide)).trans <| (V13_of m outs c main_v9 (by decide)).trans <| v9_12 hb c

theorem v48_at (c : Dev nD) : V15 m outs c main_v48 = floorRem4 (rankLess c) (constantI S_ 32 4#32) :=
  (at_v48 (V14 m outs c)).trans (by rw [show V14 m outs c main_v47 = _ from at_v47 (V13 m outs c) c, show V14 m outs c main_c_13 = _ from at_c13 (V13 m outs c) c])

theorem v42_18 (c : Dev nD) : V18 m outs c main_v42 = rank c :=
  (V18_of m outs c main_v42 (by decide)).trans <| (V17_of m outs c main_v42 (by decide)).trans <| (V16_of m outs c main_v42 (by decide)).trans <| (V15_of m outs c main_v42 (by decide)).trans <| at_v42 (V13 m outs c) c

theorem v42_22 (c : Dev nD) : V22 m outs c main_v42 = rank c :=
  (V22_of m outs c main_v42 (by decide)).trans <| (V21_of m outs c main_v42 (by decide)).trans <| (V20_of m outs c main_v42 (by decide)).trans <| (V19_of m outs c main_v42 (by decide)).trans <| v42_18 outs c

theorem v54_at (hb : Balanced m) (c : Dev nD) : V18 m outs c main_v54 = fun _ => 8#32 :=
  (at_v54 (V17 m outs c)).trans (by
    rw [show V17 m outs c main_v53 = _ from at_v53 (V16 m outs c), show V17 m outs c main_c_16 = _ from at_c16 (V16 m outs c), v9_16 outs hb c]
    exact funext blocks_512)
end

/-- The gathered counts all say 512. -/
theorem v44_at (hb : Balanced m) (c : Dev nD) : V14 m (outs0 m) c main_v44 = fun _ => 512#32 :=
  (at_v44 (V13 m (outs0 m) c) c).trans (by
    refine fourRows_512 _ fun x h1 h2 => ?_
    have e := W13_out m c
    rw [W13_eq] at e
    refine (congrFun e x).trans ?_
    unfold gath
    rw [cnt_at hb]
    exact countRow_512 _ h1 h2)

theorem v49_at (hb : Balanced m) (c : Dev nD) : V16 m (outs0 m) c main_v49 = fun _ => 512#32 :=
  (at_v49 (V15 m (outs0 m) c)).trans (by
    rw [V15_of m (outs0 m) c main_v44 (by decide), v44_at hb c, v48_at]
    exact funext (takeRow4_512 c))

theorem v55_at (hb : Balanced m) (c : Dev nD) : V19 m (outs0 m) c main_v55 = fun _ => 512#32 :=
  (at_v55 (V18 m (outs0 m) c)).trans (by
    rw [V18_of m (outs0 m) c main_v49 (by decide), V17_of m (outs0 m) c main_v49 (by decide), v49_at hb c, v42_18]
    exact funext (takeCol4_512 c))

theorem v60_at (hb : Balanced m) (c : Dev nD) : V21 m (outs0 m) c main_v60 = fun _ => 8#32 :=
  (at_v60 (V20 m (outs0 m) c)).trans (by
    rw [show V20 m (outs0 m) c main_v59 = _ from at_v59 (V19 m (outs0 m) c), show V20 m (outs0 m) c main_c_19 = _ from at_c19 (V19 m (outs0 m) c), v55_at hb c]
    exact funext blocks_512)

theorem v61_at (hb : Balanced m) (c : Dev nD) : V23 m (outs0 m) c main_v61 = sum4 fun _ => 8#32 :=
  (V23_of m (outs0 m) c main_v61 (by decide)).trans <| (at_v61 (V21 m (outs0 m) c)).trans (by rw [v60_at hb c]; rfl)

theorem v62_at (hb : Balanced m) (c : Dev nD) : V23 m (outs0 m) c main_v62 = takeOne4 (fun _ => 8#32) (rank c) :=
  (at_v62 (V22 m (outs0 m) c)).trans (by rw [V22_of m (outs0 m) c main_v60 (by decide), v60_at hb c, v42_22]; rfl)

theorem v54_23 (hb : Balanced m) (c : Dev nD) : V23 m (outs0 m) c main_v54 = fun _ => 8#32 :=
  (V23_of m (outs0 m) c main_v54 (by decide)).trans <| (V22_of m (outs0 m) c main_v54 (by decide)).trans <| (V21_of m (outs0 m) c main_v54 (by decide)).trans <| (V20_of m (outs0 m) c main_v54 (by decide)).trans <| (V19_of m (outs0 m) c main_v54 (by decide)).trans <| v54_at (outs0 m) hb c

/-- The words of the second exchange. -/
theorem scal_at (hb : Balanced m) (c : Dev nD) : W24 m c main_v65 = scalV := by
  rw [W24_eq]
  refine (at_v65 (V23 m (outs0 m) c)).trans ?_
  rw [v54_23 hb c, v61_at hb c, v62_at hb c]
  exact funext (five_8 c)

end Cert.KernelIdeal.Pf

end
-- ==== Proof.KernelIdeal.Deal.lean ====
/-
The launch: the cells' invariants, the tokens dealt to the devices that pay them, and the credit each device starts with.
-/
module

public import proofs.«01_k».proof.Proof.KernelIdeal.Regions

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (cellOf ownSems0 scopedRest)
open Idealize.ShloMosaic.TalkSites (Pay tallyL credOf)

variable {F : FTy → Type} [FloatOps F]

local notation "𝕄" => MT nD τ sig ℕ (Elt F) ℕ UU ℕ

variable (m : (ℓ : Loc nD τ sig) → Buf (Elt F) ℓ)

/-! ## The cells -/

def cellEmb : Dev nD × Fin 7 ↪ GSem nD τ sig := ⟨fun p => cell p.1 (csem p.2), fun p q h =>
  Prod.ext (congrArg (fun g : GSem nD τ sig => g.1.1) h) (csem_injective (congrArg Prod.snd h))⟩
def barIx : Finset (Dev nD × Fin 7) := Finset.univ ×ˢ {0, 1}
def dmaIx : Finset (Dev nD × Fin 7) := Finset.univ ×ˢ {2, 3, 4, 5, 6}
/-- The entry cells, live from the launch, and the cells of the transfers, opened by their exchange. -/
def liveCells : Finset (GSem nD τ sig) := barIx.map cellEmb
def dmaCells : Finset (GSem nD τ sig) := dmaIx.map cellEmb

theorem ix_disjoint : Disjoint barIx dmaIx := by decide
theorem ix_union : barIx ∪ dmaIx = Finset.univ := by decide
theorem cells_disjoint : Disjoint liveCells dmaCells := (Finset.disjoint_map cellEmb).mpr ix_disjoint
theorem cells_union : liveCells ∪ dmaCells = Finset.univ.map cellEmb := by
  unfold liveCells dmaCells; rw [← Finset.map_union, ix_union]

/-- Every duty of every cell. -/
def allToks : Finset (GSem nD τ sig × ℕ × (Dev nD × ℕ)) :=
  (Finset.univ : Finset (Dev nD × Fin 7)).biUnion fun p => (dut p.1 (csem p.2)).map ⟨fun d => (cellEmb p, 0, d), fun _ _ h => congrArg (fun x : GSem nD τ sig × ℕ × (Dev nD × ℕ) => x.2.2) h⟩

theorem toks_split (Φ : GSem nD τ sig × ℕ × (Dev nD × ℕ) → sProp 𝕄) :
    bigSep allToks Φ = bigSep Finset.univ fun p : Dev nD × Fin 7 => bigSep (dut p.1 (csem p.2)) fun d => Φ (cell p.1 (csem p.2), 0, d) := by
  unfold allToks
  rw [bigSep_biUnion_eq]
  · exact bigSep_congr fun p _ => bigSep_map _
  · intro p _ q _ hpq
    refine Finset.disjoint_left.mpr fun x h1 h2 => hpq ?_
    obtain ⟨d, -, rfl⟩ := Finset.mem_map.mp h1
    obtain ⟨e, -, h⟩ := Finset.mem_map.mp h2
    exact cellEmb.injective (congrArg Prod.fst h).symm

theorem seven (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [(0 : Fin 7), 1, 2, 3, 4, 5, 6] (by decide) (by decide) Φ

/-- The tokens of a cell that its peers pay, as the peers hold them. -/
theorem deal (sm : SemLoc sig) (t : Finset ℕ) :
    (bigSep Finset.univ fun c : Dev nD => bigSep (peers c ×ˢ t) fun d => (dutyTok ER (cell c sm) 0 d : sProp 𝕄))
      = bigSep Finset.univ fun c : Dev nD => bigSep (peers c ×ˢ t) fun p => dutyTok ER (cell p.1 sm) 0 (c, p.2) := by
  simp only [sep_product]
  exact bigSep_erase_comm fun c s => bigSep t fun k => dutyTok ER (cell c sm) 0 (s, k)

theorem peers_unit (c : Dev nD) (Φ : Dev nD × ℕ → sProp 𝕄) : bigSep (peers c ×ˢ {0}) Φ = bigSep (peers c) fun s => Φ (s, 0) := by
  rw [sep_product]; exact bigSep_congr fun s _ => bigSep_singleton

/-- The tokens a device is dealt. -/
def hand (c : Dev nD) : sProp 𝕄 :=
  iprop(bigSep (peers c) (fun s => dutyTok ER (cell s mB0) 0 (c, 0)) ∗ bigSep (peers c) (fun s => dutyTok ER (cell s mB1) 0 (c, 0))
    ∗ bigSep (peers c) (fun r => dutyTok ER (cell c mS0) 0 (r, 0)) ∗ bigSep (peers c) (fun r => dutyTok ER (cell r mR0) 0 (c, 0))
    ∗ bigSep (bA c) (sTok c) ∗ bigSep (bA c) (rTok c) ∗ bigSep (bB c) (lTok c))

theorem deal_all : bigSep allToks (fun x => (dutyTok ER x.1 x.2.1 x.2.2 : sProp 𝕄)) = bigSep Finset.univ fun c : Dev nD => hand c := by
  rw [toks_split, bigSep_univ_prod]
  simp only [seven]
  show (bigSep Finset.univ fun c : Dev nD => iprop(bigSep (dut c mB0) (fun d => dutyTok ER (cell c mB0) 0 d) ∗ bigSep (dut c mB1) (fun d => dutyTok ER (cell c mB1) 0 d)
    ∗ bigSep (dut c mS0) (fun d => dutyTok ER (cell c mS0) 0 d) ∗ bigSep (dut c mR0) (fun d => dutyTok ER (cell c mR0) 0 d)
    ∗ bigSep (dut c mS1) (fun d => dutyTok ER (cell c mS1) 0 d) ∗ bigSep (dut c mR1) (fun d => dutyTok ER (cell c mR1) 0 d) ∗ bigSep (dut c mL1) (fun d => dutyTok ER (cell c mL1) 0 d)) : sProp 𝕄) = _
  simp only [dut_B0, dut_B1, dut_S0, dut_R0, dut_S1, dut_R1, dut_L1]
  unfold hand sTok rTok lTok bA bB
  simp only [sep_sep, deal mB0, deal mB1, deal mR0, deal mR1]
  simp only [peers_unit]

/-! ## The credit -/

theorem due_tc (c : Dev nD) : ∀ x ∈ due0 c, x.1.1.2 = .tc := by
  revert c; decide +kernel

def credL (c : Dev nD) : List (Pay nD τ sig) :=
  List.replicate 3 (owe c mB0) ++ (List.replicate 3 (owe c mR0) ++ (List.replicate 3 (owe c mB1) ++ List.replicate 24 (owe c mR1)))

theorem creds_list (c : Dev nD) (sm : SemLoc sig) (n : ℕ) : (cred (tallyL (List.replicate n (owe c sm))) : sProp 𝕄) ⊢ creds c sm n := by
  rw [TalkSites.cred_tallyL]
  induction n with
  | zero => exact Entails.refl _
  | succ n ih =>
    rw [List.replicate_succ, bigSepL_cons]
    exact sep_mono_right ih

theorem tallyL_perm {l l' : List (Pay nD τ sig)} (h : l.Perm l') : tallyL l = tallyL l' := by
  induction h with
  | nil => rfl
  | cons x _ ih => exact congrArg (x.tally + ·) ih
  | swap x y l => exact add_left_comm _ _ _
  | trans _ _ h1 h2 => exact h1.trans h2

theorem cred_perm (c : Dev nD) : (credOf due0 c).Perm (credL c) := by
  revert c; decide +kernel

theorem units_bar (c : Dev nD) (sm : SemLoc sig) (h : units sm = 1) : tallyL (List.replicate 3 (owe c sm)) = tallyAt (cell c sm) 0 3 := by
  show tallyAt (cell c sm) 0 (units sm) + (tallyAt (cell c sm) 0 (units sm) + (tallyAt (cell c sm) 0 (units sm) + 0)) = _
  rw [h, add_zero, tallyAt_add, tallyAt_add]

theorem cred_plus (a b : CellTallies nD τ sig ℕ) : (cred (a + b) : sProp 𝕄) = iprop(cred a ∗ cred b) := BI.Entails.antisymm (cred_add _ _).1 (cred_add _ _).2

theorem credit (c : Dev nD) : (Pipeline.launchCred (fun d => tallyL (due0 d)) c : sProp 𝕄)
    ⊢ iprop(cred (tallyAt (cell c mB0) 0 3) ∗ creds c mR0 3 ∗ cred (tallyAt (cell c mB1) 0 3) ∗ creds c mR1 24) := by
  rw [TalkSites.launchCred_tallyL due0 due_tc c, tallyL_perm (cred_perm c)]
  unfold credL
  rw [TalkSites.tallyL_append, TalkSites.tallyL_append, TalkSites.tallyL_append, cred_plus, cred_plus, cred_plus,
    units_bar c mB0 (by decide), units_bar c mB1 (by decide)]
  exact sep_mono_right ((sep_mono_left (creds_list c mR0 3)).trans (sep_mono_right (sep_mono_right (creds_list c mR1 24))))

/-! ## The launch -/

def u₀ : UU := (initOf (Pipeline.cells cfgs cellOf_inj) (Pipeline.launchToks cfgs cellOf_inj), launchOf liveCells dmaCells allToks)

/-- The cells' launch element, kept on device 0 until every device's holdings are at hand. -/
def start (c : Dev nD) : sProp 𝕄 := if c = 0 then BI.own (ER (launchOf liveCells dmaCells allToks)) else iprop(emp)

theorem start_all : bigSep Finset.univ (start (F := F)) = BI.own (ER (launchOf liveCells dmaCells allToks)) := by
  rw [bigSep_univ_at _ (0 : Dev nD), bigSep_congr (s := Finset.univ.erase (0 : Dev nD)) (Ψ := fun _ => (BI.emp : sProp 𝕄))
    fun c hc => by unfold start; rw [if_neg (Finset.ne_of_mem_erase hc)]; rfl, BI.bigSep_emp_const]
  unfold start; rw [if_pos rfl]
  exact BI.equiv_iff.mp sep_emp

theorem semsU (c : Dev nD) : (unscopedSems0 c : sProp 𝕄) = iprop(semVal (cell c mB0) 0 ∗ semVal (cell c mB1) 0) := by
  unfold unscopedSems0
  rw [show (Finset.univ.filter fun sm : SemLoc sig => ¬ sm.isScoped .tc) = {mB0, mB1} from by decide, bigSep_insert (by decide), bigSep_singleton]
  rfl

theorem live_sep (Φ : GSem nD τ sig → sProp 𝕄) : bigSep liveCells Φ = bigSep Finset.univ fun c : Dev nD => iprop(Φ (cell c mB0) ∗ Φ (cell c mB1)) := by
  unfold liveCells barIx
  rw [bigSep_map, sep_product]
  exact bigSep_congr fun c _ => by rw [bigSep_insert (by decide), bigSep_singleton]; rfl
theorem dma_sep (Φ : GSem nD τ sig → sProp 𝕄) : bigSep dmaCells Φ = bigSep Finset.univ fun c : Dev nD =>
    iprop(Φ (cell c mS0) ∗ Φ (cell c mR0) ∗ Φ (cell c mS1) ∗ Φ (cell c mR1) ∗ Φ (cell c mL1)) := by
  unfold dmaCells dmaIx
  rw [bigSep_map, sep_product]
  exact bigSep_congr fun c _ => by
    rw [bigSep_insert (by decide), bigSep_insert (by decide), bigSep_insert (by decide), bigSep_insert (by decide), bigSep_singleton]; rfl

/-- That the entry cells have begun. -/
def begun : sProp 𝕄 := bigSep liveCells fun g => reached ER g 0
instance : BI.Persistent (begun (F := F)) := by unfold begun; infer_instance

theorem begun_at (c : Dev nD) (j : Fin 7) (h : (c, j) ∈ barIx) : begun (F := F) ⊢ reached ER (cell c (csem j)) 0 :=
  bigSep_elim (Finset.mem_map_of_mem cellEmb h)

theorem bar_tokens (c : Dev nD) (j : Fin 7) (h : ∀ s, (s, j) ∈ barIx) :
    iprop(begun (F := F) ∗ bigSep (peers c) (fun s => dutyTok ER (cell s (csem j)) 0 (c, 0))) ⊢ bigSep (peers c) (barTok (csem j) c) :=
  bigSep_with_persistent fun s _ => by
    unfold barTok
    iintro ⟨#Hb, H⟩
    isplitl [H]; · iexact H
    iapply (begun_at s j (h s)); iexact Hb

/-- What a device holds before its first instruction, beside its buffers. -/
theorem E0_intro (c : Dev nD) :
    iprop((invs m ∗ begun (F := F)) ∗ (hand c ∗ (atPos ER (cell c mB0) 0 ∅ 0 ∗ atPos ER (cell c mB1) 0 ∅ 0)
      ∗ (openTok ER (cell c mS0) ∗ openTok ER (cell c mR0) ∗ openTok ER (cell c mS1) ∗ openTok ER (cell c mR1) ∗ openTok ER (cell c mL1))
      ∗ Pipeline.launchCred (fun d => tallyL (due0 d)) c ∗ owes (c : Thread nD τ) (tallyL (due0 c)) ∅)) ⊢ E0 m c := by
  unfold hand E0 keep0 keep1 shut0 shut1 owesL
  iintro ⟨⟨#HI, #HB⟩, ⟨Ht0, Ht1, HtS, HtR, Hs, Hr, Hl⟩, ⟨Hp0, Hp1⟩, ⟨Ho0, Ho1, Ho2, Ho3, Ho4⟩, Hc, How⟩
  ihave Hc' := (credit (F := F) c) $$ Hc
  icases Hc' with ⟨Hc0, Hc1, Hc2, Hc3⟩
  isplitr [How]
  · isplitr; · iexact HI
    isplitl [Ht0 HtS HtR Hp0 Hc0 Hc1]
    · isplitl [Ht0 Hp0 Hc0]
      · isplitl [Ht0]
        · iapply (bar_tokens (F := F) c 0 (by decide))
          isplitr; · iexact HB
          iexact Ht0
        isplitl [Hc0]; · iexact Hc0
        iexact Hp0
      isplitl [HtS]; · iexact HtS
      isplitl [HtR]; · iexact HtR
      iexact Hc1
    isplitl [Ho0 Ho1]
    · isplitl [Ho0]; · iexact Ho0
      iexact Ho1
    isplitl [Ht1 Hs Hr Hl Hp1 Hc2 Hc3]
    · isplitl [Ht1 Hp1 Hc2]
      · isplitl [Ht1]
        · iapply (bar_tokens (F := F) c 1 (by decide))
          isplitr; · iexact HB
          iexact Ht1
        isplitl [Hc2]; · iexact Hc2
        iexact Hp1
      isplitl [Hs]; · iexact Hs
      isplitl [Hr]; · iexact Hr
      isplitl [Hl]; · iexact Hl
      iexact Hc3
    isplitl [Ho2]; · iexact Ho2
    isplitl [Ho3]; · iexact Ho3
    iexact Ho4
  · iexists ∅; iexact How

set_option maxHeartbeats 800000 in
/-- Every device's holdings at the launch make its first state. -/
theorem launch_all :
    (bigSep Finset.univ fun c : Dev nD => iprop(unscopedSems0 c ∗ owes (c : Thread nD τ) (tallyL (due0 c)) ∅ ∗ Pipeline.launchCred (fun d => tallyL (due0 d)) c ∗ start c))
      ⊢ (|={Set.univ}=> bigSep Finset.univ (E0 m) : sProp 𝕄) := by
  simp only [semsU]
  iintro H
  ihave H1 := (Entails.of_eq (sep_sep Finset.univ (fun c : Dev nD => iprop(semVal (cell c mB0) 0 ∗ semVal (cell c mB1) 0)) _)) $$ H
  icases H1 with ⟨Hv, H⟩
  ihave H1 := (Entails.of_eq (sep_sep Finset.univ (fun c : Dev nD => owes (c : Thread nD τ) (tallyL (due0 c)) ∅) _)) $$ H
  icases H1 with ⟨How, H⟩
  ihave H1 := (Entails.of_eq (sep_sep Finset.univ (fun c : Dev nD => Pipeline.launchCred (fun d => tallyL (due0 d)) c) _)) $$ H
  icases H1 with ⟨Hc, Hs⟩
  ihave Hu := (Entails.of_eq (start_all (F := F))) $$ Hs
  ihave Hv' := (Entails.of_eq (live_sep (F := F) fun g => semVal g 0).symm) $$ Hv
  imod (Rounds.fund_launch ER (Rd (cntOf m) (xsOf m)) cells_disjoint (fun g _ h => h) allToks) $$ [Hv' Hu] with ⟨%κ, -, #Hinv, #Hr, Hat, Hopen, Htok⟩
  · isplitl [Hv']; · iexact Hv'
    iexact Hu
  imodintro
  ihave Hat' := (Entails.of_eq (live_sep (F := F) fun g => atPos ER g 0 ∅ 0)) $$ Hat
  ihave Ho' := (Entails.of_eq (dma_sep (F := F) fun g => openTok ER g)) $$ Hopen
  ihave Ht' := (Entails.of_eq (deal_all (F := F))) $$ Htok
  iapply (bigSep_with_persistent (R := iprop(invs m ∗ begun (F := F))) (S := Finset.univ) fun c _ => E0_intro m c)
  isplitr
  · isplitr
    · unfold invs
      iexists κ
      unfold invAll
      iapply (Entails.of_eq (bigSep_map (s := Finset.univ) cellEmb (Φ := fun g : GSem nD τ sig => cellInv ER (Rd (cntOf m) (xsOf m)) (κ g) g)))
      iapply (Entails.of_eq (congrArg (fun s => bigSep s fun g => cellInv ER (Rd (cntOf m) (xsOf m)) (κ g) g) cells_union))
      iexact Hinv
    unfold begun
    iexact Hr
  simp only [sep_sep]
  isplitl [Ht']; · iexact Ht'
  isplitl [Hat']
  · iexact Hat'
  isplitl [Ho']
  · iexact Ho'
  isplitl [Hc]; · iexact Hc
  iexact How

end Cert.KernelIdeal.Pf

end
-- ==== Proof.KernelIdeal.Launch.lean ====
/-
The run of the whole program: the launch, the host stretches and the two exchanges chained, and what every final state
holds.
-/
module

public import proofs.«01_k».proof.Proof.KernelIdeal.Records
public import proofs.«01_k».proof.Proof.KernelIdeal.Deal
public import Idealize.ShloMosaic.Lib.Quiescent

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat ucRefs)
open Idealize.ShloMosaic.Pipeline.RDat (Seg)
open Idealize.ShloMosaic.TalkSites (Pay tallyL)

variable {F : FTy → Type} [FloatOps F]

local notation "𝕄" => MT nD τ sig ℕ (Elt F) ℕ UU ℕ

variable (m : (ℓ : Loc nD τ sig) → Buf (Elt F) ℓ)

/-- What rides along with the buffers, by the number of exchanges behind. -/
def Es (i : Fin 3) (c : Dev nD) : sProp 𝕄 := if i = 0 then E0 m c else if i = 1 then E1 m c else E2 m c
theorem Es0 (c : Dev nD) : Es m 0 c = E0 m c := rfl
theorem Es1 (c : Dev nD) : Es m 1 c = E1 m c := rfl

/-- The last valuation, where the second exchange left g. -/
@[irreducible] def VF (c : Dev nD) (g : Blocks F) : Valuation τ sig (Elt F) :=
  StableHlo.after hostOps2_4 (StableHlo.after hostOps2_3 (StableHlo.after hostOps2_2 (StableHlo.after hostOps2_1 (StableHlo.after hostOps2 (VR m c g)))))
theorem VF_after (c : Dev nD) (g : Blocks F) : VF m c g =
    StableHlo.after hostOps2_4 (StableHlo.after hostOps2_3 (StableHlo.after hostOps2_2 (StableHlo.after hostOps2_1 (StableHlo.after hostOps2 (VR m c g))))) := by
  unfold VF; rfl
theorem VF_eq (c : Dev nD) (g : Blocks F) : VF m c g = V30 m (outs1 m fun _ => g) c := by
  rw [VF_after, VR_eq]

/-- The five stretches after the second exchange. -/
def tail0 := tail m hostOps2 (fun op h => Pipeline.sub_ucRefs op ((List.forall_iff_forall_mem.mp hostOps2_sub) op h)) (fun op h => (List.forall_iff_forall_mem.mp hostOps2_fresh) op h) (VR m)
def tail1 := tail m hostOps2_1 (fun op h => Pipeline.sub_ucRefs op ((List.forall_iff_forall_mem.mp hostOps2_1_sub) op h)) (fun op h => (List.forall_iff_forall_mem.mp hostOps2_1_fresh) op h) fun c g => StableHlo.after hostOps2 (VR m c g)
def tail2 := tail m hostOps2_2 (fun op h => Pipeline.sub_ucRefs op ((List.forall_iff_forall_mem.mp hostOps2_2_sub) op h)) (fun op h => (List.forall_iff_forall_mem.mp hostOps2_2_fresh) op h) fun c g => StableHlo.after hostOps2_1 (StableHlo.after hostOps2 (VR m c g))
def tail3 := tail m hostOps2_3 (fun op h => Pipeline.sub_ucRefs op ((List.forall_iff_forall_mem.mp hostOps2_3_sub) op h)) (fun op h => (List.forall_iff_forall_mem.mp hostOps2_3_fresh) op h) fun c g => StableHlo.after hostOps2_2 (StableHlo.after hostOps2_1 (StableHlo.after hostOps2 (VR m c g)))
def tail4 := tail m hostOps2_4 (fun op h => Pipeline.sub_ucRefs op ((List.forall_iff_forall_mem.mp hostOps2_4_sub) op h)) (fun op h => (List.forall_iff_forall_mem.mp hostOps2_4_fresh) op h) fun c g => StableHlo.after hostOps2_3 (StableHlo.after hostOps2_2 (StableHlo.after hostOps2_1 (StableHlo.after hostOps2 (VR m c g))))

/-- The program of a device, in order. -/
def parts (hs : ∀ c, W24 m c main_v65 = scalV) (c : Dev nD) : List (Seg (pcfgs (F := F)) adm (rdats m) 0 (defs₀ (F := F)) 𝒱₀ L lv) :=
  [.host (seg0 m 𝒱₀ L lv (Es m)), .host (seg1 m 𝒱₀ L lv (Es m)), .host (seg2 m 𝒱₀ L lv (Es m)), .host (seg3 m 𝒱₀ L lv (Es m)), .host (seg4 m 𝒱₀ L lv (Es m)), .host (seg5 m 𝒱₀ L lv (Es m)), .host (seg6 m 𝒱₀ L lv (Es m)), .host (seg7 m 𝒱₀ L lv (Es m)), .host (seg8 m 𝒱₀ L lv (Es m)), .host (seg9 m 𝒱₀ L lv (Es m)), .host (seg10 m 𝒱₀ L lv (Es m)), .host (seg11 m 𝒱₀ L lv (Es m)), .region (rec0 m), .host (seg13 m (outs0 m) 𝒱₀ L lv (Es m) c), .host (seg14 m (outs0 m) 𝒱₀ L lv (Es m)), .host (seg15 m (outs0 m) 𝒱₀ L lv (Es m)), .host (seg16 m (outs0 m) 𝒱₀ L lv (Es m)), .host (seg17 m (outs0 m) 𝒱₀ L lv (Es m)), .host (seg18 m (outs0 m) 𝒱₀ L lv (Es m)), .host (seg19 m (outs0 m) 𝒱₀ L lv (Es m)), .host (seg20 m (outs0 m) 𝒱₀ L lv (Es m)), .host (seg21 m (outs0 m) 𝒱₀ L lv (Es m)), .host (seg22 m (outs0 m) 𝒱₀ L lv (Es m)), .host (seg23 m (outs0 m) 𝒱₀ L lv (Es m)), .region (rec1 m hs), .host (tail0 m), .host (tail1 m), .host (tail2 m), .host (tail3 m), .host (tail4 m)]

def T₀ (c : Dev nD) : sProp 𝕄 := iprop(StableHlo.held (c : Thread nD τ) (ucRefs τ sig) (V0 m c) ∗ E0 m c)
/-- What a device holds at the end. -/
def Tₙ (c : Dev nD) : sProp 𝕄 :=
  iprop((∃ g, ⌜Good (xsOf m) c g⌝ ∗ StableHlo.held (c : Thread nD τ) (ucRefs τ sig) (VF m c g)) ∗ invs m ∗ atPos ER (cell c mB0) 1 ∅ 0 ∗ atPos ER (cell c mB1) 1 ∅ 0)

theorem enter0 (c : Dev nD) : (iprop(StableHlo.held (c : Thread nD τ) (ucRefs τ sig) (V12 m c) ∗ Es m 0 c) : sProp 𝕄) ⊢ (rec0 m).pre c := by
  rw [Es0, ← W12_eq]
  unfold E0
  exact Entails.refl _

theorem exit0 (c : Dev nD) : (rec0 m).post c ⊢ (iprop(StableHlo.held (c : Thread nD τ) (ucRefs τ sig) (V13 m (outs0 m) c) ∗ Es m 1 c) : sProp 𝕄) := by
  rw [Es1, ← W13_eq]
  unfold E1
  show iprop((∃ V', ⌜V' = W13 m c⌝ ∗ StableHlo.held (c : Thread nD τ) (ucRefs τ sig) V') ∗ (invs m ∗ keep1 c ∗ shut1 c ∗ atPos ER (cell c mB0) 1 ∅ 0) ∗ owesL c (due1 c)) ⊢ _
  iintro ⟨⟨%V', %h, Hh⟩, HR⟩
  subst h
  isplitl [Hh] <;> iassumption

theorem enter1 (hs : ∀ c, W24 m c main_v65 = scalV) (c : Dev nD) :
    (iprop(StableHlo.held (c : Thread nD τ) (ucRefs τ sig) (V24 m (outs0 m) c) ∗ Es m 1 c) : sProp 𝕄) ⊢ (rec1 m hs).pre c := by
  rw [Es1, ← W24_eq]
  unfold E1
  exact Entails.refl _

theorem exit1 (hs : ∀ c, W24 m c main_v65 = scalV) (c : Dev nD) : (rec1 m hs).post c ⊢ (tail0 m).pre c := by
  show iprop((∃ V', ⌜∃ g, Good (xsOf m) c g ∧ V' = VR m c g⌝ ∗ StableHlo.held (c : Thread nD τ) (ucRefs τ sig) V') ∗ (invs m ∗ atPos ER (cell c mB0) 1 ∅ 0 ∗ atPos ER (cell c mB1) 1 ∅ 0) ∗ owesL c [])
    ⊢ iprop((∃ g, ⌜Good (xsOf m) c g⌝ ∗ StableHlo.held (c.tc : Thread nD τ) (ucRefs τ sig) (VR m c g)) ∗ E2 m c)
  unfold E2
  iintro ⟨⟨%V', %h, Hh⟩, HR⟩
  obtain ⟨g, hg, rfl⟩ := h
  isplitl [Hh]
  · iexists g; isplitr; · ipureintro; exact hg
    iexact Hh
  iexact HR

theorem exit_all (c : Dev nD) : (tail4 m).post c ⊢ (iprop(Tₙ m c ∗ ∃ W, owes (c : Thread nD τ) (0 : CellTallies nD τ sig ℕ) W) : sProp 𝕄) := by
  unfold Tₙ
  simp only [VF_after]
  show iprop((∃ g, ⌜Good (xsOf m) c g⌝ ∗ StableHlo.held (c.tc : Thread nD τ) (ucRefs τ sig)
      (StableHlo.after hostOps2_4 (StableHlo.after hostOps2_3 (StableHlo.after hostOps2_2 (StableHlo.after hostOps2_1 (StableHlo.after hostOps2 (VR m c g))))))) ∗ E2 m c) ⊢ _
  unfold E2 owesL
  iintro ⟨Hh, ⟨HI, H0, H1⟩, HO⟩
  isplitr [HO]
  · isplitl [Hh]; · iexact Hh
    isplitl [HI]; · iexact HI
    isplitl [H0] <;> iassumption
  iexact HO

theorem init (ρ : Dev nD → PrngReg) :
    iprop((bigSep Finset.univ fun c : Dev nD => iprop(unscopedBufs c (fun b => m ((c.tc : Thread nD τ).loc b)) ∗ unscopedSems0 c
        ∗ owes (c.tc : Thread nD τ) (tallyL (due0 c)) ∅ ∗ Pipeline.launchCred (fun d => tallyL (due0 d)) c ∗ prngReg c (ρ c) ∗ start c)) ∗ levAts L lv)
      ⊢ (|={Set.univ}=> bigSep Finset.univ (T₀ m) : sProp 𝕄) := by
  have hsplit : (bigSep Finset.univ fun c : Dev nD => iprop(unscopedBufs c (fun b => m ((c.tc : Thread nD τ).loc b)) ∗ unscopedSems0 c
        ∗ owes (c.tc : Thread nD τ) (tallyL (due0 c)) ∅ ∗ Pipeline.launchCred (fun d => tallyL (due0 d)) c ∗ prngReg c (ρ c) ∗ start c))
      ⊢ (iprop((bigSep Finset.univ fun c : Dev nD => StableHlo.held (c : Thread nD τ) (ucRefs τ sig) (V0 m c))
          ∗ bigSep Finset.univ fun c : Dev nD => iprop(unscopedSems0 c ∗ owes (c : Thread nD τ) (tallyL (due0 c)) ∅ ∗ Pipeline.launchCred (fun d => tallyL (due0 d)) c ∗ start c)) : sProp 𝕄) := by
    rw [← bigSep_sep']
    refine bigSep_mono fun c _ => ?_
    rw [← Pipeline.unscopedBufs_held (Ix := ℕ) (Name := ℕ) (U := UU) (Lvl := ℕ) c (V0 m c)]
    show iprop(unscopedBufs c (fun b => m ((c.tc : Thread nD τ).loc b)) ∗ unscopedSems0 c
        ∗ owes (c.tc : Thread nD τ) (tallyL (due0 c)) ∅ ∗ Pipeline.launchCred (fun d => tallyL (due0 d)) c ∗ prngReg c (ρ c) ∗ start c)
      ⊢ iprop(unscopedBufs c (fun b => m ((c.tc : Thread nD τ).loc b)) ∗ unscopedSems0 c
        ∗ owes (c.tc : Thread nD τ) (tallyL (due0 c)) ∅ ∗ Pipeline.launchCred (fun d => tallyL (due0 d)) c ∗ start c)
    iintro ⟨Hb, Hs, Ho, Hc, -, Hst⟩
    isplitl [Hb]; · iexact Hb
    isplitl [Hs]; · iexact Hs
    isplitl [Ho]; · iexact Ho
    isplitl [Hc] <;> iassumption
  iintro ⟨H, -⟩
  ihave H' := hsplit $$ H
  icases H' with ⟨Hh, Hr⟩
  imod (launch_all m) $$ Hr with HE
  imodintro
  unfold T₀
  rw [bigSep_sep']
  isplitl [Hh]; · iexact Hh
  iexact HE

/-- What a device's final memory holds. -/
def QY (c : Dev nD) (s : MemSt nD τ sig (Elt F)) : Prop :=
  (∃ g, Good (xsOf m) c g ∧ ∀ b ∈ ucRefs τ sig, s.mem ((c : Thread nD τ).1, b) = VF m c g b) ∧ s.sem (cell c mB0) = 0 ∧ s.sem (cell c mB1) = 0

theorem finish (c : Dev nD) (s' : Phys nD τ sig (Elt F)) : iprop(Tₙ m c ∗ SI s') ⊢ (|={Set.univ}=> iprop(⌜QY m c s'.mem⌝ ∗ SI s') : sProp 𝕄) := by
  unfold Tₙ invs StableHlo.held
  iintro ⟨⟨⟨%g, %hg, Hh⟩, ⟨%K, #HI⟩, H0, H1⟩, HSI⟩
  imod (close_cell m K c 0) $$ [H0] with H0
  · isplitr; · iexact HI
    iexact H0
  imod (close_cell m K c 1) $$ [H1] with H1
  · isplitr; · iexact HI
    iexact H1
  ihave Hr := (pointsTo_read_all (ucRefs τ sig) (fun b => ((c : Thread nD τ).1, b)) (VF m c g) s') $$ [Hh HSI]
  · isplitl [Hh] <;> iassumption
  icases Hr with ⟨%h, HSI⟩
  icombine HSI H0 gives %h0
  icombine HSI H1 gives %h1
  imodintro
  isplitr
  · ipureintro
    exact ⟨⟨g, hg, h⟩, by simpa using h0, by simpa using h1⟩
  iexact HSI

theorem unscoped_two : ∀ sm : SemLoc sig, sm.isScoped .tc = false → sm = mB0 ∨ sm = mB1 := by decide

set_option backward.isDefEq.respectTransparency.types false in
/-- From any memory whose host operations compute the table of counts of eight, every run ends, with each device's buffers at
    their last valuation for some arrival of the blocks, and every counter at zero. -/
theorem run (hs : ∀ c, W24 m c main_v65 = scalV) (ρ : Dev nD → PrngReg) :
    θ_run defs (onTc (τ := τ) (main (F := F))) ⟨m, fun _ => 0, ρ⟩ (fun r =>
      (∀ c : Dev nD, ∃ g, Good (xsOf m) c g ∧ ∀ b ∈ ucRefs τ sig, r.2.mem ((c : Thread nD τ).1, b) = VF m c g b) ∧ r.2.sem = fun _ => 0) :=
  Pipeline.RDat.θ_run_regions_kit_dev_sems (pcfgs (F := F)) adm (rdats m) 0 cellOf_inj EP defs₀ 𝒱₀ L lv m ρ main (parts m hs)
    (fun c Q => by
      rewrite [main_chain c, Seg.run_eq_chain,
        show (parts m hs c).map Seg.prog = [StableHlo.seq hostOps0, StableHlo.seq hostOps0_1, StableHlo.seq hostOps0_2, StableHlo.seq hostOps0_3, StableHlo.seq hostOps0_4, StableHlo.seq hostOps0_5, StableHlo.seq hostOps0_6, StableHlo.seq hostOps0_7, StableHlo.seq hostOps0_8, StableHlo.seq hostOps0_9, StableHlo.seq hostOps0_10, StableHlo.seq hostOps0_11, Prog.lift (.customCall (Pipeline.entry 0) ()), StableHlo.seq (hostOps1 c), StableHlo.seq hostOps1_1, StableHlo.seq hostOps1_2, StableHlo.seq hostOps1_3, StableHlo.seq hostOps1_4, StableHlo.seq hostOps1_5, StableHlo.seq hostOps1_6, StableHlo.seq hostOps1_7, StableHlo.seq hostOps1_8, StableHlo.seq hostOps1_9, StableHlo.seq hostOps1_10, Prog.lift (.customCall (Pipeline.entry 1) ()), StableHlo.seq hostOps2, StableHlo.seq hostOps2_1, StableHlo.seq hostOps2_2, StableHlo.seq hostOps2_3, StableHlo.seq hostOps2_4] from rfl]
      dsimp (config := { failIfUnchanged := false }) only
      exact .rfl)
    (fun c => by simp only [parts, Seg.pipes_host, Seg.pipes_region, Seg.pipes_nil]; decide)
    (O₀ := fun c => tallyL (due0 c)) (hL := L_of_ne) (G := start) (u₀ := u₀)
    (hu₀ := by
      unfold u₀
      iintro Hu
      ihave H := (ownU_pair _ _) $$ Hu
      icases H with ⟨HP, HX⟩
      imodintro
      isplitl [HP]; · iexact HP
      rw [start_all]; iexact HX)
    (T₀ := T₀ m) (Tₙ := Tₙ m)
    (hch := fun c => ⟨.rfl, .rfl, .rfl, .rfl, .rfl, .rfl, .rfl, .rfl, .rfl, .rfl, .rfl, .rfl, enter0 m c, exit0 m c, .rfl, .rfl, .rfl, .rfl, .rfl, .rfl, .rfl, .rfl, .rfl, .rfl, enter1 m hs c, exit1 m hs c, .rfl, .rfl, .rfl, .rfl, exit_all m c⟩)
    (hinit := init m ρ)
    (QY := QY m)
    (hfin := finish m)
    (hQ := fun s h hz => ⟨fun c => (h c).1, sem_eq_zero hz fun c sm hsm => by
      rcases unscoped_two sm hsm with rfl | rfl
      · exact (h c).2.1
      · exact (h c).2.2⟩)

end Cert.KernelIdeal.Pf

end
-- ==== Proof.KernelIdeal.Frame.lean ====
/-
The run of the kernel from balanced memories: it ends with the arguments as launched and every
counter at zero.
-/
module

public import proofs.«01_k».proof.Proof.KernelIdeal.Host2
public import proofs.«01_k».proof.Proof.KernelIdeal.Launch
public import proofs.«01_k».proof.Pre_balanced_Kernel
public import Idealize.ShloMosaic.Lib.ReduceAll
public import Idealize.ShloMosaic.Lib.Affine

@[expose] public section

noncomputable section

namespace Cert.KernelIdeal.Pf

open Cert.KernelIdeal Cert.KernelIdeal.Gen
open Idealize.ShloMosaic Idealize.ShloMosaic.Pipeline
open Idealize.ShloMosaic.TcCoe

variable {F : FTy → Type} [FloatOps F]
variable (m : (ℓ : Loc nD τ sig) → Buf (Elt F) ℓ)

theorem mem_uc (b : Ref sig .tc) (h : b.isScoped = false) : (Proc.tc.devRef b : DevRef τ sig) ∈ ucRefs τ sig := Finset.mem_filter.mpr ⟨StableHlo.devRef_mem_tcRefs b, by simpa using h⟩

/-- What the printed precondition says. -/
theorem balanced_of [Cert.Pre_balanced_Kernel.Facts] (h : ∀ c : Dev nD, Cert.Pre_balanced_Kernel.fn (F := F) (m ((c.tc : Thread nD τ).loc main_arg0)) (m ((c.tc : Thread nD τ).loc main_arg1)) = fun _ => 1#1) :
    Balanced m := by
  intro c
  funext i
  have e := congrFun (h c) (fun a => a.elim0)
  unfold Cert.Pre_balanced_Kernel.fn at e
  have e2 := Host.reduce_andi_eq_one _ _ _ _ _ e i (funext fun a => a.elim0)
  exact IntOp.cmpi_eq.1 e2

theorem run_frame (hb : Balanced m) (ρ : Dev nD → PrngReg) :
    θ_run defs (onTc (τ := τ) (main (F := F))) ⟨m, fun _ => 0, ρ⟩ (fun r => (∀ c : Dev nD,
      (∃ g, Good (xsOf m) c g ∧ r.2.mem ((c.tc : Thread nD τ).loc main_v93) = VF m c g main_v93)
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) := by
  refine (θ_run defs _ _).mono (fun r hr => ⟨fun c => ?_, hr.2⟩) (run m (fun c => scal_at hb c) ρ)
  obtain ⟨g, hg, hb⟩ := hr.1 c
  refine ⟨⟨g, hg, hb _ (mem_uc main_v93 rfl)⟩, ?_, ?_⟩
  · refine (hb _ (mem_uc main_arg0 rfl)).trans ?_
    rw [VF_eq]
    exact V30_main_arg0 m _ c
  · refine (hb _ (mem_uc main_arg1 rfl)).trans ?_
    rw [VF_eq]
    exact V30_main_arg1 m _ c

end Cert.KernelIdeal.Pf

end
-- ==== Proof.Order.lean ====
/-
The order in which a stable sort by integer keys leaves the positions, and what follows for keys
that take each of four values equally often on each of four parts.
-/
module

public import Idealize.ShloMosaic.Lib.SortFacts
public import Idealize.ShloMosaic.Lib.StableHlo.Predicate

@[expose] public section

noncomputable section

namespace Cert.Order

open Idealize.ShloMosaic

variable {n : ℕ}

/-- First by the key, then by the position. -/
def Bef (key : Fin n → ℤ) (a b : Fin n) : Prop := key a < key b ∨ key a = key b ∧ a < b

/-- The position whose element the stable sort by the keys puts at a place. -/
def srt (key : Fin n → ℤ) : Fin n → Fin n := sortedFrom fun a b => decide (key a < key b)

theorem insert_bef (key : Fin n → ℤ) (a : Fin n) (l : List (Fin n)) (hl : l.Pairwise (Bef key)) (ha : ∀ b ∈ l, a < b) :
    (insertBefore (fun a b => decide (key a < key b)) a l).Pairwise (Bef key) := by
  induction l with
  | nil => exact List.pairwise_singleton _ _
  | cons b l ih =>
    rw [List.pairwise_cons] at hl
    unfold insertBefore
    split
    · rename_i hb
      rw [List.pairwise_cons]
      refine ⟨fun c hc => ?_, ih hl.2 fun c hc => ha c (List.mem_cons_of_mem b hc)⟩
      rcases List.mem_cons.1 ((perm_insertBefore _ a l).mem_iff.1 hc) with rfl | h
      · exact Or.inl (by simpa using hb)
      · exact hl.1 c h
    · rename_i hb
      have hab : key a ≤ key b := by simpa using hb
      have lab : a < b := ha b List.mem_cons_self
      rw [List.pairwise_cons]
      refine ⟨fun c hc => ?_, List.pairwise_cons.2 hl⟩
      have lac : a < c := ha c hc
      have hac : key a ≤ key c := by
        rcases List.mem_cons.1 hc with rfl | h
        · exact hab
        · rcases hl.1 c h with h | h
          · omega
          · omega
      rcases lt_or_eq_of_le hac with h | h
      · exact Or.inl h
      · exact Or.inr ⟨h, lac⟩

theorem stable_bef (key : Fin n → ℤ) (l : List (Fin n)) (hl : l.Pairwise (· < ·)) :
    (stableSort (fun a b => decide (key a < key b)) l).Pairwise (Bef key) := by
  induction l with
  | nil => exact List.Pairwise.nil
  | cons a l ih =>
    rw [List.pairwise_cons] at hl
    unfold stableSort
    exact insert_bef key a _ (ih hl.2) fun b hb => hl.1 b ((perm_stableSort _ l).mem_iff.1 hb)

theorem srt_bef (key : Fin n → ℤ) {i j : Fin n} (hij : i < j) : Bef key (srt key i) (srt key j) := by
  have hp := List.pairwise_iff_get.mp (stable_bef key (List.finRange n) (List.pairwise_lt_finRange n))
  unfold srt sortedFrom
  exact hp _ _ (show i.val < j.val from hij)

/-- Key and position in one number. -/
def pair (key : Fin n → ℤ) (a : Fin n) : ℤ := key a * n + a.val

theorem pair_lt {key : Fin n → ℤ} {a b : Fin n} (h : Bef key a b) : pair key a < pair key b := by
  unfold pair
  have ha : (a.val : ℤ) < n := by exact_mod_cast a.isLt
  rcases h with h | ⟨h, h'⟩
  · have h1 : (key a + 1) * (n : ℤ) ≤ key b * n := Int.mul_le_mul_of_nonneg_right (by omega) (by omega)
    rw [add_mul, one_mul] at h1
    omega
  · have : (a.val : ℤ) < b.val := by exact_mod_cast h'
    rw [h]
    omega

theorem bef_total (key : Fin n → ℤ) (a b : Fin n) : a = b ∨ Bef key a b ∨ Bef key b a := by
  unfold Bef
  by_cases h : a = b
  · exact Or.inl h
  · rcases lt_trichotomy (key a) (key b) with k | k | k
    · exact Or.inr (Or.inl (Or.inl k))
    · rcases lt_or_gt_of_ne h with l | l
      · exact Or.inr (Or.inl (Or.inr ⟨k, l⟩))
      · exact Or.inr (Or.inr (Or.inr ⟨k.symm, l⟩))
    · exact Or.inr (Or.inr (Or.inl k))

theorem pair_inj {key : Fin n → ℤ} {a b : Fin n} (h : pair key a = pair key b) : a = b := by
  rcases bef_total key a b with e | e | e
  · exact e
  · exact absurd h (ne_of_lt (pair_lt e))
  · exact absurd h.symm (ne_of_lt (pair_lt e))

/-- Only the stable sort leaves the positions in that order. -/
theorem srt_unique (key : Fin n → ℤ) (σ : Fin n → Fin n) (h : ∀ i j, i < j → Bef key (σ i) (σ j)) : σ = srt key := by
  have hs : StrictMono fun i => pair key (σ i) := fun i j hij => pair_lt (h i j hij)
  have ht : StrictMono fun i => pair key (srt key i) := fun i j hij => pair_lt (srt_bef key hij)
  have hσ : Function.Surjective σ := Finite.surjective_of_injective fun i j e => hs.injective (congrArg (pair key) e)
  have hr : Set.range (fun i => pair key (σ i)) = Set.range fun i => pair key (srt key i) := by
    ext x
    constructor
    · rintro ⟨i, rfl⟩
      obtain ⟨j, hj⟩ := sortedFrom_surjective (fun a b => decide (key a < key b)) (σ i)
      exact ⟨j, congrArg (pair key) hj⟩
    · rintro ⟨i, rfl⟩
      obtain ⟨j, hj⟩ := hσ (srt key i)
      exact ⟨j, congrArg (pair key) hj⟩
  have := StrictMono.range_inj hs ht |>.1 hr
  funext i
  exact pair_inj (congrFun this i)

/-- A downward closed set of places is an initial segment. -/
theorem initial (D : Finset (Fin n)) (hD : ∀ i j, i ≤ j → j ∈ D → i ∈ D) (j : Fin n) : j ∈ D ↔ j.val < D.card := by
  constructor
  · intro hj
    have : Finset.Iic j ⊆ D := fun i hi => hD i j (Finset.mem_Iic.1 hi) hj
    have := Finset.card_le_card this
    rw [Fin.card_Iic] at this
    omega
  · intro hj
    by_contra hn
    have : D ⊆ Finset.Iio j := fun i hi => Finset.mem_Iio.2 (lt_of_not_ge fun h => hn (hD j i h hi))
    have := Finset.card_le_card this
    rw [Fin.card_Iio] at this
    omega

/-- Each of four keys 512 times. -/
def Even (key : Fin 2048 → ℤ) : Prop := ∀ r : ℕ, r < 4 → (Finset.univ.filter fun i => key i = r).card = 512

theorem card_srt (key : Fin n → ℤ) (p : ℤ → Prop) [DecidablePred p] : (Finset.univ.filter fun j => p (key (srt key j))).card = (Finset.univ.filter fun i => p (key i)).card := by
  have hb : Function.Bijective (srt key) := ⟨sortedFrom_injective _, sortedFrom_surjective _⟩
  refine Finset.card_bijective (srt key) hb fun i => ?_
  simp

theorem srt_mono (key : Fin n → ℤ) {i j : Fin n} (h : i ≤ j) : key (srt key i) ≤ key (srt key j) := by
  rcases lt_or_eq_of_le h with h | rfl
  · rcases srt_bef key h with h | h <;> omega
  · exact le_refl _

theorem card_below {key : Fin 2048 → ℤ} (he : Even key) (r : ℕ) (hr : r ≤ 4) : (Finset.univ.filter fun i => 0 ≤ key i ∧ key i < r).card = 512 * r := by
  induction r with
  | zero =>
    rw [Finset.card_eq_zero, Finset.filter_eq_empty_iff]
    intro i _ h
    have := h.1; have := h.2
    push_cast at *
    omega
  | succ r ih =>
    have e : (Finset.univ.filter fun i => 0 ≤ key i ∧ key i < ((r + 1 : ℕ) : ℤ)) = (Finset.univ.filter fun i => 0 ≤ key i ∧ key i < r) ∪ (Finset.univ.filter fun i => key i = r) := by
      ext i
      simp only [Finset.mem_filter, Finset.mem_univ, true_and, Finset.mem_union]
      push_cast
      omega
    rw [e, Finset.card_union_of_disjoint, ih (by omega), he r (by omega)]
    · omega
    · rw [Finset.disjoint_filter]
      intro i _ h h'
      omega

theorem even_range {key : Fin 2048 → ℤ} (he : Even key) (i : Fin 2048) : 0 ≤ key i ∧ key i < 4 := by
  have h := card_below he 4 le_rfl
  have h2 : (Finset.univ.filter fun i => 0 ≤ key i ∧ key i < ((4 : ℕ) : ℤ)) = Finset.univ := Finset.eq_univ_of_card _ (by rw [h]; simp)
  have h3 := Finset.mem_univ i
  rw [← h2] at h3
  simpa using h3

/-- Sorted, the keys stand in runs of 512. -/
theorem key_srt {key : Fin 2048 → ℤ} (he : Even key) (j : Fin 2048) : key (srt key j) = j.val / 512 := by
  have hb : ∀ r : ℕ, r ≤ 4 → (key (srt key j) < r ↔ j.val < 512 * r) := by
    intro r hr
    have hc := card_srt key fun x => 0 ≤ x ∧ x < r
    rw [card_below he r hr] at hc
    have hi := initial (Finset.univ.filter fun j => 0 ≤ key (srt key j) ∧ key (srt key j) < r) (fun i j hij hj => by
      simp only [Finset.mem_filter, Finset.mem_univ, true_and] at hj ⊢
      exact ⟨(even_range he _).1, lt_of_le_of_lt (srt_mono key hij) hj.2⟩) j
    rw [hc] at hi
    simp only [Finset.mem_filter, Finset.mem_univ, true_and] at hi
    rw [← hi]
    exact ⟨fun h => ⟨(even_range he _).1, h⟩, fun h => h.2⟩
  obtain ⟨h0, h4⟩ := even_range he (srt key j)
  have h1 := hb 1 (by omega)
  have h2 := hb 2 (by omega)
  have h3 := hb 3 (by omega)
  have := j.isLt
  push_cast at h1 h2 h3
  omega

/-- Place i of part s. -/
def at4 (s : Fin 4) (i : Fin 2048) : Fin 8192 := ⟨2048 * s.val + i.val, by omega⟩

/-- Sorting the whole takes, for each key in turn, that key's positions of the four parts one after the other. -/
theorem srt_whole (key : Fin 8192 → ℤ) (he : ∀ s, Even fun i => key (at4 s i)) (c s : Fin 4) (w : Fin 512) :
    srt key (at4 c ⟨512 * s.val + w.val, by omega⟩) = at4 s (srt (fun i => key (at4 s i)) ⟨512 * c.val + w.val, by omega⟩) := by
  have hu := srt_unique key (fun t : Fin 8192 => at4 ⟨t.val % 2048 / 512, by omega⟩ (srt (fun i => key (at4 ⟨t.val % 2048 / 512, by omega⟩ i)) ⟨512 * (t.val / 2048) + t.val % 512, by omega⟩)) ?_
  · rw [← hu]
    have e1 : (at4 c ⟨512 * s.val + w.val, by omega⟩).val % 2048 / 512 = s.val := by
      show (2048 * c.val + (512 * s.val + w.val)) % 2048 / 512 = s.val
      omega
    have e2 : 512 * ((at4 c ⟨512 * s.val + w.val, by omega⟩).val / 2048) + (at4 c ⟨512 * s.val + w.val, by omega⟩).val % 512 = 512 * c.val + w.val := by
      show 512 * ((2048 * c.val + (512 * s.val + w.val)) / 2048) + (2048 * c.val + (512 * s.val + w.val)) % 512 = _
      omega
    have e1' : (⟨(at4 c ⟨512 * s.val + w.val, by omega⟩).val % 2048 / 512, by omega⟩ : Fin 4) = s := Fin.ext e1
    have e2' : (⟨512 * ((at4 c ⟨512 * s.val + w.val, by omega⟩).val / 2048) + (at4 c ⟨512 * s.val + w.val, by omega⟩).val % 512, by omega⟩ : Fin 2048) = ⟨512 * c.val + w.val, by omega⟩ := Fin.ext e2
    show at4 ⟨(at4 c ⟨512 * s.val + w.val, by omega⟩).val % 2048 / 512, _⟩ (srt (fun i => key (at4 ⟨(at4 c ⟨512 * s.val + w.val, by omega⟩).val % 2048 / 512, _⟩ i)) ⟨512 * ((at4 c ⟨512 * s.val + w.val, by omega⟩).val / 2048) + (at4 c ⟨512 * s.val + w.val, by omega⟩).val % 512, _⟩) = _
    rw [e1', e2']
  · intro t t' htt
    have htt' : t.val < t'.val := htt
    have k1 := key_srt (he ⟨t.val % 2048 / 512, by omega⟩) ⟨512 * (t.val / 2048) + t.val % 512, by omega⟩
    have k2 := key_srt (he ⟨t'.val % 2048 / 512, by omega⟩) ⟨512 * (t'.val / 2048) + t'.val % 512, by omega⟩
    dsimp only at k1 k2 ⊢
    rcases Nat.lt_or_ge (t.val / 2048) (t'.val / 2048) with hc | hc
    · refine Or.inl ?_
      rw [k1, k2]
      push_cast
      omega
    · have hc' : t.val / 2048 = t'.val / 2048 := by omega
      refine Or.inr ⟨?_, ?_⟩
      · rw [k1, k2]
        push_cast
        omega
      · rcases Nat.lt_or_ge (t.val % 2048 / 512) (t'.val % 2048 / 512) with hs | hs
        · have := (srt (fun i => key (at4 ⟨t.val % 2048 / 512, by omega⟩ i)) ⟨512 * (t.val / 2048) + t.val % 512, by omega⟩).isLt
          show 2048 * (t.val % 2048 / 512) + _ < 2048 * (t'.val % 2048 / 512) + _
          omega
        · have hs' : t.val % 2048 / 512 = t'.val % 2048 / 512 := by omega
          have hs'' : (⟨t'.val % 2048 / 512, by omega⟩ : Fin 4) = ⟨t.val % 2048 / 512, by omega⟩ := Fin.ext hs'.symm
          rw [hs''] at k2 ⊢
          have hb := srt_bef (fun i => key (at4 ⟨t.val % 2048 / 512, by omega⟩ i)) (i := ⟨512 * (t.val / 2048) + t.val % 512, by omega⟩) (j := ⟨512 * (t'.val / 2048) + t'.val % 512, by omega⟩) (by show _ < _; simp only [Fin.mk_lt_mk]; omega)
          have hlt : srt (fun i => key (at4 ⟨t.val % 2048 / 512, by omega⟩ i)) ⟨512 * (t.val / 2048) + t.val % 512, by omega⟩ < srt (fun i => key (at4 ⟨t.val % 2048 / 512, by omega⟩ i)) ⟨512 * (t'.val / 2048) + t'.val % 512, by omega⟩ := by
            rcases hb with h | h
            · dsimp only at h
              rw [k1, k2] at h
              push_cast at h
              omega
            · exact h.2
          show 2048 * (t.val % 2048 / 512) + (srt _ _).val < 2048 * (t.val % 2048 / 512) + (srt _ _).val
          have : (srt (fun i => key (at4 ⟨t.val % 2048 / 512, by omega⟩ i)) ⟨512 * (t.val / 2048) + t.val % 512, by omega⟩).val < (srt (fun i => key (at4 ⟨t.val % 2048 / 512, by omega⟩ i)) ⟨512 * (t'.val / 2048) + t'.val % 512, by omega⟩).val := hlt
          omega

end Cert.Order

end
-- ==== Proof.Sorted.lean ====
/-
The host operations of an argsort, a count of keys and a take of rows, read at an index.
-/
module

public import proofs.«01_k».proof.Proof.Order
public import Idealize.ShloMosaic.Lib.Routing.OpsPair
public import Idealize.ShloMosaic.Lib.ReduceAll

@[expose] public section

noncomputable section

namespace Cert.Order

open Idealize.ShloMosaic Idealize.ShloMosaic.ValueIdx Idealize.ShloMosaic.Routing

/-- The keys of a vector of words. -/
def keyOf {n : ℕ} (d : IVec ⟨1, ![n]⟩ 32) (a : Fin n) : ℤ := (d (ix1 a)).toInt

/-- An argsort's word at a place is the position the stable sort puts there. -/
theorem argsort_at {n : ℕ} (d : IVec ⟨1, ![n]⟩ 32) (i : Fin n) :
    (Host.sort2 ⟨1, ![n]⟩ 0 (fun l r => IntOp.cmpi .slt l.1 r.1) d (iotaInDim ⟨1, ![n]⟩ 32 0)).2 (ix1 i) = BitVec.ofNat 32 (srt (keyOf d) i).val := by
  have e : (fun k k' : Fin n => IntOp.cmpi .slt (d (ix1 k)) (d (ix1 k')) == 1#1) = fun a b => decide (keyOf d a < keyOf d b) := by
    funext k k'
    unfold keyOf IntOp.cmpi
    simp only [BitVec.slt]
    by_cases h : (d (ix1 k)).toInt < (d (ix1 k')).toInt <;> simp [h]
  have hal : (fun k : Fin n => (ix1 i : (⟨1, ![n]⟩ : Shape).Idx).along 0 k) = ix1 := by
    funext k a
    obtain rfl : a = 0 := Subsingleton.elim _ _
    exact Function.update_self _ _ _
  unfold Host.sort2
  rw [dif_pos (show 0 < (⟨1, ![n]⟩ : Shape).rank from Nat.one_pos)]
  have key : ∀ A : Fin n → (⟨1, ![n]⟩ : Shape).Idx, A = ix1 → BitVec.ofNat 32 ((A (sortedFrom (fun k k' : Fin n => IntOp.cmpi .slt (d (A k)) (d (A k')) == 1#1) i)) 0).val = BitVec.ofNat 32 (srt (keyOf d) i).val := by
    rintro A rfl
    rw [e]
    rfl
  exact key _ hal

/-- The four counts, each 512, say that each of the four keys stands 512 times. -/
theorem even_of_counts (d : IVec ⟨1, ![2048]⟩ 32) (h₁ : (⟨1, ![2048]⟩ : Shape).BroadcastsInDim ⟨2, ![2048, 1]⟩ ![0])
    (h₂ : (⟨2, ![2048, 1]⟩ : Shape).BroadcastsInDim ⟨2, ![2048, 4]⟩ ![0, 1]) (h₃ : (⟨1, ![4]⟩ : Shape).BroadcastsInDim ⟨2, ![1, 4]⟩ ![1])
    (h₄ : (⟨2, ![1, 4]⟩ : Shape).BroadcastsInDim ⟨2, ![2048, 4]⟩ ![0, 1]) (hw : 1 < 32) {u : Shape} (hu : 0 < u.numel)
    (h : (⟨2, ![2048, 4]⟩ : Shape).ReducesTo [0] ⟨1, ![4]⟩)
    (hc : Host.reduce IntOp.addi (extui 32 (cmpi .eq (broadcastInDim ⟨2, ![2048, 4]⟩ ![0, 1] h₂ (broadcastInDim ⟨2, ![2048, 1]⟩ ![0] h₁ d))
      (broadcastInDim ⟨2, ![2048, 4]⟩ ![0, 1] h₄ (broadcastInDim ⟨2, ![1, 4]⟩ ![1] h₃ (iotaInDim ⟨1, ![4]⟩ 32 0)))) hw) (constantI u 32 0#32) h hu = fun _ => 512#32) :
    Even (keyOf d) := by
  intro r hr
  have e := congrArg BitVec.toNat (congrFun hc (ix1 (⟨r, hr⟩ : Fin 4)))
  rw [StableHlo.Predicate.toNat_reduce_count_rows (by decide)] at e
  refine Eq.trans (congrArg Finset.card (Finset.filter_congr fun p _ => ?_)) e
  unfold cmpi
  rw [StableHlo.Predicate.bcast_rows, StableHlo.Predicate.bcast_cols, StableHlo.Predicate.cmpi_eq_iff, ofFin_eq_ix1, ofFin_eq_ix1]
  show (d (ix1 p)).toInt = r ↔ d (ix1 p) = BitVec.ofNat 32 r
  rw [← BitVec.toInt_inj, StableHlo.Predicate.toInt_ofNat_small r (by omega)]

end Cert.Order

end
-- ==== Proof.Value.Places.lean ====
/-
The words that say which row goes where, with 512 rows for each destination on every device.
-/
module

public import proofs.«01_k».proof.Proof.KernelIdeal.Words
public import proofs.«01_k».proof.Proof.Sorted

@[expose] public section

noncomputable section

namespace Cert.KernelIdeal.Pf

open Cert.KernelIdeal Cert.KernelIdeal.Gen
open Idealize.ShloMosaic hiding ix1 ix2 ix3
open Idealize.ShloMosaic.ValueIdx Idealize.ShloMosaic.Routing

/-- Whether the segment of a sender begins at or before a row. -/
def bucketLo (o : IVec S4 32) : IVec S2048x4 1 :=
  let t0 := (iotaInDim S2048 32 0)
  let t1 : IVec S1x4 32 := (broadcastInDim S1x4 ![1] bcast_S4_S1x4_1) o
  let t2 : IVec S2048x1 32 := (broadcastInDim S2048x1 ![0] bcast_S2048_S2048x1_0) t0
  let t3 : IVec S2048x4 32 := (broadcastInDim S2048x4 ![0, 1] bcast_S1x4_S2048x4_0_1) t1
  let t4 : IVec S2048x4 32 := (broadcastInDim S2048x4 ![0, 1] bcast_S2048x1_S2048x4_0_1) t2
  (cmpi .sle) t3 t4

/-- How many segments begin at or before a row. -/
def segsBegun (b : IVec S2048x4 1) : IVec S2048 32 :=
  let t0 : IVec S2048x4 32 := (extui 32 b natLt_1_32)
  let t1 := (constantI S_ 32 0#32)
  (fun x v => Host.reduce IntOp.addi x v reducesTo_S2048x4_S2048_d1 h_S_) t0 t1

/-- The row of the staged blocks that holds a row of the result. -/
def stageRow (o : IVec S4 32) (n : IVec S2048 32) : IVec S2048 32 :=
  let t0 := (iotaInDim S2048 32 0)
  let t1 := (constantI S_ 32 1#32)
  let t2 : IVec S2048 32 := (broadcastInDim S2048 ![] bcast_S_S2048) t1
  let t3 : IVec S2048 32 := subi n t2
  let t4 := (constantI S_ 32 0#32)
  let t5 : IVec S2048 32 := (broadcastInDim S2048 ![] bcast_S_S2048) t4
  let t6 : IVec S2048 1 := (cmpi .slt) t3 t5
  let t7 := (constantI S_ 32 4#32)
  let t8 : IVec S2048 32 := (broadcastInDim S2048 ![] bcast_S_S2048) t7
  let t9 : IVec S2048 32 := addi t3 t8
  let t10 : IVec S2048 32 := select t6 t9 t3
  let t11 : IVec S2048x1 32 := (broadcastInDim S2048x1 ![0] bcast_S2048_S2048x1_0) t10
  let t12 : IVec S2048 32 := (fun x i => Host.gather gather_S4_S2048x1_S2048_n_0_n_n_0_1_1 x i) o t11
  let t13 : IVec S2048 32 := subi t0 t12
  let t14 := (constantI S_ 32 640#32)
  let t15 : IVec S2048 32 := (broadcastInDim S2048 ![] bcast_S_S2048) t14
  let t16 : IVec S2048 32 := muli t3 t15
  addi t16 t13

/-- Where the four segments begin. -/
def starts : IVec S4 32 := fun i => BitVec.ofNat 32 (512 * (i 0).val)

theorem starts_at : ∀ i, subi (prefix4 fun _ => 512#32) (fun _ => 512#32) i = starts i := by decide +kernel

/-- The place among a device's sorted rows that a slot of the send buffer is filled from. -/
theorem slot_at : ∀ q : Fin 2560, clip2560 (startPlus starts (floorDiv2560 (iotaInDim S2560 32 0) (constantI S_ 32 640#32)) (floorRem2560 (iotaInDim S2560 32 0) (constantI S_ 32 640#32))) (constantI S_ 32 0#32) (constantI S_ 32 2047#32) (ix1 q)
    = BitVec.ofNat 32 (min (512 * (q.val / 640) + q.val % 640) 2047) := by decide +kernel

theorem begun_card : ∀ j : Fin 2048, (Finset.univ.filter fun q : Fin 4 => bucketLo starts (StableHlo.Predicate.ij j q) = 1#1).card = j.val / 512 + 1 := by decide +kernel

/-- The segment of a row of the result, counted from one. -/
def segOne : IVec S2048 32 := fun i => BitVec.ofNat 32 ((i 0).val / 512 + 1)

theorem begun_seg : segsBegun (bucketLo starts) = segOne := by
  funext i
  refine BitVec.eq_of_toNat_eq ?_
  unfold segsBegun
  refine (StableHlo.Predicate.toNat_reduce_count_cols (by decide) (bucketLo starts) natLt_1_32 reducesTo_S2048x4_S2048_d1 h_S_ i).trans ?_
  refine (begun_card (i 0)).trans ?_
  have h : (i 0).val < 2048 := (i 0).isLt
  show _ = ((i 0).val / 512 + 1) % 2 ^ 32
  omega

theorem stageRow_at : ∀ j : Fin 2048, stageRow starts segOne (ix1 j) = BitVec.ofNat 32 (640 * (j.val / 512) + j.val % 512) := by decide +kernel

end Cert.KernelIdeal.Pf

end
-- ==== Proof.Value.Takes.lean ====
/-
The takes of rows, read at an index.
-/
module

public import proofs.«01_k».proof.Proof.Value.Places
public import Idealize.ShloMosaic.Lib.Routing.Ops
public import Idealize.ShloMosaic.Lib.Routing.OpsSet
public import Idealize.ShloMosaic.Lib.Routing.OpsPair

@[expose] public section

noncomputable section

namespace Cert.KernelIdeal.Pf

open Cert.KernelIdeal Cert.KernelIdeal.Gen
open Idealize.ShloMosaic hiding ix1 ix2 ix3
open Idealize.ShloMosaic.ValueIdx Idealize.ShloMosaic.Routing

variable {F : FTy → Type} [FloatOps F]

/-- The rows `i` of `x`. -/
def takeRows (x : FVec F S2048x1024 .bf16) (i : IVec S2560 32) : FVec F S2560x1024 .bf16 :=
  let t0 : IVec S_ 32 := (constantI S_ 32 0#32)
  let t1 : IVec S2560 32 := (broadcastInDim S2560 ![] bcast_S_S2560) t0
  let t2 : IVec S2560 1 := (cmpi .slt) i t1
  let t3 : IVec S_ 32 := (constantI S_ 32 2048#32)
  let t4 : IVec S2560 32 := (broadcastInDim S2560 ![] bcast_S_S2560) t3
  let t5 : IVec S2560 32 := addi i t4
  let t6 : IVec S2560 32 := select t2 t5 i
  let t7 : IVec S2560x1 32 := (broadcastInDim S2560x1 ![0] bcast_S2560_S2560x1_0) t6
  let t8 : IVec S1 32 := (constantI S1 32 2047#32)
  let t9 : IVec S_ 32 := (constantI S_ 32 0#32)
  let t10 : IVec S2560x1 32 := (broadcastInDim S2560x1 ![] bcast_S_S2560x1) t9
  let t11 : IVec S2560x1 1 := (cmpi .sge) t7 t10
  let t12 : IVec S1x1 32 := (broadcastInDim S1x1 ![1] bcast_S1_S1x1_1) t8
  let t13 : IVec S2560x1 32 := (broadcastInDim S2560x1 ![0, 1] bcast_S1x1_S2560x1_0_1) t12
  let t14 : IVec S2560x1 1 := (cmpi .sle) t7 t13
  let t15 : IVec S2560x1 1 := andi t11 t14
  let t16 : IVec S_ 1 := (constantI S_ 1 1#1)
  let t17 : IVec S2560 1 := (fun x v => Host.reduce IntOp.andi x v reducesTo_S2560x1_S2560_d1 h_S_) t15 t16
  let t18 : FVec F S2560x1024 .bf16 := (fun x i => Host.gather gather_S2048x1024_S2560x1_S2560x1024_1_0_n_n_0_1_11024 x i) x t7
  let t19 : IVec S2560x1024 1 := (broadcastInDim S2560x1024 ![0] bcast_S2560_S2560x1024_0) t17
  let t20 : FVec F S_ .bf16 := (constant S_ .bf16 0x7FC0#16)
  let t21 : FVec F S2560x1024 .bf16 := (broadcastInDim S2560x1024 ![] bcast_S_S2560x1024) t20
  select t19 t18 t21

/-- The rows `i` of the staged blocks. -/
def takeStaged (x : FVec F S2560x1024 .bf16) (i : IVec S2048 32) : FVec F S2048x1024 .bf16 :=
  let t0 : IVec S_ 32 := (constantI S_ 32 0#32)
  let t1 : IVec S2048 32 := (broadcastInDim S2048 ![] bcast_S_S2048) t0
  let t2 : IVec S2048 1 := (cmpi .slt) i t1
  let t3 : IVec S_ 32 := (constantI S_ 32 2560#32)
  let t4 : IVec S2048 32 := (broadcastInDim S2048 ![] bcast_S_S2048) t3
  let t5 : IVec S2048 32 := addi i t4
  let t6 : IVec S2048 32 := select t2 t5 i
  let t7 : IVec S2048x1 32 := (broadcastInDim S2048x1 ![0] bcast_S2048_S2048x1_0) t6
  let t8 : IVec S1 32 := (constantI S1 32 2559#32)
  let t9 : IVec S_ 32 := (constantI S_ 32 0#32)
  let t10 : IVec S2048x1 32 := (broadcastInDim S2048x1 ![] bcast_S_S2048x1) t9
  let t11 : IVec S2048x1 1 := (cmpi .sge) t7 t10
  let t12 : IVec S1x1 32 := (broadcastInDim S1x1 ![1] bcast_S1_S1x1_1) t8
  let t13 : IVec S2048x1 32 := (broadcastInDim S2048x1 ![0, 1] bcast_S1x1_S2048x1_0_1) t12
  let t14 : IVec S2048x1 1 := (cmpi .sle) t7 t13
  let t15 : IVec S2048x1 1 := andi t11 t14
  let t16 : IVec S_ 1 := (constantI S_ 1 1#1)
  let t17 : IVec S2048 1 := (fun x v => Host.reduce IntOp.andi x v reducesTo_S2048x1_S2048_d1 h_S_) t15 t16
  let t18 : FVec F S2048x1024 .bf16 := (fun x i => Host.gather gather_S2560x1024_S2048x1_S2048x1024_1_0_n_n_0_1_11024 x i) x t7
  let t19 : IVec S2048x1024 1 := (broadcastInDim S2048x1024 ![0] bcast_S2048_S2048x1024_0) t17
  let t20 : FVec F S_ .bf16 := (constant S_ .bf16 0x7FC0#16)
  let t21 : FVec F S2048x1024 .bf16 := (broadcastInDim S2048x1024 ![] bcast_S_S2048x1024) t20
  select t19 t18 t21

theorem small {N k : ℕ} (hk : k < N) (hN : N < 2 ^ 31) : (BitVec.ofNat 32 k).toNat = k := by
  rw [BitVec.toNat_ofNat]
  omega

/-- Indices that are none of them negative are left alone by the wrap. -/
theorem wrap_words {s : Shape} (i z a : IVec s 32) (hz : z = fun _ => 0#32) (h : ∀ q, (i q).toNat < 2 ^ 31) : select (cmpi .slt i z) a i = i := by
  subst hz
  funext q
  exact wrap_of_lt (i q) (a q) (h q)

theorem fin_words {n N : ℕ} (i : IVec ⟨1, ![n]⟩ 32) (k : Fin n → Fin N) (h : ∀ q, i (ix1 q) = BitVec.ofNat 32 (k q).val) (hN : N < 2 ^ 31) (q) :
    (i q).toNat < N := by
  obtain ⟨a, rfl⟩ : ∃ a, q = ix1 a := ⟨q 0, by funext x; match x with | ⟨0, _⟩ => rfl⟩
  rw [h, small (k a).isLt hN]
  exact (k a).isLt

/-- A broadcast of a vector to a column, read at a row. -/
theorem col_at {n : ℕ} {α : Type} (h : (⟨1, ![n]⟩ : Shape).BroadcastsInDim ⟨2, ![n, 1]⟩ ![0]) (v : (⟨1, ![n]⟩ : Shape).Idx → α) (p : Fin n) :
    broadcastInDim ⟨2, ![n, 1]⟩ ![0] h v (ix2 p (0 : Fin 1)) = v (ix1 p) := by
  rw [← ixP_eq_ix2, StableHlo.Predicate.bcast_col1, ofFin_eq_ix1]

theorem col_all {n : ℕ} {α : Type} (h : (⟨1, ![n]⟩ : Shape).BroadcastsInDim ⟨2, ![n, 1]⟩ ![0]) (v : (⟨1, ![n]⟩ : Shape).Idx → α) (q) :
    ∃ p, broadcastInDim ⟨2, ![n, 1]⟩ ![0] h v q = v p := ⟨_, rfl⟩

/-- The entry of a vector at a position held as a word. -/
theorem pick_at (p : IVec S2048 32) (i : IVec S2560 32) (k : Fin 2560 → Fin 2048) (h : ∀ q, i (ix1 q) = BitVec.ofNat 32 (k q).val) (q : Fin 2560) :
    pick2048 p i (ix1 q) = p (ix1 (k q)) := by
  have hs := fin_words i k h (by decide)
  unfold pick2048
  refine gather_take1 _ rfl rfl rfl rfl p _ q (k q) ?_ (by decide)
  dsimp only
  rw [wrap_words i (broadcastInDim S2560 ![] bcast_S_S2560 (constantI S_ 32 0#32)) _ rfl fun q => (hs q).trans (by decide), ← h q]
  exact col_at _ _ _

/-- The range test of a take is passed by indices within the table. -/
theorem range_at {n : ℕ} (t : IVec ⟨2, ![n, 1]⟩ 32) (lo hi : IVec ⟨2, ![n, 1]⟩ 32) (N : ℕ) (hN : N < 2 ^ 31) (hlo : lo = fun _ => 0#32) (hhi : hi = fun _ => BitVec.ofNat 32 (N - 1))
    (ht : ∀ q, (t q).toNat < N) (q) : andi (cmpi .sge t lo) (cmpi .sle t hi) q = 1#1 := by
  subst hlo hhi
  have h := ht q
  have h1 : IntOp.cmpi .sge (t q) 0#32 = 1#1 := (StableHlo.Predicate.sge_iff_toNat (by omega) (by decide)).2 (Nat.zero_le _)
  have hb : (BitVec.ofNat 32 (N - 1)).toNat = N - 1 := small (N := N) (by omega) hN
  have h2 : IntOp.cmpi .sle (t q) (BitVec.ofNat 32 (N - 1)) = 1#1 := (StableHlo.Predicate.sle_iff_toNat (by omega) (by omega)).2 (by omega)
  show IntOp.andi (IntOp.cmpi .sge (t q) 0#32) (IntOp.cmpi .sle (t q) (BitVec.ofNat 32 (N - 1))) = 1#1
  rw [h1, h2]
  rfl

theorem takeRows_at (x : FVec F S2048x1024 .bf16) (i : IVec S2560 32) (k : Fin 2560 → Fin 2048) (h : ∀ q, i (ix1 q) = BitVec.ofNat 32 (k q).val) (q : Fin 2560) (y : Fin 1024) :
    takeRows x i (ix2 q y) = x (ix2 (k q) y) := by
  have hs := fin_words i k h (by decide)
  unfold takeRows
  dsimp only
  rw [wrap_words i (broadcastInDim S2560 ![] bcast_S_S2560 (constantI S_ 32 0#32)) _ rfl fun q => (hs q).trans (by decide)]
  refine Eq.trans (b := Scalar.select 1#1 _ _) (congrArg (fun b => Scalar.select b _ _) ?_) ?_
  · refine Host.reduce_andi_one _ _ _ _ _ rfl fun j => range_at _ _ _ 2048 (by decide) rfl rfl (fun q => ?_) j
    obtain ⟨p, e⟩ := col_all bcast_S2560_S2560x1_0 i q
    rw [e]
    exact hs p
  · exact gather_row _ rfl rfl rfl rfl rfl x _ q y (k q) ((col_at _ _ _).trans (h q)) (by decide)

theorem takeStaged_at (x : FVec F S2560x1024 .bf16) (i : IVec S2048 32) (k : Fin 2048 → Fin 2560) (h : ∀ q, i (ix1 q) = BitVec.ofNat 32 (k q).val) (q : Fin 2048) (y : Fin 1024) :
    takeStaged x i (ix2 q y) = x (ix2 (k q) y) := by
  have hs := fin_words i k h (by decide)
  unfold takeStaged
  dsimp only
  rw [wrap_words i (broadcastInDim S2048 ![] bcast_S_S2048 (constantI S_ 32 0#32)) _ rfl fun q => (hs q).trans (by decide)]
  refine Eq.trans (b := Scalar.select 1#1 _ _) (congrArg (fun b => Scalar.select b _ _) ?_) ?_
  · refine Host.reduce_andi_one _ _ _ _ _ rfl fun j => range_at _ _ _ 2560 (by decide) rfl rfl (fun q => ?_) j
    obtain ⟨p, e⟩ := col_all bcast_S2048_S2048x1_0 i q
    rw [e]
    exact hs p
  · exact gather_row _ rfl rfl rfl rfl rfl x _ q y (k q) ((col_at _ _ _).trans (h q)) (by decide)

end Cert.KernelIdeal.Pf

end
-- ==== Proof.Value.Read.lean ====
/-
What the host operations that carry rows compute, one stretch at a time.
-/
module

public import proofs.«01_k».proof.Proof.Value.Takes
public import Idealize.ShloMosaic.Lib.StableHlo.ReadAt

@[expose] public section

noncomputable section

namespace Cert.KernelIdeal.Pf

open Cert.KernelIdeal Cert.KernelIdeal.Gen
open Idealize.ShloMosaic
open Idealize.ShloMosaic.TcCoe
open Idealize.ShloMosaic.StableHlo (after)

variable {F : FTy → Type} [FloatOps F]

variable (V : Valuation τ sig (Elt F))

theorem at_v12 : after hostOps0_3 V main_v12 = iotaInDim S2560 32 0 := by
  after_reads_simp

theorem at_c0 : after hostOps0_3 V main_c_0 = constantI S_ 32 640#32 := by
  after_reads_simp

theorem at_c1 : after hostOps0_5 V main_c_1 = constantI S_ 32 640#32 := by
  after_reads_simp

theorem at_c4 : after hostOps0_7 V main_c_4 = constantI S_ 32 0#32 := by
  after_reads_simp

theorem at_c5 : after hostOps0_7 V main_c_5 = constantI S_ 32 2047#32 := by
  after_reads_simp

theorem at_v31 : after hostOps0_10 V main_v31 = takeRows (V main_arg0) (V main_v30) := by
  after_reads_simp
  simp only [StableHlo.TRef.toBuf, StableHlo.TRef.ofBuf, cast_cast, cast_eq]
  rfl

theorem at_v32 : after hostOps0_11 V main_v32 = shapeCast S40x64x1024 (V main_v31 : FVec F S2560x1024 .bf16) shapeCasts_S2560x1024_S40x64x1024 := by
  after_reads_simp
  rfl

theorem at_v67 : after hostOps2 V main_v67 = takeCol4 (V main_v49) (V main_v42) := by
  after_reads_simp
  simp only [StableHlo.TRef.toBuf, StableHlo.TRef.ofBuf, cast_cast, cast_eq]
  rfl

theorem at_v68 : after hostOps2_1 V main_v68 = prefix4 (V main_v67) := by
  after_reads_simp
  rfl

theorem at_v91 : after hostOps2_2 V main_v91 = stageRow (subi (V main_v68 : IVec S4 32) (V main_v67)) (segsBegun (bucketLo (subi (V main_v68 : IVec S4 32) (V main_v67)))) := by
  after_reads_simp
  rfl

theorem at_v88 : after hostOps2_2 V main_v88 = shapeCast S2560x1024 (V main_v66 : FVec F S40x64x1024 .bf16) shapeCasts_S40x64x1024_S2560x1024 := by
  after_reads_simp
  rfl

theorem at_v92 : after hostOps2_3 V main_v92 = takeStaged (V main_v88) (V main_v91) := by
  after_reads_simp
  simp only [StableHlo.TRef.toBuf, StableHlo.TRef.ofBuf, cast_cast, cast_eq]
  rfl

theorem at_v93 : after hostOps2_4 V main_v93 = extf .f32 (V main_v92 : FVec F S2048x1024 .bf16) bitsLt_bf16_f32 := by
  after_reads_simp

end Cert.KernelIdeal.Pf

end
-- ==== Proof.Value.Rows.lean ====
/-
Which row of whose operand each entry of the send buffer and of the result is.
-/
module

public import proofs.«01_k».proof.Proof.Value.Read
public import proofs.«01_k».proof.Proof.KernelIdeal.Frame
public import Idealize.ShloMosaic.Lib.Routing.OpsSearch

@[expose] public section

noncomputable section

namespace Cert.KernelIdeal.Pf

open Cert.KernelIdeal Cert.KernelIdeal.Gen
open Idealize.ShloMosaic hiding ix1 ix2 ix3
open Idealize.ShloMosaic.ValueIdx Idealize.ShloMosaic.Routing
open Idealize.ShloMosaic.TcCoe
open Idealize.ShloMosaic.StableHlo (after)
open Cert.Order

variable {F : FTy → Type} [FloatOps F]
variable {m : (ℓ : Loc nD τ sig) → Buf (Elt F) ℓ}

/-- The rows a device holds. -/
abbrev rowsOf (m : (ℓ : Loc nD τ sig) → Buf (Elt F) ℓ) (c : Dev nD) : FVec F S2048x1024 .bf16 := m ((c : Thread nD τ).loc main_arg0)
/-- Where they are to go. -/
abbrev destOf (m : (ℓ : Loc nD τ sig) → Buf (Elt F) ℓ) (c : Dev nD) : IVec S2048 32 := m ((c : Thread nD τ).loc main_arg1)

/-- The place among the sorted rows that slot `q` is filled from. -/
def place (q : Fin 2560) : Fin 2048 := ⟨min (512 * (q.val / 640) + q.val % 640) 2047, by omega⟩

section
variable (c : Dev nD)

theorem order_at (i : Fin 2048) : (V1 m c main_v1 : IVec S2048 32) (ix1 i) = BitVec.ofNat 32 (srt (keyOf (destOf m c)) i).val := by
  rw [show V1 m c main_v1 = _ from at_v1 (V0 m c)]
  exact argsort_at (destOf m c) i

theorem v11_at (hb : Balanced m) : V4 m c main_v11 = starts := by
  refine (at_v11 (V3 m c)).trans ?_
  rw [show V3 m c main_v10 = _ from at_v10 (V2 m c), V3_of m c main_v9 (by decide), v9_at hb c]
  exact funext starts_at

theorem v13_at : V5 m c main_v13 = floorDiv2560 (iotaInDim S2560 32 0) (constantI S_ 32 640#32) := by
  refine (at_v13 (V4 m c)).trans ?_
  rw [show V4 m c main_v12 = _ from at_v12 (V3 m c), show V4 m c main_c_0 = _ from at_c0 (V3 m c)]

theorem v14_at : V7 m c main_v14 = floorRem2560 (iotaInDim S2560 32 0) (constantI S_ 32 640#32) := by
  refine (at_v14 (V6 m c)).trans ?_
  rw [show V6 m c main_v12 = _ from (V6_of m c main_v12 (by decide)).trans <| (V5_of m c main_v12 (by decide)).trans <| at_v12 (V3 m c), show V6 m c main_c_1 = _ from at_c1 (V5 m c)]

theorem v23_at (hb : Balanced m) (q : Fin 2560) : (V9 m c main_v23 : IVec S2560 32) (ix1 q) = BitVec.ofNat 32 (place q).val := by
  rw [show V9 m c main_v23 = _ from at_v23 (V8 m c), show V8 m c main_v22 = _ from at_v22 (V7 m c), show V8 m c main_c_4 = _ from at_c4 (V7 m c), show V8 m c main_c_5 = _ from at_c5 (V7 m c), v14_at c,
    show V7 m c main_v13 = _ from (V7_of m c main_v13 (by decide)).trans <| (V6_of m c main_v13 (by decide)).trans <| v13_at c,
    show V7 m c main_v11 = _ from (V7_of m c main_v11 (by decide)).trans <| (V6_of m c main_v11 (by decide)).trans <| (V5_of m c main_v11 (by decide)).trans <| v11_at c hb]
  exact slot_at q

theorem v30_at (hb : Balanced m) (q : Fin 2560) : (V10 m c main_v30 : IVec S2560 32) (ix1 q) = BitVec.ofNat 32 (srt (keyOf (destOf m c)) (place q)).val := by
  rw [show V10 m c main_v30 = _ from at_v30 (V9 m c), pick_at _ _ place (v23_at c hb) q,
    show V9 m c main_v1 = _ from (V9_of m c main_v1 (by decide)).trans <| (V8_of m c main_v1 (by decide)).trans <| (V7_of m c main_v1 (by decide)).trans <| (V6_of m c main_v1 (by decide)).trans <| (V5_of m c main_v1 (by decide)).trans <| (V4_of m c main_v1 (by decide)).trans <| (V3_of m c main_v1 (by decide)).trans <| (V2_of m c main_v1 (by decide))]
  exact order_at c _

theorem v31_at (hb : Balanced m) (q : Fin 2560) (y : Fin 1024) : (V11 m c main_v31 : FVec F S2560x1024 .bf16) (ix2 q y) = rowsOf m c (ix2 (srt (keyOf (destOf m c)) (place q)) y) := by
  rw [show V11 m c main_v31 = _ from at_v31 (V10 m c), takeRows_at _ _ _ (v30_at c hb) q y,
    show V10 m c main_arg0 = V0 m c main_arg0 from (V10_of m c main_arg0 (by decide)).trans <| (V9_of m c main_arg0 (by decide)).trans <| (V8_of m c main_arg0 (by decide)).trans <| (V7_of m c main_arg0 (by decide)).trans <| (V6_of m c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide)).trans <|  rfl]

theorem send_at (hb : Balanced m) (b : Fin 40) (r : Fin 64) (y : Fin 1024) (q : Fin 2560) (hq : q.val = 64 * b.val + r.val) :
    (xsOf m c : FVec F S40x64x1024 .bf16) (ix3 b r y) = rowsOf m c (ix2 (srt (keyOf (destOf m c)) (place q)) y) := by
  have e : xsOf m c = V12 m c main_v32 := by
    unfold xsOf
    rw [W24_eq]
    exact (V24_of m (outs0 m) c main_v32 (by decide)).trans <| (V23_of m (outs0 m) c main_v32 (by decide)).trans <| (V22_of m (outs0 m) c main_v32 (by decide)).trans <| (V21_of m (outs0 m) c main_v32 (by decide)).trans <| (V20_of m (outs0 m) c main_v32 (by decide)).trans <| (V19_of m (outs0 m) c main_v32 (by decide)).trans <| (V18_of m (outs0 m) c main_v32 (by decide)).trans <| (V17_of m (outs0 m) c main_v32 (by decide)).trans <| (V16_of m (outs0 m) c main_v32 (by decide)).trans <| (V15_of m (outs0 m) c main_v32 (by decide)).trans <| (V14_of m (outs0 m) c main_v32 (by decide)).trans <| (V13_of m (outs0 m) c main_v32 (by decide)).trans <|  rfl
  rw [e, show V12 m c main_v32 = _ from at_v32 (V11 m c)]
  refine (shapeCast_apply _ _ _ (ix2 q y) ?_).trans (v31_at c hb q y)
  rw [Shape.rowMajor_val_three, Shape.rowMajor_val_two]
  show q.val * 1024 + y.val = (b.val * 64 + r.val) * 1024 + y.val
  omega

end

/-! ### The result -/

section
variable (c : Dev nD) (g : Blocks F)

theorem v67_at (hb : Balanced m) : V26 m (outs1 m fun _ => g) c main_v67 = fun _ => 512#32 := by
  refine (at_v67 (V25 m (outs1 m fun _ => g) c)).trans ?_
  have h1 : V25 m (outs1 m fun _ => g) c main_v49 = fun _ => 512#32 := by
    refine ((congrFun (VR_eq m c g) _).symm.trans ((VR_ne m c g main_v49 (by decide)).trans (congrFun (W24_eq m c) _))).trans ?_
    exact (V24_of m (outs0 m) c main_v49 (by decide)).trans <| (V23_of m (outs0 m) c main_v49 (by decide)).trans <| (V22_of m (outs0 m) c main_v49 (by decide)).trans <| (V21_of m (outs0 m) c main_v49 (by decide)).trans <| (V20_of m (outs0 m) c main_v49 (by decide)).trans <| (V19_of m (outs0 m) c main_v49 (by decide)).trans <| (V18_of m (outs0 m) c main_v49 (by decide)).trans <| (V17_of m (outs0 m) c main_v49 (by decide)).trans <|  v49_at hb c
  have h2 : V25 m (outs1 m fun _ => g) c main_v42 = rank c := by
    refine ((congrFun (VR_eq m c g) _).symm.trans ((VR_ne m c g main_v42 (by decide)).trans (congrFun (W24_eq m c) _))).trans ?_
    exact (V24_of m (outs0 m) c main_v42 (by decide)).trans <| (V23_of m (outs0 m) c main_v42 (by decide)).trans <|  v42_22 (outs0 m) c
  rw [h1, h2]
  exact funext (takeCol4_512 c)

theorem v91_at (hb : Balanced m) (j : Fin 2048) : (V28 m (outs1 m fun _ => g) c main_v91 : IVec S2048 32) (ix1 j) = BitVec.ofNat 32 (640 * (j.val / 512) + j.val % 512) := by
  rw [show V28 m (outs1 m fun _ => g) c main_v91 = _ from at_v91 (V27 m (outs1 m fun _ => g) c),
    show V27 m (outs1 m fun _ => g) c main_v68 = _ from at_v68 (V26 m (outs1 m fun _ => g) c), V27_of m (outs1 m fun _ => g) c main_v67 (by decide), v67_at c g hb]
  have key : ∀ A : IVec S4 32, A = starts → stageRow A (segsBegun (bucketLo A)) (ix1 j) = BitVec.ofNat 32 (640 * (j.val / 512) + j.val % 512) := by
    rintro A rfl
    rw [begun_seg]
    exact stageRow_at j
  exact key _ (funext starts_at)

/-- The staged row that row `j` of the result is taken from. -/
def staged (j : Fin 2048) : Fin 2560 := ⟨640 * (j.val / 512) + j.val % 512, by omega⟩

theorem v66_at : V27 m (outs1 m fun _ => g) c main_v66 = g :=
  (V27_of m (outs1 m fun _ => g) c main_v66 (by decide)).trans <| (V26_of m (outs1 m fun _ => g) c main_v66 (by decide)).trans <| (congrFun (VR_eq m c g) _).symm.trans (VR_out m c g)

theorem v88_at (q : Fin 2560) (y : Fin 1024) (b : Fin 40) (r : Fin 64) (hq : q.val = 64 * b.val + r.val) :
    (V28 m (outs1 m fun _ => g) c main_v88 : FVec F S2560x1024 .bf16) (ix2 q y) = g (ix3 b r y) := by
  rw [show V28 m (outs1 m fun _ => g) c main_v88 = _ from at_v88 (V27 m (outs1 m fun _ => g) c), v66_at c g]
  refine shapeCast_apply _ _ _ (ix3 b r y) ?_
  rw [Shape.rowMajor_val_three, Shape.rowMajor_val_two]
  show (b.val * 64 + r.val) * 1024 + y.val = q.val * 1024 + y.val
  omega

/-- Row `j` of the result, in blocks of 64 rows: block `10 s + w / 64`, row `w % 64`, for `j = 512 s + w`. -/
theorem result_at (hb : Balanced m) (s : Fin 4) (w : Fin 512) (y : Fin 1024) (b : Fin 40) (r : Fin 64) (hbl : b.val = 10 * s.val + w.val / 64) (hr : r.val = w.val % 64) :
    (VF m c g main_v93 : FVec F S2048x1024 .f32) (ix2 (⟨512 * s.val + w.val, by omega⟩ : Fin 2048) y) = FloatOps.extf .f32 bitsLt_bf16_f32 (g (ix3 b r y)) := by
  rw [show VF m c g main_v93 = V30 m (outs1 m fun _ => g) c main_v93 from congrFun (VF_eq m c g) _, show V30 m (outs1 m fun _ => g) c main_v93 = _ from at_v93 (V29 m (outs1 m fun _ => g) c),
    show V29 m (outs1 m fun _ => g) c main_v92 = _ from at_v92 (V28 m (outs1 m fun _ => g) c)]
  refine congrArg (FloatOps.extf .f32 bitsLt_bf16_f32) ?_
  rw [takeStaged_at _ _ staged (v91_at c g hb)]
  refine v88_at c g _ y b r ?_
  show 640 * ((512 * s.val + w.val) / 512) + (512 * s.val + w.val) % 512 = _
  omega

/-- Row `512 s + w` of the result on device `c` is row `512 c + w` of the sorted rows of device `s`. -/
theorem value_at (hb : Balanced m) (hg : Good (xsOf m) c g) (s : Fin 4) (w : Fin 512) (y : Fin 1024) :
    (VF m c g main_v93 : FVec F S2048x1024 .f32) (ix2 (⟨512 * s.val + w.val, by omega⟩ : Fin 2048) y)
      = FloatOps.extf .f32 bitsLt_bf16_f32 (rowsOf m s (ix2 (srt (keyOf (destOf m s)) ⟨512 * c.val + w.val, by have h : c.val < 4 := c.isLt; have := w.isLt; omega⟩) y)) := by
  have hc : c.val < 4 := c.isLt
  rw [result_at c g hb s w y ⟨10 * s.val + w.val / 64, by omega⟩ ⟨w.val % 64, by omega⟩ rfl rfl]
  refine congrArg (FloatOps.extf .f32 bitsLt_bf16_f32) ?_
  rw [hg _ (Or.inl (by show (10 * s.val + w.val / 64) % 10 < 8; omega))]
  have es : (⟨(10 * s.val + w.val / 64) / 10 % 4, Nat.mod_lt _ (by decide)⟩ : Fin 4) = s := Fin.ext (by show (10 * s.val + w.val / 64) / 10 % 4 = s.val; omega)
  refine Eq.trans (b := xsOf m s (ix3 (⟨10 * c.val + w.val / 64, by omega⟩ : Fin 40) (⟨w.val % 64, by omega⟩ : Fin 64) y)) ?_ ?_
  · show xsOf m (⟨(10 * s.val + w.val / 64) / 10 % 4, Nat.mod_lt _ (by decide)⟩ : Fin 4) _ = _
    rw [es]
    refine congrArg (xsOf m s) (funext fun a => ?_)
    match a with
    | ⟨0, _⟩ => exact Fin.ext (by show 10 * c.val + (10 * s.val + w.val / 64) % 10 = 10 * c.val + w.val / 64; omega)
    | ⟨1, _⟩ => rfl
    | ⟨2, _⟩ => rfl
  refine (send_at s hb _ _ y ⟨640 * c.val + w.val, by omega⟩ ?_).trans ?_
  · show 640 * c.val + w.val = 64 * (10 * c.val + w.val / 64) + w.val % 64
    omega
  · refine congrArg (fun p => rowsOf m s (ix2 (srt (keyOf (destOf m s)) p) y)) (Fin.ext ?_)
    show min (512 * ((640 * c.val + w.val) / 640) + (640 * c.val + w.val) % 640) 2047 = 512 * c.val + w.val
    omega

end

end Cert.KernelIdeal.Pf

end
-- ==== Proof.Value.Whole.lean ====
/-
The result of the reference, and the kernel's result as its blocks.
-/
module

public import proofs.«01_k».proof.Proof.Value.Rows
public import proofs.«01_k».proof.Proof.Gen.ReferenceIdeal.Run
public import Idealize.ShloMosaic.Lib.Layout

@[expose] public section

noncomputable section

namespace Cert.ReferenceIdeal.Pf

open Cert.ReferenceIdeal Cert.ReferenceIdeal.Gen
open Idealize.ShloMosaic hiding ix1 ix2 ix3
open Idealize.ShloMosaic.ValueIdx Idealize.ShloMosaic.Routing
open Cert.Order
open Cert.KernelIdeal.Pf (wrap_words col_at fin_words)

variable {F : FTy → Type} [FloatOps F]

/-- The rows `X` in the order of their destinations `D`, as the reference computes them. -/
def sortedRows (X : FVec F S8192x1024 .bf16) (D : IVec S8192 32) : FVec F S8192x1024 .f32 :=
  extf .f32 (Host.gather gather_S8192x1024_S8192x1_S8192x1024_1_0_n_n_0_1_11024 X (broadcastInDim S8192x1 ![0] bcast_S8192_S8192x1_0 (select (cmpi .slt ((Host.sort2 S8192 0 comparator_i32_i32_d0 D (iotaInDim S8192 32 0)).2) (broadcastInDim S8192 ![] bcast_S_S8192 (constantI S_ 32 0#32))) (addi ((Host.sort2 S8192 0 comparator_i32_i32_d0 D (iotaInDim S8192 32 0)).2) (broadcastInDim S8192 ![] bcast_S_S8192 (constantI S_ 32 8192#32))) ((Host.sort2 S8192 0 comparator_i32_i32_d0 D (iotaInDim S8192 32 0)).2)))) bitsLt_bf16_f32

theorem order_at (D : IVec S8192 32) (t : Fin 8192) :
    (Host.sort2 S8192 0 comparator_i32_i32_d0 D (iotaInDim S8192 32 0)).2 (ix1 t) = BitVec.ofNat 32 (srt (keyOf D) t).val := argsort_at D t

theorem sortedRows_at (X : FVec F S8192x1024 .bf16) (D : IVec S8192 32) (t : Fin 8192) (y : Fin 1024) :
    sortedRows X D (ix2 t y) = FloatOps.extf .f32 bitsLt_bf16_f32 (X (ix2 (srt (keyOf D) t) y)) := by
  have hs := fin_words _ _ (order_at D) (by decide)
  unfold sortedRows
  rw [wrap_words _ (broadcastInDim S8192 ![] bcast_S_S8192 (constantI S_ 32 0#32)) _ rfl fun q => (hs q).trans (by decide)]
  refine congrArg (FloatOps.extf .f32 bitsLt_bf16_f32) ?_
  exact gather_row _ rfl rfl rfl rfl rfl X _ t y _ ((col_at _ _ _).trans (order_at D t)) (by decide)

end Cert.ReferenceIdeal.Pf

namespace Cert.KernelIdeal.Pf

open Cert.KernelIdeal Cert.KernelIdeal.Gen
open Idealize.ShloMosaic hiding ix1 ix2 ix3
open Idealize.ShloMosaic.ValueIdx Idealize.ShloMosaic.Routing
open Idealize.ShloMosaic.TcCoe
open Cert.Order
open Cert.ReferenceIdeal.Pf (sortedRows sortedRows_at)

variable {F : FTy → Type} [FloatOps F]
variable {m : (ℓ : Loc nD τ sig) → Buf (Elt F) ℓ}

theorem block_rows {α : Type} (c : Fin 4) (v : (⟨2, ![8192, 1024]⟩ : Shape).Idx → α) (i : Fin 2048) (y : Fin 1024) :
    Layout.block ⟨2, ![2048, 1024]⟩ ⟨2, ![8192, 1024]⟩ 0 4 c v (by decide) (ix2 i y) = v (ix2 (at4 c i) y) := by
  refine congrArg v (funext fun a => Fin.ext ?_)
  match a with
  | ⟨0, _⟩ =>
    show c.val * 2048 + i.val = 2048 * c.val + i.val
    omega
  | ⟨1, _⟩ => rfl

theorem block_words {α : Type} (c : Fin 4) (v : (⟨1, ![8192]⟩ : Shape).Idx → α) (i : Fin 2048) :
    Layout.block ⟨1, ![2048]⟩ ⟨1, ![8192]⟩ 0 4 c v (by decide) (ix1 i) = v (ix1 (at4 c i)) := by
  refine congrArg v (funext fun a => Fin.ext ?_)
  match a with
  | ⟨0, _⟩ =>
    show c.val * 2048 + i.val = 2048 * c.val + i.val
    omega

theorem even_of_balanced (d : IVec S2048 32) (h : counts d = fun _ => 512#32) : Cert.Order.Even (keyOf d) := by
  unfold counts at h
  exact even_of_counts d bcast_S2048_S2048x1_0 bcast_S2048x1_S2048x4_0_1 bcast_S4_S1x4_1 bcast_S1x4_S2048x4_0_1 natLt_1_32 h_S_ reducesTo_S2048x4_S4_d0 h

/-- The kernel's result on each device is that device's block of the reference's. -/
theorem whole_value (hb : Balanced m) (X : FVec F ⟨2, ![8192, 1024]⟩ .bf16) (D : IVec ⟨1, ![8192]⟩ 32)
    (hX : ∀ c : Fin 4, rowsOf m c = Layout.block ⟨2, ![2048, 1024]⟩ ⟨2, ![8192, 1024]⟩ 0 4 c X) (hD : ∀ c : Fin 4, destOf m c = Layout.block ⟨1, ![2048]⟩ ⟨1, ![8192]⟩ 0 4 c D)
    (c : Fin 4) (g : Blocks F) (hg : Good (xsOf m) c g) :
    (VF m c g main_v93 : FVec F S2048x1024 .f32) = Layout.block ⟨2, ![2048, 1024]⟩ ⟨2, ![8192, 1024]⟩ 0 4 c (sortedRows X D) := by
  have hk : ∀ s : Fin 4, keyOf (destOf m s) = fun i => keyOf D (at4 s i) := fun s => funext fun i => congrArg BitVec.toInt ((congrFun (hD s) (ix1 i)).trans (block_words s D i))
  have he : ∀ s : Fin 4, Cert.Order.Even fun i => keyOf D (at4 s i) := fun s => by
    rw [← hk s]
    exact even_of_balanced (destOf m s) (hb s)
  funext x
  obtain ⟨j, y, rfl⟩ : ∃ j y, x = ix2 j y := ⟨x 0, x 1, ValueIdx.eq_ix2 x⟩
  obtain ⟨s, w, hj⟩ : ∃ (s : Fin 4) (w : Fin 512), j = ⟨512 * s.val + w.val, by omega⟩ := ⟨⟨j.val / 512, by omega⟩, ⟨j.val % 512, by omega⟩, Fin.ext (by show j.val = 512 * (j.val / 512) + j.val % 512; omega)⟩
  subst hj
  rw [value_at c g hb hg s w y, block_rows, sortedRows_at, hX s, block_rows, hk s, srt_whole (keyOf D) he c s w]

end Cert.KernelIdeal.Pf

end
-- ==== Proof.lean ====
/-
The claims, from the runs of the three programs.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_balanced_Kernel
public import proofs.«01_k».proof.Proof.Gen.Pre_balanced_ReferenceIdeal
public import proofs.«01_k».proof.Proof.Gen.ReferenceIdeal.Run
public import proofs.«01_k».proof.Proof.Kernel.Frame
public import proofs.«01_k».proof.Proof.KernelIdeal.Frame
public import proofs.«01_k».proof.Proof.Value.Whole
public import Idealize.ShloMosaic.Adequacy
public import Idealize.ShloMosaic.Init
public import Idealize.ShloMosaic.Lib.Quiescent

@[expose] public section

noncomputable section

namespace Cert.Proof

open Idealize.ShloMosaic Idealize.SL.Sem Cert.Kernel

theorem kernel_frame : quiescent_Kernel := fun m g h =>
  (θ_run Cert.Kernel.defs _ _).mono (fun r hr => ⟨fun c => (hr.1 c).2, hr.2⟩) (Cert.Kernel.Pf.run_frame m (Cert.Kernel.Pf.balanced_of m h) g)

theorem kernelIdeal_frame : quiescent_KernelIdeal := fun m g h =>
  (θ_run Cert.KernelIdeal.defs _ _).mono (fun r hr => ⟨fun c => (hr.1 c).2, hr.2⟩) (Cert.KernelIdeal.Pf.run_frame m (Cert.KernelIdeal.Pf.balanced_of m h) g)

theorem reference_frame (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono (fun r hr => ⟨fun c => (hr c).2, sem_eq_zero_of_no_sems (by decide) _⟩) (Cert.ReferenceIdeal.Value.run m g)

theorem values : algebraic_KernelIdeal_ReferenceIdeal := fun m g m' g' h hblk => by
  have hb := Cert.KernelIdeal.Pf.balanced_of m h
  refine ⟨Cert.ReferenceIdeal.Pf.sortedRows (F := Ideal) (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun r hr c => ?_) (Cert.KernelIdeal.Pf.run_frame m hb g)
    obtain ⟨⟨gb, hg, hv⟩, ha⟩ := hr.1 c
    exact ⟨hv.trans (Cert.KernelIdeal.Pf.whole_value hb _ _ (fun c => (hblk c).1) (fun c => (hblk c).2) c gb hg), ha⟩
  · exact (θ_run Cert.ReferenceIdeal.defs _ _).mono (fun r hr => hr 0) (Cert.ReferenceIdeal.Value.run m' g')

theorem claim : Cert.Claim := ⟨Cert.Kernel.Gen.facts, Cert.KernelIdeal.Gen.facts, Cert.ReferenceIdeal.Gen.facts, Cert.Pre_balanced_Kernel.Gen.facts, Cert.Pre_balanced_ReferenceIdeal.Gen.facts,
  kernel_frame, kernelIdeal_frame, fun m g _ => reference_frame m g, fun m g _ => reference_frame m g, trivial, values⟩

end Cert.Proof

end
